-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_tok" .f32 0x3A2AAAAB#32 ((1 / 1536 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_v5_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x384x1024 : Shape := ⟨3, ![4, 384, 1024]⟩
abbrev S1024 : Shape := ⟨1, ![1024]⟩
abbrev S1024x2816 : Shape := ⟨2, ![1024, 2816]⟩
abbrev S512x2816 : Shape := ⟨2, ![512, 2816]⟩
abbrev S8x2816 : Shape := ⟨2, ![8, 2816]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4x384x1024 .bf16) (main_arg1 : FVec F S1024 .f32) (main_arg2 : FVec F S1024 .f32) (main_arg3 : FVec F S1024 .f32) (main_arg4 : FVec F S1024 .f32) (main_arg5 : FVec F S1024x2816 .bf16) (main_arg6 : IVec S512x2816 8) (main_arg7 : FVec F S8x2816 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .bf16 := Host.absf main_arg5
  let main_cst_2 : FVec F S_ .bf16 := constant S_ .bf16 0x7F80#16
  let main_v9 : FVec F S1024x2816 .bf16 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v3 main_v7
  let main_v13 : IVec S_ 1 := andi main_v12 main_v11
  main_v13
-- ==== Kernel.lean ====
abbrev S4x384x1024 : Shape := ⟨3, ![4, 384, 1024]⟩
abbrev S1024 : Shape := ⟨1, ![1024]⟩
abbrev S1024x2816 : Shape := ⟨2, ![1024, 2816]⟩
abbrev S512x2816 : Shape := ⟨2, ![512, 2816]⟩
abbrev S8x2816 : Shape := ⟨2, ![8, 2816]⟩
abbrev S1536x1024 : Shape := ⟨2, ![1536, 1024]⟩
abbrev S1x1024 : Shape := ⟨2, ![1, 1024]⟩
abbrev S1x2816 : Shape := ⟨2, ![1, 2816]⟩
abbrev S4x384 : Shape := ⟨2, ![4, 384]⟩
abbrev S1536x128 : Shape := ⟨2, ![1536, 128]⟩
abbrev S2x1536x512 : Shape := ⟨3, ![2, 1536, 512]⟩
abbrev S1536x2816 : Shape := ⟨2, ![1536, 2816]⟩
abbrev S24x2816 : Shape := ⟨2, ![24, 2816]⟩
abbrev S5 : Shape := ⟨1, ![5]⟩
abbrev S6 : Shape := ⟨1, ![6]⟩
abbrev S_ : Shape := ⟨0, ![]⟩
abbrev S8 : Shape := ⟨1, ![8]⟩
abbrev S1 : Shape := ⟨1, ![1]⟩
abbrev S256x1024 : Shape := ⟨2, ![256, 1024]⟩
abbrev S1024x512 : Shape := ⟨2, ![1024, 512]⟩
abbrev S1024x256 : Shape := ⟨2, ![1024, 256]⟩
abbrev S128x128 : Shape := ⟨2, ![128, 128]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩
abbrev S256x512 : Shape := ⟨2, ![256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S256x256 : Shape := ⟨2, ![256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S128x512 : Shape := ⟨2, ![128, 512]⟩
abbrev S512x128 : Shape := ⟨2, ![512, 128]⟩
abbrev S512x512 : Shape := ⟨2, ![512, 512]⟩
abbrev S512x1024 : Shape := ⟨2, ![512, 1024]⟩
abbrev S1x512x512 : Shape := ⟨3, ![1, 512, 512]⟩
abbrev S64x8x512 : Shape := ⟨3, ![64, 8, 512]⟩
abbrev S128x256 : Shape := ⟨2, ![128, 256]⟩
abbrev S512x256 : Shape := ⟨2, ![512, 256]⟩
abbrev S1x512x256 : Shape := ⟨3, ![1, 512, 256]⟩
abbrev S64x8x256 : Shape := ⟨3, ![64, 8, 256]⟩

abbrev nBuf : Space → Nat
  | .hbm => 19
  | .vmem => 22
  | .smem => 0
  | _ => 0

abbrev bufTy : (tb : Table) → Fin (tcTables nBuf tb) → BufTy
  | .hbm, ⟨0, _⟩ => ⟨S4x384x1024, .bf16⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .bf16⟩
  | .hbm, ⟨6, _⟩ => ⟨S512x2816, .i8⟩
  | .hbm, ⟨7, _⟩ => ⟨S8x2816, .f32⟩
  | .hbm, ⟨8, _⟩ => ⟨S1536x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x2816, .f32⟩
  | .hbm, ⟨14, _⟩ => ⟨S1x1024, .f32⟩
  | .hbm, ⟨15, _⟩ => ⟨S1x1024, .f32⟩
  | .hbm, ⟨16, _⟩ => ⟨S1536x1024, .f32⟩
  | .hbm, ⟨17, _⟩ => ⟨S1536x1024, .i8⟩
  | .hbm, ⟨18, _⟩ => ⟨S4x384, .f32⟩
  | .local _ .vmem, ⟨0, _⟩ => ⟨S1536x1024, .bf16⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S512x2816, .i8⟩
  | .local _ .vmem, ⟨7, _⟩ => ⟨S8x2816, .f32⟩
  | .local _ .vmem, ⟨8, _⟩ => ⟨S1536x1024, .f32⟩
  | .local _ .vmem, ⟨9, _⟩ => ⟨S1536x1024, .bf16⟩
  | .local _ .vmem, ⟨10, _⟩ => ⟨S1536x1024, .bf16⟩
  | .local _ .vmem, ⟨11, _⟩ => ⟨S1536x1024, .i8⟩
  | .local _ .vmem, ⟨12, _⟩ => ⟨S4x384, .f32⟩
  | .local _ .vmem, ⟨13, _⟩ => ⟨S1536x128, .f32⟩
  | .local _ .vmem, ⟨14, _⟩ => ⟨S1024x2816, .bf16⟩
  | .local _ .vmem, ⟨15, _⟩ => ⟨S2x1536x512, .f32⟩
  | .local _ .vmem, ⟨16, _⟩ => ⟨S1536x2816, .bf16⟩
  | .local _ .vmem, ⟨17, _⟩ => ⟨S1536x1024, .f32⟩
  | .local _ .vmem, ⟨18, _⟩ => ⟨S24x2816, .f32⟩
  | .local _ .vmem, ⟨19, _⟩ => ⟨S1x2816, .f32⟩
  | .local _ .vmem, ⟨20, _⟩ => ⟨S1x1024, .f32⟩
  | .local _ .vmem, ⟨21, _⟩ => ⟨S1x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_scratch21 : Ref sig .tc := ⟨.vmem, 21, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "inv_tok" => some ((1 / 1536 : ℝ) : EReal)
  | _ => none
-- ==== ReferenceIdeal.lean ====
abbrev S4x384x1024 : Shape := ⟨3, ![4, 384, 1024]⟩
abbrev S1024 : Shape := ⟨1, ![1024]⟩
abbrev S1024x2816 : Shape := ⟨2, ![1024, 2816]⟩
abbrev S512x2816 : Shape := ⟨2, ![512, 2816]⟩
abbrev S8x2816 : Shape := ⟨2, ![8, 2816]⟩
abbrev S1536x1024 : Shape := ⟨2, ![1536, 1024]⟩
abbrev S1x1024 : Shape := ⟨2, ![1, 1024]⟩
abbrev S1x2816 : Shape := ⟨2, ![1, 2816]⟩
abbrev S4x384 : Shape := ⟨2, ![4, 384]⟩
abbrev S1536 : Shape := ⟨1, ![1536]⟩
abbrev S1536x1 : Shape := ⟨2, ![1536, 1]⟩
abbrev S1536x2816 : Shape := ⟨2, ![1536, 2816]⟩
abbrev S4x2816 : Shape := ⟨2, ![4, 2816]⟩
abbrev S4x1x2816 : Shape := ⟨3, ![4, 1, 2816]⟩
abbrev S4x128x2816 : Shape := ⟨3, ![4, 128, 2816]⟩
abbrev S1536x512 : Shape := ⟨2, ![1536, 512]⟩
abbrev S2816 : Shape := ⟨1, ![2816]⟩

abbrev nBuf : Space → Nat
  | .hbm => 19
  | .vmem => 14
  | .smem => 0
  | _ => 0

abbrev bufTy : (tb : Table) → Fin (tcTables nBuf tb) → BufTy
  | .hbm, ⟨0, _⟩ => ⟨S4x384x1024, .bf16⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2816, .bf16⟩
  | .hbm, ⟨6, _⟩ => ⟨S512x2816, .i8⟩
  | .hbm, ⟨7, _⟩ => ⟨S8x2816, .f32⟩
  | .hbm, ⟨8, _⟩ => ⟨S1536x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x2816, .f32⟩
  | .hbm, ⟨14, _⟩ => ⟨S1x1024, .f32⟩
  | .hbm, ⟨15, _⟩ => ⟨S1x1024, .f32⟩
  | .hbm, ⟨16, _⟩ => ⟨S1536x1024, .f32⟩
  | .hbm, ⟨17, _⟩ => ⟨S1536x1024, .i8⟩
  | .hbm, ⟨18, _⟩ => ⟨S4x384, .f32⟩
  | .local _ .vmem, ⟨0, _⟩ => ⟨S1536x1024, .bf16⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x2816, .bf16⟩
  | .local _ .vmem, ⟨6, _⟩ => ⟨S512x2816, .i8⟩
  | .local _ .vmem, ⟨7, _⟩ => ⟨S8x2816, .f32⟩
  | .local _ .vmem, ⟨8, _⟩ => ⟨S1x2816, .f32⟩
  | .local _ .vmem, ⟨9, _⟩ => ⟨S1x1024, .f32⟩
  | .local _ .vmem, ⟨10, _⟩ => ⟨S1x1024, .f32⟩
  | .local _ .vmem, ⟨11, _⟩ => ⟨S1536x1024, .f32⟩
  | .local _ .vmem, ⟨12, _⟩ => ⟨S1536x1024, .i8⟩
  | .local _ .vmem, ⟨13, _⟩ => ⟨S4x384, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x2816 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Machine.lean ====
/-
  Hand-written, untrusted. A straight-line kernel body run by one core, described by plain states instead of separation logic.

  A state `St` holds the contents of every buffer the core sees and the set of transfers in flight. `interp` says in
  separation logic that the core holds exactly that. The four rules (`good_load`, `good_store`, `good_start`, `good_wait`)
  move the state forward over one effect; everything after them is about functions on states.
  A transfer writes its destination in the state when it is STARTED; until it is waited for, the elements that it reads
  and writes are lent, and the load and store rules ask that no lent element is touched.
-/
module

public import Idealize.ShloMosaic.Lib.Pipeline.Routed
public import Idealize.ShloMosaic.Lib.Transfers
public import Idealize.ShloMosaic.Lib.Tactic

@[expose] public section

noncomputable section

namespace Cert.Machine

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)

variable {nD : Nat} {τ : Topo} {sig : RefSig} {Val : EltTy → Type} {Λ : Idealize.SL.Sem.Labels}
variable (c : Dev nD)

/-- The location of the core's buffer `b`. -/
abbrev L (τ : Topo) (c : Dev nD) (b : Ref sig .tc) : Loc nD τ sig := (c.tc : Thread nD τ).loc b

/-- One transfer of the program: the semaphore that it pays, the elements that it reads and writes, and what it pays. -/
structure Copy (τ : Topo) (sig : RefSig) (c : Dev nD) where
  sem : DmaSem sig
  src : Ref sig .tc
  dst : Ref sig .tc
  sset : Finset (Idx (L τ c src))
  dset : Finset (Idx (L τ c dst))
  amt : ℕ

/-- The elements of buffer `b` lent to the transfer `x` while it is in flight. -/
def Copy.lent (x : Copy τ sig c) (b : Ref sig .tc) : Finset (Idx (L τ c b)) :=
  if h : b = x.src then h ▸ x.sset else if h : b = x.dst then h ▸ x.dset else ∅

variable {c} in
/-- What a transfer borrows of its source. -/
theorem Copy.lent_src (x : Copy τ sig c) : x.lent c x.src = x.sset := by
  unfold Copy.lent; rw [dif_pos rfl]
variable {c} in
/-- What a transfer borrows of its destination. -/
theorem Copy.lent_dst (x : Copy τ sig c) (h : x.dst ≠ x.src) : x.lent c x.dst = x.dset := by
  unfold Copy.lent; rw [dif_neg h, dif_pos rfl]
variable {c} in
/-- A transfer borrows nothing of another buffer. -/
theorem Copy.lent_none (x : Copy τ sig c) (b : Ref sig .tc) (h : b ≠ x.src) (h' : b ≠ x.dst) : x.lent c b = ∅ := by
  unfold Copy.lent; rw [dif_neg h, dif_neg h']

variable {K : Type} [Fintype K] [DecidableEq K]

/-- The contents of every buffer, and the transfers in flight. -/
structure St (nD : Nat) (τ : Topo) (sig : RefSig) (Val : EltTy → Type) (c : Dev nD) (K : Type) where
  mem : (b : Ref sig .tc) → Buf Val (L τ c b)
  fly : Finset K

/-- The transfers of one program, no two of which share an element. -/
structure Plan (nD : Nat) (τ : Topo) (sig : RefSig) (c : Dev nD) (K : Type) where
  cp : K → Copy τ sig c
  ne : ∀ k, (cp k).dst ≠ (cp k).src
  pos : ∀ k, 0 < (cp k).amt
  disj : ∀ k k', k ≠ k' → ∀ b, Disjoint ((cp k).lent c b) ((cp k').lent c b)

variable {c}

/-- The elements of `b` lent to some transfer in flight. -/
def Plan.busy (pl : Plan nD τ sig c K) (fly : Finset K) (b : Ref sig .tc) : Finset (Idx (L τ c b)) :=
  fly.biUnion fun k => (pl.cp k).lent c b

local notation "𝕄" => MT nD τ sig Unit Val ℕ (UC sig nD τ) ℕ

/-- The counters' place in the proof's algebra. -/
abbrev EC : UEmb Counters 𝕄 := countersEmb (U := UC sig nD τ)

/-- What the core holds of transfer `k`: its flight while it is in flight, else its semaphore at zero. -/
def cell (pl : Plan nD τ sig c K) (σ : St nD τ sig Val c K) (k : K) : sProp 𝕄 :=
  if k ∈ σ.fly then
    Transfers.Flight EC (c.tc : Thread nD τ) (.dma (pl.cp k).sem) () (pl.cp k).amt
      iprop((L τ c (pl.cp k).dst ↦[(pl.cp k).dset]{fullShare} σ.mem (pl.cp k).dst) ∗ (L τ c (pl.cp k).src ↦[(pl.cp k).sset]{fullShare} σ.mem (pl.cp k).src))
  else semVal ((c.tc : Thread nD τ), .dma (pl.cp k).sem) 0

/-- The core holds the state `σ`: every buffer but for its lent elements, every transfer, and the record of its waits. -/
def interp (pl : Plan nD τ sig c K) (σ : St nD τ sig Val c K) : sProp 𝕄 :=
  iprop((bigSep Finset.univ fun b => (L τ c b ↦[Finset.univ \ pl.busy σ.fly b]{fullShare} σ.mem b))
    ∗ (bigSep Finset.univ fun k => cell pl σ k) ∗ ∃ W, owes (c.tc : Thread nD τ) 0 W)

/-! ## Bookkeeping -/

section Lemmas

variable {pl : Plan nD τ sig c K}

/-- A transfer that is not in flight lends nothing that is lent. -/
theorem Plan.disjoint_busy (pl : Plan nD τ sig c K) {fly : Finset K} {k : K} (hk : k ∉ fly) (b : Ref sig .tc) :
    Disjoint ((pl.cp k).lent c b) (pl.busy fly b) := by
  unfold Plan.busy
  rw [Finset.disjoint_biUnion_right]
  intro k' hk'
  exact pl.disj k k' (fun h => hk (h ▸ hk')) b

/-- What is lent once one more transfer is in flight. -/
theorem Plan.busy_insert (pl : Plan nD τ sig c K) (fly : Finset K) (k : K) (b : Ref sig .tc) :
    pl.busy (insert k fly) b = (pl.cp k).lent c b ∪ pl.busy fly b := by
  unfold Plan.busy; rw [Finset.biUnion_insert]

/-- What is held of a transfer depends on the contents of the lent elements only. -/
theorem cell_congr {σ σ' : St nD τ sig Val c K} {k : K} (hf : k ∈ σ.fly ↔ k ∈ σ'.fly)
    (h : k ∈ σ.fly → ∀ b, ∀ i ∈ (pl.cp k).lent c b, σ.mem b i = σ'.mem b i) : cell pl σ k = cell pl σ' k := by
  unfold cell
  by_cases hk : k ∈ σ.fly
  · rw [if_pos hk, if_pos (hf.mp hk)]
    congr 2
    · exact pointsTo_congr fun i hi => h hk _ i (by rw [Copy.lent_dst _ (pl.ne k)]; exact hi)
    · exact pointsTo_congr fun i hi => h hk _ i (by rw [Copy.lent_src]; exact hi)
  · rw [if_neg hk, if_neg fun h' => hk (hf.mpr h')]

/-- All that the core holds but for buffer `b`. -/
def others (pl : Plan nD τ sig c K) (σ : St nD τ sig Val c K) (b : Ref sig .tc) : sProp 𝕄 :=
  iprop((bigSep (Finset.univ.erase b) fun b => (L τ c b ↦[Finset.univ \ pl.busy σ.fly b]{fullShare} σ.mem b))
    ∗ (bigSep Finset.univ fun k => cell pl σ k) ∗ ∃ W, owes (c.tc : Thread nD τ) 0 W)

/-- The holdings of a state, one buffer taken out. -/
theorem interp_take (σ : St nD τ sig Val c K) (b : Ref sig .tc) :
    interp pl σ ⊣⊢ iprop((L τ c b ↦[Finset.univ \ pl.busy σ.fly b]{fullShare} σ.mem b) ∗ others pl σ b) := by
  unfold interp others
  rw [bigSep_erase (Finset.mem_univ b)]
  exact sep_assoc

/-- The state with buffer `b` at contents `f`. -/
def St.put (σ : St nD τ sig Val c K) (b : Ref sig .tc) (f : Buf Val (L τ c b)) : St nD τ sig Val c K :=
  ⟨Function.update σ.mem b f, σ.fly⟩

/-- A buffer that is replaced has the new contents. -/
theorem St.put_self (σ : St nD τ sig Val c K) (b : Ref sig .tc) (f : Buf Val (L τ c b)) : (σ.put b f).mem b = f := by
  unfold St.put; exact Function.update_self ..
/-- A buffer that is not replaced has its contents. -/
theorem St.put_ne (σ : St nD τ sig Val c K) (b : Ref sig .tc) (f : Buf Val (L τ c b)) {b' : Ref sig .tc} (h : b' ≠ b) :
    (σ.put b f).mem b' = σ.mem b' := by
  unfold St.put; exact Function.update_of_ne h ..

/-- The other holdings stay when a buffer's free elements change. -/
theorem others_put (σ : St nD τ sig Val c K) (b : Ref sig .tc) (f : Buf Val (L τ c b))
    (h : ∀ i ∈ pl.busy σ.fly b, f i = σ.mem b i) : others pl (σ.put b f) b = others pl σ b := by
  unfold others
  congr 1
  · refine bigSep_congr fun b' hb' => ?_
    rw [St.put_ne _ _ _ (Finset.ne_of_mem_erase hb')]; rfl
  · congr 1
    refine bigSep_congr fun k _ => cell_congr Iff.rfl fun hk b' i hi => ?_
    by_cases hb : b' = b
    · subst hb
      rw [St.put_self]
      exact h i (Finset.mem_biUnion.mpr ⟨k, hk, hi⟩)
    · rw [St.put_ne _ _ _ hb]

/-! ## The rules -/

variable {defs : Defs nD τ sig Val Λ} {𝒱 : Variants} {bd : Option 𝒱.V} {α : Type}

/-- From the state `σ` the program `p` runs to the post `Q`. -/
def good (defs : Defs nD τ sig Val Λ) (𝒱 : Variants) (bd : Option 𝒱.V) (pl : Plan nD τ sig c K) (Q : α → sProp 𝕄)
    (σ : St nD τ sig Val c K) (p : Prog (TpuEff nD τ sig Val Λ .tc) α) : Prop :=
  interp pl σ ⊢ wp frame (wpE defs 𝒱 (c.tc : Thread nD τ) bd) Set.univ p Q

/-- A load of elements none of which is lent. -/
theorem good_load {Q : α → sProp 𝕄} {σ : St nD τ sig Val c K} {cs : CoreSpace} {s : Shape} {e : EltTy} {m : Memref sig .tc cs s e} {r : LoadRect s}
    {hl : m.view.LoadsAt r} {k : (r.shape.Idx → Val e) → Prog (TpuEff nD τ sig Val Λ .tc) α}
    (hd : Disjoint (m.view.setOn r.set) (pl.busy σ.fly m.view.ref))
    (h : good defs 𝒱 bd pl Q σ (k (m.view.readAt Val r (σ.mem m.view.ref)))) :
    good defs 𝒱 bd pl Q σ (.op (.load m r hl) k) := by
  unfold good at h ⊢
  refine (interp_take σ m.view.ref).1.trans ?_
  iintro ⟨Hb, Hr⟩
  iapply (wp_load 𝒱 (c.tc : Thread nD τ) bd Set.univ (Finset.subset_sdiff.mpr ⟨Finset.subset_univ _, hd⟩)) $$ Hb
  iintro Hb
  iapply h
  iapply (interp_take σ m.view.ref).2
  isplitl [Hb] <;> iassumption

/-- A store to elements none of which is lent. -/
theorem good_store {Q : α → sProp 𝕄} {σ : St nD τ sig Val c K} {cs : CoreSpace} {s : Shape} {e : EltTy} {m : Memref sig .tc cs s e} {r : Rect s}
    {w : r.shape.Idx → Val e} {Mk : Finset r.shape.Idx} {hx : (m.access r).Stores Mk} {hm : Mk = Finset.univ ∨ ∀ a, r.stride a = 1}
    {k : PUnit → Prog (TpuEff nD τ sig Val Λ .tc) α}
    (hd : Disjoint ((m.access r).setOn Mk) (pl.busy σ.fly m.view.ref))
    (h : good defs 𝒱 bd pl Q (σ.put m.view.ref ((m.access r).write Val (σ.mem m.view.ref) w Mk)) (k ⟨⟩)) :
    good defs 𝒱 bd pl Q σ (.op (.store m r w Mk hx hm) k) := by
  unfold good at h ⊢
  refine (interp_take σ m.view.ref).1.trans ?_
  iintro ⟨Hb, Hr⟩
  iapply (wp_store 𝒱 (c.tc : Thread nD τ) bd Set.univ (Finset.subset_sdiff.mpr ⟨Finset.subset_univ _, hd⟩)) $$ Hb
  iintro Hb
  iapply h
  iapply (interp_take _ m.view.ref).2
  rw [others_put _ _ _ (fun i hi => View.write_of_not_mem (v := m.access r) _ _ _ (Finset.disjoint_right.mp hd hi)), St.put_self]
  isplitl [Hb]
  · iexact Hb
  · iexact Hr

/-- The transfer of `src` into `dst` paying `sem`. -/
def Copy.of {sp sp' : Space} {s s' : Shape} {e e' : EltTy} (src : Memref sig .tc sp s' e') (dst : Memref sig .tc sp' s e) (sem : DmaSem sig) :
    Copy τ sig c :=
  ⟨sem, src.view.ref, dst.view.ref, src.view.set, dst.view.set, dst.view.dmaCredit⟩

/-- The state with transfer `k` started. -/
def St.start (σ : St nD τ sig Val c K) (k : K) (b : Ref sig .tc) (f : Buf Val (L τ c b)) : St nD τ sig Val c K :=
  ⟨(σ.put b f).mem, insert k σ.fly⟩

/-- The state with transfer `k` waited for. -/
def St.done (σ : St nD τ sig Val c K) (k : K) : St nD τ sig Val c K := ⟨σ.mem, σ.fly.erase k⟩

/-- What is free once more is lent. -/
theorem sdiff_lend {X : Type} [Fintype X] [DecidableEq X] (A B : Finset X) : Finset.univ \ (A ∪ B) = (Finset.univ \ B) \ A := by
  ext i; simp only [Finset.mem_sdiff, Finset.mem_univ, Finset.mem_union]; tauto

omit [Fintype K] [DecidableEq K] in
/-- One conjunct taken out. -/
theorem bigSep_take {I : Type} [DecidableEq I] {s : Finset I} {i : I} (hi : i ∈ s) {Φ : I → sProp 𝕄} :
    bigSep s Φ = iprop(Φ i ∗ bigSep (s.erase i) Φ) := bigSep_erase hi

/-- All that the core holds but for the buffers `b` and `b'`, and but for transfer `k`. -/
def others₂ (pl : Plan nD τ sig c K) (σ : St nD τ sig Val c K) (b b' : Ref sig .tc) (k : K) : sProp 𝕄 :=
  iprop((bigSep ((Finset.univ.erase b).erase b') fun b => (L τ c b ↦[Finset.univ \ pl.busy σ.fly b]{fullShare} σ.mem b))
    ∗ (bigSep (Finset.univ.erase k) fun k => cell pl σ k) ∗ ∃ W, owes (c.tc : Thread nD τ) 0 W)

/-- The holdings of a state, two buffers and a transfer's semaphore taken out. -/
theorem interp_take₂ (σ : St nD τ sig Val c K) (b b' : Ref sig .tc) (hb : b' ≠ b) (k : K) :
    interp pl σ ⊣⊢ iprop((L τ c b ↦[Finset.univ \ pl.busy σ.fly b]{fullShare} σ.mem b) ∗ (L τ c b' ↦[Finset.univ \ pl.busy σ.fly b']{fullShare} σ.mem b')
      ∗ cell pl σ k ∗ others₂ pl σ b b' k) := by
  unfold interp others₂
  rw [bigSep_take (Finset.mem_univ b), bigSep_take (Finset.mem_erase.mpr ⟨hb, Finset.mem_univ b'⟩), bigSep_take (Finset.mem_univ k)]
  constructor
  · iintro ⟨⟨H1, H2, H3⟩, ⟨H4, H5⟩, H6⟩
    isplitl [H1]; · iexact H1
    isplitl [H2]; · iexact H2
    isplitl [H4]; · iexact H4
    isplitl [H3]; · iexact H3
    isplitl [H5] <;> iassumption
  · iintro ⟨H1, H2, H4, H3, H5, H6⟩
    isplitl [H1 H2 H3]
    · isplitl [H1]; · iexact H1
      isplitl [H2] <;> iassumption
    isplitl [H4 H5]
    · isplitl [H4] <;> iassumption
    iexact H6

/-- Two states that differ in transfer `k` only hold the same apart from it. -/
theorem others₂_congr {σ σ' : St nD τ sig Val c K} {k : K} (hf : ∀ k', k' ≠ k → (k' ∈ σ.fly ↔ k' ∈ σ'.fly))
    (hm : ∀ b, b ≠ (pl.cp k).dst → σ.mem b = σ'.mem b)
    (hd : ∀ i ∉ (pl.cp k).dset, σ.mem (pl.cp k).dst i = σ'.mem (pl.cp k).dst i) :
    others₂ pl σ (pl.cp k).dst (pl.cp k).src k = others₂ pl σ' (pl.cp k).dst (pl.cp k).src k := by
  unfold others₂
  congr 1
  · refine bigSep_congr fun b hb => ?_
    have h1 : b ≠ (pl.cp k).src := Finset.ne_of_mem_erase hb
    have h2 : b ≠ (pl.cp k).dst := Finset.ne_of_mem_erase (Finset.mem_of_mem_erase hb)
    have : pl.busy σ.fly b = pl.busy σ'.fly b := by
      unfold Plan.busy
      ext i
      simp only [Finset.mem_biUnion]
      refine exists_congr fun k' => ?_
      by_cases h : k' = k
      · subst h; rw [Copy.lent_none _ _ h1 h2]; simp
      · rw [hf k' h]
    rw [this, hm b h2]
  · congr 1
    refine bigSep_congr fun k' hk' => ?_
    have hne := Finset.ne_of_mem_erase hk'
    refine cell_congr (hf k' hne) fun _ b i hi => ?_
    by_cases hb : b = (pl.cp k).dst
    · subst hb
      refine hd i fun hi' => Finset.disjoint_left.mp (pl.disj k' k hne _) hi ?_
      rw [Copy.lent_dst _ (pl.ne k)]; exact hi'
    · rw [hm b hb]

/-- The start of a transfer not in flight: its destination is written in the state at once, and lent. -/
theorem good_start {Q : α → sProp 𝕄} {σ : St nD τ sig Val c K} (k : K) {sp sp' : Space} {s s' : Shape} {e e' : EltTy} {src : Memref sig .tc sp s' e'}
    {via : ReadAs Val s' e' s e} {dst : Memref sig .tc sp' s e} {sm : DmaSem sig} {hsrc : src.view.WordExact} {hdst : dst.view.WordExact}
    {hsem : DmaTarget.Typed (nD := nD) (τ := τ) (p := .tc) sp (.dma sm) (.here dst)}
    {K' : PUnit → Prog (TpuEff nD τ sig Val Λ .tc) α}
    (hcp : pl.cp k = Copy.of src dst sm) (hk : k ∉ σ.fly)
    (h : good defs 𝒱 bd pl Q (σ.start k dst.view.ref (dst.view.write Val (σ.mem dst.view.ref) (via.apply (src.view.read Val (σ.mem src.view.ref))) Finset.univ)) (K' ⟨⟩)) :
    good defs 𝒱 bd pl Q σ (.op (.enqueueDmaAs src (.here dst) via (.dma sm) hsrc hdst hsem) K') := by
  unfold good at h ⊢
  have hne : src.view.ref ≠ dst.view.ref := by have := pl.ne k; rw [hcp] at this; exact this.symm
  have hpos : 0 < dst.view.dmaCredit := by have := pl.pos k; rw [hcp] at this; exact this
  have hls : (pl.cp k).lent c src.view.ref = src.view.set := by rw [hcp]; exact Copy.lent_src (c := c) (Copy.of src dst sm)
  have hld : (pl.cp k).lent c dst.view.ref = dst.view.set := by
    rw [hcp]; exact Copy.lent_dst (c := c) (Copy.of src dst sm) hne.symm
  have hds := pl.disjoint_busy hk src.view.ref
  have hdd := pl.disjoint_busy hk dst.view.ref
  rw [hls] at hds; rw [hld] at hdd
  have ho := others₂_congr (pl := pl) (σ := σ) (k := k)
    (σ' := σ.start k dst.view.ref (dst.view.write Val (σ.mem dst.view.ref) (via.apply (src.view.read Val (σ.mem src.view.ref))) Finset.univ))
    (fun k' h => by simp [St.start, h])
    (fun b hb => by rw [hcp] at hb; exact (St.put_ne σ _ _ hb).symm)
    (by
      rw [hcp]; intro i hi
      refine Eq.trans ?_ (congrFun (St.put_self σ dst.view.ref _).symm i)
      exact (View.write_of_not_mem (v := dst.view) _ _ _ (by rw [View.setOn_univ]; exact hi)).symm)
  rw [hcp] at ho
  replace ho : others₂ pl σ dst.view.ref src.view.ref k = others₂ pl _ dst.view.ref src.view.ref k := ho
  have hc0 : cell pl σ k = semVal ((c.tc : Thread nD τ), .dma sm) 0 := by
    unfold cell; rw [if_neg hk, hcp]; rfl
  refine (interp_take₂ σ dst.view.ref src.view.ref hne k).1.trans ?_
  rw [hc0]
  iintro ⟨Hd, Hs, Hc, Ho⟩
  ihave Hd' := (pointsTo_split_subset (Finset.subset_sdiff.mpr ⟨Finset.subset_univ dst.view.set, hdd⟩)).1 $$ Hd
  icases Hd' with ⟨Hd, Hdr⟩
  ihave Hs' := (pointsTo_split_subset (Finset.subset_sdiff.mpr ⟨Finset.subset_univ src.view.set, hds⟩)).1 $$ Hs
  icases Hs' with ⟨Hs, Hsr⟩
  iapply (Transfers.wp_dmaLocal EC 𝒱 (c.tc : Thread nD τ) bd () (dst.view.dmaCredit) rfl hpos subset_rfl) $$ [Hs Hd Hc]
  · isplitl [Hs]; · iexact Hs
    isplitl [Hd] <;> iassumption
  iintro Hf
  iapply h
  iapply (interp_take₂ _ dst.view.ref src.view.ref hne k).2
  isplitl [Hdr]
  · rw [show pl.busy (σ.start k dst.view.ref (dst.view.write Val (σ.mem dst.view.ref) (via.apply (src.view.read Val (σ.mem src.view.ref))) Finset.univ)).fly dst.view.ref
        = dst.view.set ∪ pl.busy σ.fly dst.view.ref from by rw [← hld]; exact pl.busy_insert _ _ _]
    rw [show (σ.start k dst.view.ref (dst.view.write Val (σ.mem dst.view.ref) (via.apply (src.view.read Val (σ.mem src.view.ref))) Finset.univ)).mem dst.view.ref
        = dst.view.write Val (σ.mem dst.view.ref) (via.apply (src.view.read Val (σ.mem src.view.ref))) Finset.univ from St.put_self ..]
    rw [sdiff_lend, ← pointsTo_rest_write (c.tc : Thread nD τ) (v := dst.view)]
    iexact Hdr
  isplitl [Hsr]
  · rw [show pl.busy (σ.start k dst.view.ref (dst.view.write Val (σ.mem dst.view.ref) (via.apply (src.view.read Val (σ.mem src.view.ref))) Finset.univ)).fly src.view.ref
        = src.view.set ∪ pl.busy σ.fly src.view.ref from by rw [← hls]; exact pl.busy_insert _ _ _]
    rw [show (σ.start k dst.view.ref (dst.view.write Val (σ.mem dst.view.ref) (via.apply (src.view.read Val (σ.mem src.view.ref))) Finset.univ)).mem src.view.ref
        = σ.mem src.view.ref from St.put_ne _ _ _ hne]
    rw [sdiff_lend]
    iexact Hsr
  isplitl [Hf]
  · rw [show cell pl (σ.start k dst.view.ref (dst.view.write Val (σ.mem dst.view.ref) (via.apply (src.view.read Val (σ.mem src.view.ref))) Finset.univ)) k
        = Transfers.Flight EC (c.tc : Thread nD τ) (.dma sm) () dst.view.dmaCredit
          iprop((L τ c dst.view.ref ↦[dst.view.set]{fullShare} (dst.view.write Val (σ.mem dst.view.ref) (via.apply (src.view.read Val (σ.mem src.view.ref))) Finset.univ))
            ∗ (L τ c src.view.ref ↦[src.view.set]{fullShare} σ.mem src.view.ref)) from by
      unfold cell
      rw [if_pos (show k ∈ (σ.start k _ _).fly from Finset.mem_insert_self k σ.fly), hcp]
      show Transfers.Flight EC (c.tc : Thread nD τ) (.dma sm) () dst.view.dmaCredit
          iprop((L τ c dst.view.ref ↦[dst.view.set]{fullShare} ((σ.put dst.view.ref _).mem dst.view.ref))
            ∗ (L τ c src.view.ref ↦[src.view.set]{fullShare} ((σ.put dst.view.ref _).mem src.view.ref))) = _
      rw [St.put_self, St.put_ne _ _ _ hne]
      rfl]
    iexact Hf
  rw [← ho]
  iexact Ho

/-- The wait for a transfer in flight: what it was lent comes back. -/
theorem good_wait {Q : α → sProp 𝕄} {σ : St nD τ sig Val c K} (k : K) {sp sp' : Space} {s s' : Shape} {e e' : EltTy} {src : Memref sig .tc sp s' e'}
    {dst : Memref sig .tc sp' s e} {sm : DmaSem sig} {hsrc : src.view.WordExact} {hdst : dst.view.WordExact}
    {K' : PUnit → Prog (TpuEff nD τ sig Val Λ .tc) α}
    (hsem : (pl.cp k).sem = sm) (hamt : dst.view.dmaCredit = (pl.cp k).amt) (hk : k ∈ σ.fly)
    (h : good defs 𝒱 bd pl Q (σ.done k) (K' ⟨⟩)) :
    good defs 𝒱 bd pl Q σ (.op (.waitDma2 sm src dst hsrc hdst) K') := by
  subst hsem
  unfold good at h ⊢
  have hne := pl.ne k
  have hkk : k ∉ σ.fly.erase k := Finset.notMem_erase k _
  have hds := pl.disjoint_busy hkk (pl.cp k).src
  have hdd := pl.disjoint_busy hkk (pl.cp k).dst
  have hbs := pl.busy_insert (σ.fly.erase k) k (pl.cp k).src
  have hbd := pl.busy_insert (σ.fly.erase k) k (pl.cp k).dst
  rw [Finset.insert_erase hk] at hbs hbd
  rw [Copy.lent_src] at hds hbs; rw [Copy.lent_dst _ hne] at hdd hbd
  have ho := others₂_congr (pl := pl) (σ := σ) (k := k) (σ' := σ.done k) (fun k' h => by simp [St.done, h]) (fun b hb => rfl) (fun i hi => rfl)
  refine (interp_take₂ σ (pl.cp k).dst (pl.cp k).src hne.symm k).1.trans ?_
  rw [show cell pl σ k = Transfers.Flight EC (c.tc : Thread nD τ) (.dma (pl.cp k).sem) () (pl.cp k).amt
      iprop((L τ c (pl.cp k).dst ↦[(pl.cp k).dset]{fullShare} σ.mem (pl.cp k).dst) ∗ (L τ c (pl.cp k).src ↦[(pl.cp k).sset]{fullShare} σ.mem (pl.cp k).src)) from if_pos hk,
    hbs, hbd, sdiff_lend, sdiff_lend]
  unfold others₂
  iintro ⟨Hd, Hs, Hf, Hb, Hc, %W, HW⟩
  iapply (Transfers.wp_waitLocal EC 𝒱 (c.tc : Thread nD τ) bd () hamt) $$ [Hf HW]
  · isplitl [Hf] <;> iassumption
  iintro ⟨⟨Hd', Hs'⟩, Hv, HW⟩
  iapply h
  iapply (interp_take₂ _ (pl.cp k).dst (pl.cp k).src hne.symm k).2
  isplitl [Hd Hd']
  · iapply (pointsTo_split_subset (Finset.subset_sdiff.mpr ⟨Finset.subset_univ (pl.cp k).dset, hdd⟩)).2
    isplitl [Hd']
    · iexact Hd'
    · iexact Hd
  isplitl [Hs Hs']
  · iapply (pointsTo_split_subset (Finset.subset_sdiff.mpr ⟨Finset.subset_univ (pl.cp k).sset, hds⟩)).2
    isplitl [Hs']
    · iexact Hs'
    · iexact Hs
  isplitl [Hv]
  · rw [show cell pl (σ.done k) k = semVal ((c.tc : Thread nD τ), .dma (pl.cp k).sem) 0 from if_neg hkk]
    iexact Hv
  rw [← ho]
  unfold others₂
  isplitl [Hb]; · iexact Hb
  isplitl [Hc]; · iexact Hc
  iexists _
  iexact HW

end Lemmas

end Cert.Machine

end
-- ==== Proof.Tweak.lean ====
/-
  Hand-written, untrusted. The kernel body written over its repeating parts.

  The printed body is one straight line of some 1500 memory operations. Here each repeating part (32 rows of the norms, a block of
  columns of the float output, a group of the weight's dequantisation, ...) is written once, over its row or column offset and,
  where the last column block is narrower, over its width. `steps` lists the parts in the program's order, and `body` is the program.
-/
module

public import proofs.«01_k».proof.Proof.Gen.KernelIdeal

@[expose] public section

set_option maxRecDepth 16384

noncomputable section

namespace Cert.KernelIdeal.Tweak

open Idealize.ShloMosaic Idealize.SL.Sem
open Cert.KernelIdeal
open Facts₀ Facts

variable {F : FTy → Type} [FloatOps F] [Named F]

/-! ## The buffers -/

abbrev xM : Memref sig .tc .vmem S1536x1024 .bf16 := Memref.whole cc0_scratch0
abbrev g0M : Memref sig .tc .vmem S1x1024 .f32 := Memref.whole cc0_scratch1
abbrev gM : Memref sig .tc .vmem S1x1024 .f32 := Memref.whole cc0_scratch2
abbrev b0M : Memref sig .tc .vmem S1x1024 .f32 := Memref.whole cc0_scratch3
abbrev bM : Memref sig .tc .vmem S1x1024 .f32 := Memref.whole cc0_scratch4
abbrev wrM : Memref sig .tc .vmem S1024x2816 .bf16 := Memref.whole cc0_scratch5
abbrev wpM : Memref sig .tc .vmem S512x2816 .i8 := Memref.whole cc0_scratch6
abbrev wsM : Memref sig .tc .vmem S8x2816 .f32 := Memref.whole cc0_scratch7
abbrev nM : Memref sig .tc .vmem S1536x1024 .f32 := Memref.whole cc0_scratch8
abbrev hfM : Memref sig .tc .vmem S1536x1024 .bf16 := Memref.whole cc0_scratch9
abbrev aM : Memref sig .tc .vmem S1536x1024 .bf16 := Memref.whole cc0_scratch10
abbrev a8M : Memref sig .tc .vmem S1536x1024 .i8 := Memref.whole cc0_scratch11
abbrev sM : Memref sig .tc .vmem S4x384 .f32 := Memref.whole cc0_scratch12
abbrev sbM : Memref sig .tc .vmem S1536x128 .f32 := Memref.whole cc0_scratch13
abbrev wqM : Memref sig .tc .vmem S1024x2816 .bf16 := Memref.whole cc0_scratch14
abbrev yM : Memref sig .tc .vmem S2x1536x512 .f32 := Memref.whole cc0_scratch15
abbrev dyM : Memref sig .tc .vmem S1536x2816 .bf16 := Memref.whole cc0_scratch16
abbrev dhM : Memref sig .tc .vmem S1536x1024 .f32 := Memref.whole cc0_scratch17
abbrev stM : Memref sig .tc .vmem S24x2816 .f32 := Memref.whole cc0_scratch18
abbrev klM : Memref sig .tc .vmem S1x2816 .f32 := Memref.whole cc0_scratch19
abbrev dgM : Memref sig .tc .vmem S1x1024 .f32 := Memref.whole cc0_scratch20
abbrev dbM : Memref sig .tc .vmem S1x1024 .f32 := Memref.whole cc0_scratch21

/-! ## Rectangles -/

/-- A rectangle of a matrix fits where it does along both axes. -/
theorem fits {P Q a b p q : ℕ} (h1 : a + p ≤ P) (h2 : b + q ≤ Q) :
    ∀ i, (![a, b] : Fin 2 → ℕ) i + (⟨2, ![p, q]⟩ : Shape).size i ≤ (⟨2, ![P, Q]⟩ : Shape).size i := by
  intro i; fin_cases i
  · exact h1
  · exact h2

/-- A box of a stack of matrices fits where it does along the three axes. -/
theorem fits3 {P Q R a b c p q r : ℕ} (h1 : a + p ≤ P) (h2 : b + q ≤ Q) (h3 : c + r ≤ R) :
    ∀ i, (![a, b, c] : Fin 3 → ℕ) i + (⟨3, ![p, q, r]⟩ : Shape).size i ≤ (⟨3, ![P, Q, R]⟩ : Shape).size i := by
  intro i; fin_cases i
  · exact h1
  · exact h2
  · exact h3

/-- The rectangle of `p` rows and `q` columns at row `a` and column `b`. -/
abbrev box {P Q : ℕ} (a b p q : ℕ) (h1 : a + p ≤ P) (h2 : b + q ≤ Q) : Rect (⟨2, ![P, Q]⟩ : Shape) :=
  Rect.unit (s := ⟨2, ![P, Q]⟩) ![a, b] (⟨2, ![p, q]⟩ : Shape).size (fits h1 h2)

/-- Rows that start at and number multiples of the packing are whole packed rows. -/
theorem packed {P Q a b p q k : ℕ} (h1 : a + p ≤ P) (h2 : b + q ≤ Q) (ha : k ∣ a) (hp : k ∣ p) :
    (box (P := P) (Q := Q) a b p q h1 h2).PackedRows k :=
  Or.inr ⟨le_refl 2, rfl, Or.inl ⟨ha, hp⟩⟩

/-! ## Loads and stores

  A store of the kernel is preceded by a load of the same elements whose value is not used. -/

abbrev PP (F : FTy → Type) [FloatOps F] [Named F] := Prog (TpuEff nD τ sig (Elt F) Λ₀ .tc) PUnit

/-- A load of a rectangle. -/
abbrev ld {s : Shape} {e : EltTy} (m : Memref sig .tc .vmem s e) (r : Rect s) (h : 0 < r.shape.numel)
    (K : (r.shape.Idx → Elt F e) → PP F) : PP F :=
  .op (.load m r.toLoadRect (View.loadsAt_vmem h)) K

/-- A store of a rectangle. -/
abbrev wr {s : Shape} {e : EltTy} (m : Memref sig .tc .vmem s e) (r : Rect s) (h : 0 < r.shape.numel)
    (hx : (m.access r).Stores Finset.univ) (w : r.shape.Idx → Elt F e) (K : PP F) : PP F :=
  .op (.load m r.toLoadRect (View.loadsAt_vmem h)) fun _ => .op (.store m r w Finset.univ hx (.inl rfl)) fun _ => K

/-! ## The parts' values -/

/-- The facts about a block of `w` columns that the parts' values need. -/
structure Wd (w : ℕ) : Prop where
  dotF : DotDims.WF S256x1024 ⟨2, ![1024, w]⟩ ⟨2, ![256, w]⟩ [1] [0] [0] [1] [] []
  dotQ : DotDims.WF S512x1024 ⟨2, ![1024, w]⟩ ⟨2, ![512, w]⟩ [1] [0] [0] [1] [] []
  sc256 : (⟨2, ![256, w]⟩ : Shape).ShapeCasts ⟨3, ![32, 8, w]⟩
  sc512 : (⟨2, ![512, w]⟩ : Shape).ShapeCasts ⟨3, ![64, 8, w]⟩
  red256 : (⟨3, ![32, 8, w]⟩ : Shape).Reduces [0] ⟨2, ![8, w]⟩
  red512 : (⟨3, ![64, 8, w]⟩ : Shape).Reduces [0] ⟨2, ![8, w]⟩
  red8 : (⟨2, ![8, w]⟩ : Shape).Reduces [0] ⟨1, ![w]⟩
  row : (⟨1, ![w]⟩ : Shape).ShapeCasts ⟨2, ![1, w]⟩
  id1 : (⟨2, ![1, w]⟩ : Shape).ShapeCasts ⟨2, ![1, w]⟩
  id8 : (⟨2, ![8, w]⟩ : Shape).ShapeCasts ⟨2, ![8, w]⟩
  id128 : (⟨2, ![128, w]⟩ : Shape).ShapeCasts ⟨2, ![128, w]⟩
  id512 : (⟨2, ![512, w]⟩ : Shape).ShapeCasts ⟨2, ![512, w]⟩
  to3 : (⟨2, ![512, w]⟩ : Shape).ShapeCasts ⟨3, ![1, 512, w]⟩
  of3 : (⟨3, ![1, 512, w]⟩ : Shape).ShapeCasts ⟨2, ![512, w]⟩
  bc8 : (⟨2, ![1, w]⟩ : Shape).Broadcasts ⟨2, ![8, w]⟩
  bc128 : (⟨2, ![1, w]⟩ : Shape).Broadcasts ⟨2, ![128, w]⟩
  bc256 : (⟨2, ![1, w]⟩ : Shape).Broadcasts ⟨2, ![256, w]⟩
  bc512 : (⟨2, ![1, w]⟩ : Shape).Broadcasts ⟨2, ![512, w]⟩
  cat : ∀ {α : Type} (v : S512x128.Idx → α),
    Shape.Concatenates ((List.replicate (w / 128) (⟨S512x128, v⟩ : (s : Shape) × (s.Idx → α))).map (·.1)) ⟨2, ![512, w]⟩ 1
  pos : 0 < w
  slot : w ≤ 512

/-- The shapes of a column block of 512. -/
theorem w512 : Wd 512 :=
  { dotF := dot_S256x1024_S1024x512_S256x512_1_0_0_1_n_n_wf, dotQ := dot_S512x1024_S1024x512_S512x512_1_0_0_1_n_n_wf,
    sc256 := shapeCasts_S256x512_S32x8x512, sc512 := shapeCasts_S512x512_S64x8x512, red256 := reduces_S32x8x512_S8x512,
    red512 := reduces_S64x8x512_S8x512, red8 := reduces_S8x512_S512, row := shapeCasts_S512_S1x512, id1 := shapeCasts_S1x512_S1x512,
    id8 := shapeCasts_S8x512_S8x512, id128 := shapeCasts_S128x512_S128x512, id512 := shapeCasts_S512x512_S512x512,
    to3 := shapeCasts_S512x512_S1x512x512, of3 := shapeCasts_S1x512x512_S512x512, bc8 := broadcasts_S1x512_S8x512,
    bc128 := broadcasts_S1x512_S128x512, bc256 := broadcasts_S1x512_S256x512, bc512 := broadcasts_S1x512_S512x512,
    cat := fun _ => concatenates_S512x128_S512x128_S512x128_S512x128_S512x512_d1, pos := by decide, slot := by decide }

/-- The shapes of a column block of 256. -/
theorem w256 : Wd 256 :=
  { dotF := dot_S256x1024_S1024x256_S256x256_1_0_0_1_n_n_wf, dotQ := dot_S512x1024_S1024x256_S512x256_1_0_0_1_n_n_wf,
    sc256 := shapeCasts_S256x256_S32x8x256, sc512 := shapeCasts_S512x256_S64x8x256, red256 := reduces_S32x8x256_S8x256,
    red512 := reduces_S64x8x256_S8x256, red8 := reduces_S8x256_S256, row := shapeCasts_S256_S1x256, id1 := shapeCasts_S1x256_S1x256,
    id8 := shapeCasts_S8x256_S8x256, id128 := shapeCasts_S128x256_S128x256, id512 := shapeCasts_S512x256_S512x256,
    to3 := shapeCasts_S512x256_S1x512x256, of3 := shapeCasts_S1x512x256_S512x256, bc8 := broadcasts_S1x256_S8x256,
    bc128 := broadcasts_S1x256_S128x256, bc256 := broadcasts_S1x256_S256x256, bc512 := broadcasts_S1x256_S512x256,
    cat := fun _ => concatenates_S512x128_S512x128_S512x256_d1, pos := by decide, slot := by decide }

/-- The matrix product of 256 rows. -/
def dotF {w : ℕ} (W : Wd w) : DotDims S256x1024 ⟨2, ![1024, w]⟩ ⟨2, ![256, w]⟩ where
  lhsContracting := [1]
  rhsContracting := [0]
  lhsNonContracting := [0]
  rhsNonContracting := [1]
  lhsBatch := []
  rhsBatch := []
  wf := W.dotF

/-- The matrix product of 512 rows. -/
def dotQ {w : ℕ} (W : Wd w) : DotDims S512x1024 ⟨2, ![1024, w]⟩ ⟨2, ![512, w]⟩ where
  lhsContracting := [1]
  rhsContracting := [0]
  lhsNonContracting := [0]
  rhsNonContracting := [1]
  lhsBatch := []
  rhsBatch := []
  wf := W.dotQ

/-- The constant row `1/1536`. -/
def invTok (s : Shape) : FVec F s .f32 := broadcast s (Named.named κ "inv_tok" 0x3A2AAAAB#32 : F .f32)
/-- A constant. -/
def cst (s : Shape) (b : BitVec 32) : FVec F s .f32 := broadcast s (Scalar.ofBits .f32 b : F .f32)

/-- The mean over a row of 1024. -/
def meanR (v : FVec F S32x1024 .f32) : FVec F S32x1 .f32 :=
  divf (shapeCast S32x1 (multiReduction .add [1] S32 v 0x00000000#32 reduces_S32x1024_S32 (.inl rfl) rfl) shapeCasts_S32_S32x1) (cst S32x1 0x44800000#32)

/-- 32 rows less their means. -/
def lnXc (x : Vec F S32x1024 .bf16) : FVec F S32x1024 .f32 :=
  subf (extf .f32 x bitsLt_bf16_f32) (broadcastTo S32x1024 (meanR (extf .f32 x bitsLt_bf16_f32)) broadcasts_S32x1_S32x1024)

/-- 32 rows normalised. -/
def lnN (x : Vec F S32x1024 .bf16) : FVec F S32x1024 .f32 :=
  mulf (lnXc x) (broadcastTo S32x1024 (rsqrt (addf (meanR (mulf (lnXc x) (lnXc x))) (cst S32x1 0x358637BD#32))) broadcasts_S32x1_S32x1024)

/-- The affine map of a norm. -/
def lnAff (n : FVec F S32x1024 .f32) (g b : Vec F S1x1024 .f32) : FVec F S32x1024 .f32 :=
  addf (mulf n (broadcastTo S32x1024 g broadcasts_S1x1024_S32x1024)) (broadcastTo S32x1024 b broadcasts_S1x1024_S32x1024)

/-- The largest magnitude of each row. -/
def lnAmax (h : FVec F S32x1024 .f32) : FVec F S32x1 .f32 :=
  shapeCast S32x1 (multiReduction .maximumf [1] S32 (absf h) 0xFF800000#32 reduces_S32x1024_S32 (.inl rfl) rfl) shapeCasts_S32_S32x1

/-- Each row's scale. -/
def lnScale (h : FVec F S32x1024 .f32) : FVec F S32x1 .f32 :=
  select (cmpf .ogt (lnAmax h) (cst S32x1 0x00000000#32)) (divf (lnAmax h) (cst S32x1 0x42FE0000#32)) (cst S32x1 0x3F800000#32)

/-- The codes, as floats. -/
def lnQ (h : FVec F S32x1024 .f32) : FVec F S32x1024 .f32 :=
  minimumf (broadcast S32x1024 (Scalar.sitofp .f32 (127#32)))
    (maximumf (broadcast S32x1024 (Scalar.sitofp .f32 (4294967169#32)))
      (roundeven (divf h (broadcastTo S32x1024 (lnScale h) broadcasts_S32x1_S32x1024))))

/-- Where the row and the column number agree. -/
def eye : IVec S128x128 1 :=
  cmpi .eq (iota .tc S128x128 32 [0] iota_S128x128_d0_w32) (iota .tc S128x128 32 [1] iota_S128x128_d1_w32)

/-- 128 scales, read off the diagonal as a row. -/
def rowV (sb : Vec F S128x128 .f32) : FVec F S1x128 .f32 :=
  shapeCast S1x128 (multiReduction .add [0] S128 (select eye sb (cst S128x128 0x00000000#32)) 0x00000000#32 reduces_S128x128_S128 (.inl rfl) rfl) shapeCasts_S128_S1x128

section Width
variable {w : ℕ} (W : Wd w)

/-- The float output: a tile of 256 rows. -/
def yfV (hf : Vec F S256x1024 .bf16) (wr : Vec F ⟨2, ![1024, w]⟩ .bf16) : FVec F ⟨2, ![256, w]⟩ .f32 :=
  matmul (dotF W) none hf wr (constant ⟨2, ![256, w]⟩ .f32 0x00000000#32)

/-- Eight partial sums of 256 rows. -/
def fold256 (y : FVec F ⟨2, ![256, w]⟩ .f32) : FVec F ⟨2, ![8, w]⟩ .f32 :=
  multiReduction .add [0] ⟨2, ![8, w]⟩ (shapeCast ⟨3, ![32, 8, w]⟩ y W.sc256) 0x00000000#32 W.red256 (.inl rfl) rfl

/-- Eight partial sums of 512 rows. -/
def fold512 (y : FVec F ⟨2, ![512, w]⟩ .f32) : FVec F ⟨2, ![8, w]⟩ .f32 :=
  multiReduction .add [0] ⟨2, ![8, w]⟩ (shapeCast ⟨3, ![64, 8, w]⟩ y W.sc512) 0x00000000#32 W.red512 (.inl rfl) rfl

/-- The sum of eight partial sums, as a row. -/
def sum8 (t : FVec F ⟨2, ![8, w]⟩ .f32) : FVec F ⟨2, ![1, w]⟩ .f32 :=
  shapeCast ⟨2, ![1, w]⟩ (multiReduction .add [0] ⟨1, ![w]⟩ t 0x00000000#32 W.red8 (.inl rfl) rfl) W.row

/-- The first tile's mean. -/
def pilot (y : FVec F ⟨2, ![256, w]⟩ .f32) : FVec F ⟨2, ![1, w]⟩ .f32 :=
  mulf (sum8 W (fold256 W y)) (cst ⟨2, ![1, w]⟩ 0x3B800000#32)

/-- A tile less a row. -/
def less (y : FVec F ⟨2, ![256, w]⟩ .f32) (p : FVec F ⟨2, ![1, w]⟩ .f32) : FVec F ⟨2, ![256, w]⟩ .f32 :=
  subf y (broadcastTo ⟨2, ![256, w]⟩ p W.bc256)

/-- The two nibbles of a byte. -/
def nibLo (v : Vec F ⟨2, ![128, w]⟩ .i8) : IVec ⟨2, ![128, w]⟩ 32 := andi (extui 32 v natLt_8_32) (broadcast ⟨2, ![128, w]⟩ 15#32)
def nibHi (v : Vec F ⟨2, ![128, w]⟩ .i8) : IVec ⟨2, ![128, w]⟩ 32 := shrsi (extui 32 v natLt_8_32) (broadcast ⟨2, ![128, w]⟩ 4#32)

/-- A nibble read as a two's complement number, times its group's scale. -/
def deqV (f : IVec ⟨2, ![128, w]⟩ 32) (sc : Vec F ⟨2, ![1, w]⟩ .f32) : FVec F ⟨2, ![128, w]⟩ .bf16 :=
  mulf (sitofp .bf16 (select (cmpi .sge f (broadcast ⟨2, ![128, w]⟩ 8#32)) (subi f (broadcast ⟨2, ![128, w]⟩ 16#32)) f))
    (broadcastTo ⟨2, ![128, w]⟩ (truncf .bf16 sc bitsLt_bf16_f32) W.bc128)

/-- The quantised output: a tile of 512 rows. -/
def yqV (sb : Vec F S512x128 .f32) (a : Vec F S512x1024 .bf16) (wq : Vec F ⟨2, ![1024, w]⟩ .bf16) : FVec F ⟨2, ![512, w]⟩ .f32 :=
  mulf (matmul (dotQ W) none a wq (constant ⟨2, ![512, w]⟩ .f32 0x00000000#32))
    (concatenate ⟨2, ![512, w]⟩ 1 (List.replicate (w / 128) ⟨S512x128, sb⟩) (W.cat sb))

/-- The quantised output less its mean. -/
def ycV (y : Vec F ⟨3, ![1, 512, w]⟩ .f32) (mu : FVec F ⟨2, ![1, w]⟩ .f32) : FVec F ⟨2, ![512, w]⟩ .f32 :=
  subf (shapeCast ⟨2, ![512, w]⟩ y W.of3) (broadcastTo ⟨2, ![512, w]⟩ mu W.bc512)

def sqV (y : Vec F ⟨3, ![1, 512, w]⟩ .f32) (mu : FVec F ⟨2, ![1, w]⟩ .f32) : FVec F ⟨2, ![8, w]⟩ .f32 :=
  fold512 W (mulf (ycV W y mu) (ycV W y mu))

/-- A mean over all 1536 rows, from eight partial sums. -/
def meanT (t : FVec F ⟨2, ![8, w]⟩ .f32) : FVec F ⟨2, ![1, w]⟩ .f32 := mulf (sum8 W t) (invTok ⟨2, ![1, w]⟩)

/-- Three tiles' partial sums, added up from zero. -/
def tot3 (a b c : FVec F ⟨2, ![8, w]⟩ .f32) : FVec F ⟨2, ![8, w]⟩ .f32 := addf (addf (addf (cst ⟨2, ![8, w]⟩ 0x00000000#32) a) b) c

/-- The float output's variance, from the two sums of the deviations from the pilot. -/
def vfV (d1 d2 : FVec F ⟨2, ![1, w]⟩ .f32) : FVec F ⟨2, ![1, w]⟩ .f32 := subf d2 (mulf d1 d1)

/-- The squared difference of the means. -/
def dmu2 (muf muq : FVec F ⟨2, ![1, w]⟩ .f32) : FVec F ⟨2, ![1, w]⟩ .f32 := mulf (subf muf muq) (subf muf muq)

/-- The divergence of two normal distributions. -/
def klV (muf vf muq vq : FVec F ⟨2, ![1, w]⟩ .f32) : FVec F ⟨2, ![1, w]⟩ .f32 :=
  subf (addf (mulf (cst ⟨2, ![1, w]⟩ 0x3F000000#32) (log (divf vq vf)))
    (divf (addf vf (dmu2 muf muq)) (mulf (cst ⟨2, ![1, w]⟩ 0x40000000#32) vq))) (cst ⟨2, ![1, w]⟩ 0x3F000000#32)

/-- Its derivative by the quantised mean, over the number of rows. -/
def pV (muf vf muq vq : FVec F ⟨2, ![1, w]⟩ .f32) : FVec F ⟨2, ![1, w]⟩ .f32 :=
  mulf (divf (divf (subf muq muf) vq) (cst ⟨2, ![1, w]⟩ 0x45300000#32)) (invTok ⟨2, ![1, w]⟩)

/-- Twice its derivative by the quantised variance, over the number of rows. -/
def qV (muf vf muq vq : FVec F ⟨2, ![1, w]⟩ .f32) : FVec F ⟨2, ![1, w]⟩ .f32 :=
  mulf (mulf (cst ⟨2, ![1, w]⟩ 0x40000000#32)
    (divf (subf (divf (cst ⟨2, ![1, w]⟩ 0x3F800000#32) (mulf (cst ⟨2, ![1, w]⟩ 0x40000000#32) vq))
      (divf (addf vf (dmu2 muf muq)) (mulf (mulf (cst ⟨2, ![1, w]⟩ 0x40000000#32) vq) vq))) (cst ⟨2, ![1, w]⟩ 0x45300000#32)))
    (invTok ⟨2, ![1, w]⟩)

/-- The derivative by the quantised output: a tile of 512 rows. -/
def dyV (y : Vec F ⟨3, ![1, 512, w]⟩ .f32) (mu p q : FVec F ⟨2, ![1, w]⟩ .f32) : FVec F ⟨2, ![512, w]⟩ .bf16 :=
  truncf .bf16 (addf (broadcastTo ⟨2, ![512, w]⟩ p W.bc512) (mulf (ycV W y mu) (broadcastTo ⟨2, ![512, w]⟩ q W.bc512))) bitsLt_bf16_f32

end Width

/-- The derivative by the norm's output: 512 rows and 512 columns. -/
def dhV (dy wq : Vec F S512x2816 .bf16) : FVec F S512x512 .f32 :=
  matmul dot_S512x2816_S512x2816_S512x512_1_1_0_0_n_n none dy wq (constant S512x512 .f32 0x00000000#32)

/-! ## The parts -/

/-- A matrix with rows and columns has elements. -/
theorem numel2 {p q : ℕ} (hp : 0 < p) (hq : 0 < q) : 0 < (⟨2, ![p, q]⟩ : Shape).numel := by
  rw [Shape.numel, Fin.prod_univ_two]; exact Nat.mul_pos hp hq
/-- A stack of matrices with rows and columns has elements. -/
theorem numel3 {p q r : ℕ} (hp : 0 < p) (hq : 0 < q) (hr : 0 < r) : 0 < (⟨3, ![p, q, r]⟩ : Shape).numel := by
  rw [Shape.numel, Fin.prod_univ_three]; exact Nat.mul_pos (Nat.mul_pos hp hq) hr

/-- The rectangles of the parts. -/
abbrev rows (i : Fin 48) : Rect S1536x1024 := box (32 * (i : ℕ)) 0 32 1024 (by omega) (le_refl _)
abbrev sbRows (i : Fin 48) : Rect S1536x128 := box (32 * (i : ℕ)) 0 32 128 (by omega) (le_refl _)
abbrev rowsAll : Rect S1x1024 := box 0 0 1 1024 (le_refl _) (le_refl _)

/-- 32 rows have elements. -/
theorem pos32 : 0 < (⟨2, ![32, 1024]⟩ : Shape).numel := numel2 (by decide) (by decide)
/-- A row has elements. -/
theorem pos1 : 0 < (⟨2, ![1, 1024]⟩ : Shape).numel := numel2 (by decide) (by decide)

/-- The norms and the quantisation of 32 rows. -/
def lnP (i : Fin 48) (K : PP F) : PP F :=
  ld xM (rows i) pos32 fun x =>
  wr nM (rows i) pos32 (View.stores_vmem_bits_univ pos32 rfl) (shapeCast S32x1024 (lnN x) shapeCasts_S32x1024_S32x1024) <|
  ld g0M rowsAll pos1 fun g0 => ld b0M rowsAll pos1 fun b0 =>
  wr hfM (rows i) pos32 (View.stores_vmem pos32 ((Memref.isWhole_whole _).storeExact_slice rfl _ (packed _ _ (Dvd.intro _ (by omega : 2 * (16 * (i : ℕ)) = _)) (by decide))) (fun _ => rfl))
    (shapeCast S32x1024 (truncf .bf16 (lnAff (lnN x) g0 b0) bitsLt_bf16_f32) shapeCasts_S32x1024_S32x1024) <|
  ld gM rowsAll pos1 fun g => ld bM rowsAll pos1 fun b =>
  wr aM (rows i) pos32 (View.stores_vmem pos32 ((Memref.isWhole_whole _).storeExact_slice rfl _ (packed _ _ (Dvd.intro _ (by omega : 2 * (16 * (i : ℕ)) = _)) (by decide))) (fun _ => rfl))
    (shapeCast S32x1024 (truncf .bf16 (lnQ (lnAff (lnN x) g b)) bitsLt_bf16_f32) shapeCasts_S32x1024_S32x1024) <|
  wr a8M (rows i) pos32 (View.stores_vmem pos32 ((Memref.isWhole_whole _).storeExact_slice rfl _ (packed _ _ (Dvd.intro _ (by omega : 4 * (8 * (i : ℕ)) = _)) (by decide))) (fun _ => rfl))
    (shapeCast S32x1024 (fptosi 8 (lnQ (lnAff (lnN x) g b))) shapeCasts_S32x1024_S32x1024) <|
  wr sbM (sbRows i) (numel2 (by decide) (by decide)) (View.stores_vmem_bits_univ (numel2 (by decide) (by decide)) rfl)
    (shapeCast S32x128 (broadcastTo S32x128 (shapeCast S32x1 (lnScale (lnAff (lnN x) g b)) shapeCasts_S32x1_S32x1) broadcasts_S32x1_S32x128) shapeCasts_S32x128_S32x128) K

/-- 128 scales, read off the diagonal as a row. -/
def rowP (i : Fin 12) (K : PP F) : PP F :=
  ld sbM (box (128 * (i : ℕ)) 0 128 128 (by omega) (le_refl _)) (numel2 (by decide) (by decide)) fun sb =>
  wr sM (box ((i : ℕ) / 3) (128 * ((i : ℕ) % 3)) 1 128 (by omega) (by omega)) (numel2 (by decide) (by decide))
    (View.stores_vmem_bits_univ (numel2 (by decide) (by decide)) rfl) (shapeCast S1x128 (rowV sb) shapeCasts_S1x128_S1x128) K

abbrev hfR (t : Fin 6) : Rect S1536x1024 := box (256 * (t : ℕ)) 0 256 1024 (by omega) (le_refl _)
/-- The group that a byte's upper nibbles belong to. -/
abbrev up (g : Fin 4) : Fin 8 := ⟨(g : ℕ) + 4, by omega⟩
abbrev lo (g : Fin 4) : Fin 8 := ⟨(g : ℕ), by omega⟩
abbrev sbT (m : Fin 3) : Rect S1536x128 := box (512 * (m : ℕ)) 0 512 128 (by omega) (le_refl _)
abbrev aT (m : Fin 3) : Rect S1536x1024 := box (512 * (m : ℕ)) 0 512 1024 (by omega) (le_refl _)
/-- 512 rows of one of the two slots that hold a block of the quantised output. -/
abbrev yT {w : ℕ} (hw : w ≤ 512) (k : Fin 2) (m : Fin 3) : Rect S2x1536x512 :=
  Rect.unit (s := S2x1536x512) ![(k : ℕ), 512 * (m : ℕ), 0] (⟨3, ![1, 512, w]⟩ : Shape).size (fits3 (by omega) (by omega) (by omega))

section Width
variable {w : ℕ} (W : Wd w) (co : ℕ) (hc : co + w ≤ 2816)

/-- Eight rows of the statistics. -/
abbrev stR (r : ℕ) (h : r + 8 ≤ 24) : Rect S24x2816 := box r co 8 w h hc
/-- The statistics' first row. -/
abbrev st0 : Rect S24x2816 := box 0 co 1 w (by decide) hc
abbrev wrR : Rect S1024x2816 := box 0 co 1024 w (le_refl _) hc

/-- The float output of the first tile: its mean, and the sums of its deviations from it and of their squares. -/
def yf0P (K : PP F) : PP F :=
  ld hfM (hfR 0) (numel2 (by decide) (by decide)) fun hf => ld wrM (wrR co hc) (numel2 (by decide) W.pos) fun v =>
  wr stM (stR co hc 0 (by decide)) (numel2 (by decide) W.pos) (View.stores_vmem_bits_univ (numel2 (by decide) W.pos) rfl)
    (shapeCast ⟨2, ![8, w]⟩ (broadcastTo ⟨2, ![8, w]⟩ (shapeCast ⟨2, ![1, w]⟩ (pilot W (yfV W hf v)) W.id1) W.bc8) W.id8) <|
  wr stM (stR co hc 8 (by decide)) (numel2 (by decide) W.pos) (View.stores_vmem_bits_univ (numel2 (by decide) W.pos) rfl)
    (shapeCast ⟨2, ![8, w]⟩ (fold256 W (less W (yfV W hf v) (pilot W (yfV W hf v)))) W.id8) <|
  wr stM (stR co hc 16 (by decide)) (numel2 (by decide) W.pos) (View.stores_vmem_bits_univ (numel2 (by decide) W.pos) rfl)
    (shapeCast ⟨2, ![8, w]⟩ (fold256 W (mulf (less W (yfV W hf v) (pilot W (yfV W hf v))) (less W (yfV W hf v) (pilot W (yfV W hf v))))) W.id8) K

/-- The float output of a later tile: its deviations from the first tile's mean, added to the sums. -/
def yfP (t : Fin 6) (K : PP F) : PP F :=
  ld hfM (hfR t) (numel2 (by decide) (by decide)) fun hf => ld wrM (wrR co hc) (numel2 (by decide) W.pos) fun v =>
  ld stM (st0 co hc) (numel2 (by decide) W.pos) fun p => ld stM (stR co hc 8 (by decide)) (numel2 (by decide) W.pos) fun s1 =>
  wr stM (stR co hc 8 (by decide)) (numel2 (by decide) W.pos) (View.stores_vmem_bits_univ (numel2 (by decide) W.pos) rfl)
    (shapeCast ⟨2, ![8, w]⟩ (addf s1 (fold256 W (less W (yfV W hf v) p))) W.id8) <|
  ld stM (stR co hc 16 (by decide)) (numel2 (by decide) W.pos) fun s2 =>
  wr stM (stR co hc 16 (by decide)) (numel2 (by decide) W.pos) (View.stores_vmem_bits_univ (numel2 (by decide) W.pos) rfl)
    (shapeCast ⟨2, ![8, w]⟩ (addf s2 (fold256 W (mulf (less W (yfV W hf v) p) (less W (yfV W hf v) p)))) W.id8) K

/-- 128 rows of the weight, or the scales of group `g`. -/
abbrev wqR (g : Fin 8) : Rect S1024x2816 := box (128 * (g : ℕ)) co 128 w (by omega) hc
abbrev wsR (g : Fin 8) : Rect S8x2816 := box (g : ℕ) co 1 w (by omega) hc
abbrev wpR (g : Fin 4) : Rect S512x2816 := box (128 * (g : ℕ)) co 128 w (by omega) hc

/-- The dequantised weight of one group of bytes: two groups of 128 rows. -/
def deqP (g : Fin 4) (K : PP F) : PP F :=
  ld wpM (wpR co hc g) (numel2 (by decide) W.pos) fun v => ld wsM (wsR co hc (lo g)) (numel2 (by decide) W.pos) fun s0 =>
  wr wqM (wqR co hc (lo g)) (numel2 (by decide) W.pos)
    (View.stores_vmem (numel2 (by decide) W.pos) ((Memref.isWhole_whole _).storeExact_slice rfl _ (packed _ _ (Dvd.intro _ (by simp only [lo]; omega : 2 * (64 * (g : ℕ)) = _)) (by decide))) (fun _ => rfl))
    (shapeCast ⟨2, ![128, w]⟩ (deqV W (nibLo v) s0) W.id128) <|
  ld wsM (wsR co hc (up g)) (numel2 (by decide) W.pos) fun s1 =>
  wr wqM (wqR co hc (up g)) (numel2 (by decide) W.pos)
    (View.stores_vmem (numel2 (by decide) W.pos) ((Memref.isWhole_whole _).storeExact_slice rfl _ (packed _ _ (Dvd.intro _ (by simp only [up]; omega : 2 * (64 * ((g : ℕ) + 4)) = _)) (by decide))) (fun _ => rfl))
    (shapeCast ⟨2, ![128, w]⟩ (deqV W (nibHi v) s1) W.id128) K

abbrev dyT (m : Fin 3) : Rect S1536x2816 := box (512 * (m : ℕ)) co 512 w (by omega) hc
abbrev klR : Rect S1x2816 := box 0 co 1 w (le_refl _) hc

/-- The quantised output of 512 rows, kept in a slot. -/
def yqP (k : Fin 2) (m : Fin 3) (K : FVec F ⟨2, ![512, w]⟩ .f32 → PP F) : PP F :=
  ld sbM (sbT m) (numel2 (by decide) (by decide)) fun sb => ld aM (aT m) (numel2 (by decide) (by decide)) fun a =>
  ld wqM (wrR co hc) (numel2 (by decide) W.pos) fun v =>
  wr yM (yT W.slot k m) (numel3 (by decide) (by decide) W.pos) (View.stores_vmem_bits_univ (numel3 (by decide) (by decide) W.pos) rfl)
    (shapeCast ⟨3, ![1, 512, w]⟩ (yqV W sb a v) W.to3) (K (yqV W sb a v))

/-- The derivative by the quantised output of 512 rows. -/
def dyP (k : Fin 2) (m : Fin 3) (mu p q : FVec F ⟨2, ![1, w]⟩ .f32) (K : PP F) : PP F :=
  ld yM (yT W.slot k m) (numel3 (by decide) (by decide) W.pos) fun y =>
  wr dyM (dyT co hc m) (numel2 (by decide) W.pos)
    (View.stores_vmem (numel2 (by decide) W.pos) ((Memref.isWhole_whole _).storeExact_slice rfl _ (packed _ _ (Dvd.intro _ (by omega : 2 * (256 * (m : ℕ)) = _)) (by decide))) (fun _ => rfl))
    (shapeCast ⟨2, ![512, w]⟩ (dyV W y mu p q) W.id512) K

/-- A block of columns of the quantised output: its moments, the divergence from the float output's, and the derivative. -/
def qP (k : Fin 2) (K : PP F) : PP F :=
  yqP W co hc k 0 fun y0 => yqP W co hc k 1 fun y1 => yqP W co hc k 2 fun y2 =>
  let muq := meanT W (tot3 (fold512 W y0) (fold512 W y1) (fold512 W y2))
  ld yM (yT W.slot k 0) (numel3 (by decide) (by decide) W.pos) fun z0 => ld yM (yT W.slot k 1) (numel3 (by decide) (by decide) W.pos) fun z1 =>
  ld yM (yT W.slot k 2) (numel3 (by decide) (by decide) W.pos) fun z2 =>
  let vq := meanT W (tot3 (sqV W z0 muq) (sqV W z1 muq) (sqV W z2 muq))
  ld stM (stR co hc 8 (by decide)) (numel2 (by decide) W.pos) fun s1 => ld stM (stR co hc 16 (by decide)) (numel2 (by decide) W.pos) fun s2 =>
  ld stM (st0 co hc) (numel2 (by decide) W.pos) fun p0 =>
  let muf := addf p0 (meanT W s1)
  let vf := vfV (meanT W s1) (meanT W s2)
  wr klM (klR co hc) (numel2 (by decide) W.pos) (View.stores_vmem_bits_univ (numel2 (by decide) W.pos) rfl)
    (shapeCast ⟨2, ![1, w]⟩ (klV muf vf muq vq) W.id1) <|
  dyP W co hc k 0 muq (pV muf vf muq vq) (qV muf vf muq vq) <|
  dyP W co hc k 1 muq (pV muf vf muq vq) (qV muf vf muq vq) <|
  dyP W co hc k 2 muq (pV muf vf muq vq) (qV muf vf muq vq) K

end Width

abbrev dyR (m : Fin 3) : Rect S1536x2816 := box (512 * (m : ℕ)) 0 512 2816 (by omega) (le_refl _)
abbrev wqH (c : Fin 2) : Rect S1024x2816 := box (512 * (c : ℕ)) 0 512 2816 (by omega) (le_refl _)
abbrev dhR (m : Fin 3) (c : Fin 2) : Rect S1536x1024 := box (512 * (m : ℕ)) (512 * (c : ℕ)) 512 512 (by omega) (by omega)
abbrev dgR (c : Fin 2) : Rect S1x1024 := box 0 (512 * (c : ℕ)) 1 512 (le_refl _) (by omega)

/-- The derivative by the norm's output, 512 rows and 512 columns. -/
def dhP (m : Fin 3) (c : Fin 2) (K : FVec F S512x512 .f32 → Vec F S512x512 .f32 → PP F) : PP F :=
  ld dyM (dyR m) (numel2 (by decide) (by decide)) fun dy => ld wqM (wqH c) (numel2 (by decide) (by decide)) fun v =>
  wr dhM (dhR m c) (numel2 (by decide) (by decide)) (View.stores_vmem_bits_univ (numel2 (by decide) (by decide)) rfl)
    (shapeCast S512x512 (dhV dy v) shapeCasts_S512x512_S512x512) <|
  ld nM (dhR m c) (numel2 (by decide) (by decide)) fun n => K (dhV dy v) n

/-- A row of 512 sums stored. -/
def dgP (M : Memref sig .tc .vmem S1x1024 .f32) (c : Fin 2) (t : FVec F S8x512 .f32) (K : PP F) : PP F :=
  wr M (dgR c) (numel2 (by decide) (by decide)) (View.stores_vmem_bits_univ (numel2 (by decide) (by decide)) rfl)
    (shapeCast S1x512 (sum8 w512 t) shapeCasts_S1x512_S1x512) K

/-! ## The transfers -/

/-- One transfer of the program. -/
structure Xfer where
  {sp sp' : Space}
  {s : Shape}
  {e : EltTy}
  src : Memref sig .tc sp s e
  dst : Memref sig .tc sp' s e
  sem : DmaSem sig
  hsrc : src.view.WordExact
  hdst : dst.view.WordExact
  ty : DmaTarget.Typed (nD := nD) (τ := τ) (p := .tc) sp (.dma sem) (.here dst)

/-- Its start. -/
def Xfer.start (x : Xfer) (K : PP F) : PP F := .op (.enqueueDma x.src (.here x.dst) (.dma x.sem) x.hsrc x.hdst x.ty) fun _ => K
/-- The wait for it. -/
def Xfer.wait (x : Xfer) (K : PP F) : PP F := .op (.waitDma2 x.sem x.src x.dst x.hsrc x.hdst) fun _ => K

abbrev semP (i : Fin 5) : DmaSem sig := ((cc0_scratch22.slice (Rect.unit (s := S5) ![(i : ℕ)] S1.size (by intro a; fin_cases a; exact i.isLt))).squeeze S_ squeezes_S1_S_).sem
abbrev semX (i : Fin 6) : DmaSem sig := ((cc0_scratch23.slice (Rect.unit (s := S6) ![(i : ℕ)] S1.size (by intro a; fin_cases a; exact i.isLt))).squeeze S_ squeezes_S1_S_).sem
abbrev semW (i : Fin 6) : DmaSem sig := ((cc0_scratch24.slice (Rect.unit (s := S6) ![(i : ℕ)] S1.size (by intro a; fin_cases a; exact i.isLt))).squeeze S_ squeezes_S1_S_).sem
abbrev semO (i : Fin 8) : DmaSem sig := ((cc0_scratch26.slice (Rect.unit (s := S8) ![(i : ℕ)] S1.size (by intro a; fin_cases a; exact i.isLt))).squeeze S_ squeezes_S1_S_).sem

/-- A tile of the tokens copied in. -/
def xX (t : Fin 6) : Xfer :=
  ⟨(Memref.whole main_v0 : Memref sig .tc .hbm S1536x1024 .bf16).slice (hfR t) (fun _ => rfl), xM.slice (hfR t) (fun _ => rfl), semX t,
    (Memref.isWhole_whole _).wordExact_slice rfl _ (packed _ _ (Dvd.intro _ (by omega : 2 * (128 * (t : ℕ)) = _)) (by decide)).wholeWords,
    (Memref.isWhole_whole _).wordExact_slice rfl _ (packed _ _ (Dvd.intro _ (by omega : 2 * (128 * (t : ℕ)) = _)) (by decide)).wholeWords, ⟨Or.inl rfl, trivial⟩⟩

/-- A column block of the float weight copied in. -/
def xW {w : ℕ} (i : Fin 6) (co : ℕ) (hc : co + w ≤ 2816) : Xfer :=
  ⟨(Memref.whole main_arg5 : Memref sig .tc .hbm S1024x2816 .bf16).slice (wrR co hc) (fun _ => rfl), wrM.slice (wrR co hc) (fun _ => rfl), semW i,
    (Memref.isWhole_whole _).wordExact_slice rfl _ (packed _ _ (Dvd.intro 0 rfl) (by decide)).wholeWords,
    (Memref.isWhole_whole _).wordExact_slice rfl _ (packed _ _ (Dvd.intro 0 rfl) (by decide)).wholeWords, ⟨Or.inl rfl, trivial⟩⟩

/-- 512 rows of the derivative copied out. -/
def xO (m : Fin 3) : Xfer :=
  ⟨dhM.slice (aT m) (fun _ => rfl), (Memref.whole main_v5_3 : Memref sig .tc .hbm S1536x1024 .f32).slice (aT m) (fun _ => rfl), semO ⟨(m : ℕ) + 3, by omega⟩,
    View.wordExact_bits rfl, View.wordExact_bits rfl, ⟨Or.inl rfl, trivial⟩⟩

/-- The transfers, in the order of the semaphores. -/
def X : Fin 26 → Xfer
  | 0 => ⟨(Memref.whole main_v1 : Memref sig .tc .hbm S1x1024 .f32), g0M, semP 0, (Memref.isWhole_whole _).wordExact, (Memref.isWhole_whole _).wordExact, ⟨Or.inl rfl, trivial⟩⟩
  | 1 => ⟨(Memref.whole main_v2 : Memref sig .tc .hbm S1x1024 .f32), gM, semP 1, (Memref.isWhole_whole _).wordExact, (Memref.isWhole_whole _).wordExact, ⟨Or.inl rfl, trivial⟩⟩
  | 2 => ⟨(Memref.whole main_v3 : Memref sig .tc .hbm S1x1024 .f32), b0M, semP 2, (Memref.isWhole_whole _).wordExact, (Memref.isWhole_whole _).wordExact, ⟨Or.inl rfl, trivial⟩⟩
  | 3 => ⟨(Memref.whole main_v4 : Memref sig .tc .hbm S1x1024 .f32), bM, semP 3, (Memref.isWhole_whole _).wordExact, (Memref.isWhole_whole _).wordExact, ⟨Or.inl rfl, trivial⟩⟩
  | 4 => ⟨(Memref.whole main_arg7 : Memref sig .tc .hbm S8x2816 .f32), wsM, semP 4, (Memref.isWhole_whole _).wordExact, (Memref.isWhole_whole _).wordExact, ⟨Or.inl rfl, trivial⟩⟩
  | 5 => xX 0
  | 6 => xX 1
  | 7 => xX 2
  | 8 => xX 3
  | 9 => xX 4
  | 10 => xX 5
  | 11 => xW (w := 512) 0 0 (by decide)
  | 12 => xW (w := 512) 1 512 (by decide)
  | 13 => xW (w := 512) 2 1024 (by decide)
  | 14 => xW (w := 512) 3 1536 (by decide)
  | 15 => xW (w := 512) 4 2048 (by decide)
  | 16 => xW (w := 256) 5 2560 (by decide)
  | 17 => ⟨(Memref.whole main_arg6 : Memref sig .tc .hbm S512x2816 .i8), wpM, cc0_scratch25.sem, (Memref.isWhole_whole _).wordExact, (Memref.isWhole_whole _).wordExact, ⟨Or.inl rfl, trivial⟩⟩
  | 18 => ⟨a8M, (Memref.whole main_v5_4 : Memref sig .tc .hbm S1536x1024 .i8), semO 0, (Memref.isWhole_whole _).wordExact, (Memref.isWhole_whole _).wordExact, ⟨Or.inl rfl, trivial⟩⟩
  | 19 => ⟨sM, (Memref.whole main_v5_5 : Memref sig .tc .hbm S4x384 .f32), semO 1, (Memref.isWhole_whole _).wordExact, (Memref.isWhole_whole _).wordExact, ⟨Or.inl rfl, trivial⟩⟩
  | 20 => ⟨klM, (Memref.whole main_v5_0 : Memref sig .tc .hbm S1x2816 .f32), semO 2, (Memref.isWhole_whole _).wordExact, (Memref.isWhole_whole _).wordExact, ⟨Or.inl rfl, trivial⟩⟩
  | 21 => xO 0
  | 22 => xO 1
  | 23 => xO 2
  | 24 => ⟨dgM, (Memref.whole main_v5_1 : Memref sig .tc .hbm S1x1024 .f32), semO 6, (Memref.isWhole_whole _).wordExact, (Memref.isWhole_whole _).wordExact, ⟨Or.inl rfl, trivial⟩⟩
  | 25 => ⟨dbM, (Memref.whole main_v5_2 : Memref sig .tc .hbm S1x1024 .f32), semO 7, (Memref.isWhole_whole _).wordExact, (Memref.isWhole_whole _).wordExact, ⟨Or.inl rfl, trivial⟩⟩
  | ⟨_ + 26, h⟩ => absurd h (Nat.not_lt.2 (Nat.le_add_left _ _))

/-! ## The program -/

/-- A column block of the weight. -/
structure Blk where
  w : ℕ
  W : Wd w
  co : ℕ
  hc : co + w ≤ 2816

/-- The six column blocks: five of 512 columns and one of 256. -/
def blk : Fin 6 → Blk
  | 0 => ⟨512, w512, 0, by decide⟩
  | 1 => ⟨512, w512, 512, by decide⟩
  | 2 => ⟨512, w512, 1024, by decide⟩
  | 3 => ⟨512, w512, 1536, by decide⟩
  | 4 => ⟨512, w512, 2048, by decide⟩
  | 5 => ⟨256, w256, 2560, by decide⟩

/-- The parts of the program. -/
inductive Step where
  | start (k : Fin 26)
  | wait (k : Fin 26)
  | ln (i : Fin 48)
  | row (i : Fin 12)
  | yf0 (j : Fin 6)
  | yf (t j : Fin 6)
  | deq (j : Fin 6) (g : Fin 4)
  | q (j : Fin 6)

/-- A part as a program. -/
def Step.prog : Step → PP F → PP F
  | .start k => (X k).start
  | .wait k => (X k).wait
  | .ln i => lnP i
  | .row i => rowP i
  | .yf0 j => yf0P (blk j).W (blk j).co (blk j).hc
  | .yf t j => yfP (blk j).W (blk j).co (blk j).hc t
  | .deq j g => deqP (blk j).W (blk j).co (blk j).hc g
  | .q j => qP (blk j).W (blk j).co (blk j).hc ⟨(j : ℕ) % 2, Nat.mod_lt _ (by decide)⟩

/-- The copies in. -/
def stIn : List Step :=
  [.start 5, .start 0, .start 1, .start 2, .start 3, .start 4, .start 6, .start 11, .start 12, .start 13, .start 14, .start 15, .start 16,
    .start 7, .start 8, .start 9, .start 10, .start 17, .wait 0, .wait 1, .wait 2, .wait 3, .wait 4, .wait 5]

/-- A tile of 256 rows: its norms, and its scales as two rows. -/
def stLn (t : Fin 6) : List Step :=
  [.ln ⟨8 * (t : ℕ) + 0, by omega⟩, .ln ⟨8 * (t : ℕ) + 1, by omega⟩, .ln ⟨8 * (t : ℕ) + 2, by omega⟩, .ln ⟨8 * (t : ℕ) + 3, by omega⟩,
    .ln ⟨8 * (t : ℕ) + 4, by omega⟩, .ln ⟨8 * (t : ℕ) + 5, by omega⟩, .ln ⟨8 * (t : ℕ) + 6, by omega⟩, .ln ⟨8 * (t : ℕ) + 7, by omega⟩,
    .row ⟨2 * (t : ℕ) + 0, by omega⟩, .row ⟨2 * (t : ℕ) + 1, by omega⟩]

/-- The float output of the first tile. -/
def stY0 : List Step :=
  [.wait 11, .yf0 0, .wait 12, .yf0 1, .wait 13, .yf0 2, .wait 14, .yf0 3, .wait 15, .yf0 4, .wait 16, .yf0 5]
/-- The float output of a later tile. -/
def stY (t : Fin 6) : List Step := [.yf t 0, .yf t 1, .yf t 2, .yf t 3, .yf t 4, .yf t 5]
/-- The dequantisation of a column block. -/
def stD (j : Fin 6) : List Step := [.deq j 0, .deq j 1, .deq j 2, .deq j 3]

/-- The norms and the float output. -/
def steps1 : List Step :=
  stLn 0 ++ .wait 6 :: stLn 1 ++ stY0 ++ .wait 7 :: stLn 2 ++ stY 1 ++ .wait 8 :: stLn 3 ++ stY 2 ++ .wait 9 :: stLn 4 ++ stY 3
    ++ .wait 10 :: stLn 5 ++ stY 4 ++ stY 5 ++ [.start 18, .start 19, .wait 17]

/-- The quantised output. -/
def steps2 : List Step :=
  stD 0 ++ stD 1 ++ .q 0 :: stD 2 ++ .q 1 :: stD 3 ++ .q 2 :: stD 4 ++ .q 3 :: stD 5 ++ [.q 4, .q 5, .start 20]

/-- Parts in sequence. -/
def run (l : List Step) (K : PP F) : PP F := l.foldr Step.prog K

/-- The backward product, its sums, and the copies out. -/
def tail : PP F :=
  dhP 0 0 fun d00 n00 => dhP 0 1 fun d01 n01 => (X 21).start <|
  dhP 1 0 fun d10 n10 => dhP 1 1 fun d11 n11 => (X 22).start <|
  dhP 2 0 fun d20 n20 => dhP 2 1 fun d21 n21 => (X 23).start <|
  dgP dgM 0 (tot3 (fold512 w512 (mulf d00 n00)) (fold512 w512 (mulf d10 n10)) (fold512 w512 (mulf d20 n20))) <|
  dgP dbM 0 (tot3 (fold512 w512 d00) (fold512 w512 d10) (fold512 w512 d20)) <|
  dgP dgM 1 (tot3 (fold512 w512 (mulf d01 n01)) (fold512 w512 (mulf d11 n11)) (fold512 w512 (mulf d21 n21))) <|
  dgP dbM 1 (tot3 (fold512 w512 d01) (fold512 w512 d11) (fold512 w512 d21)) <|
  run [.start 24, .start 25, .wait 18, .wait 19, .wait 20, .wait 21, .wait 22, .wait 23, .wait 24, .wait 25] (.ret ⟨⟩)

/-- The whole body. -/
def body : PP F := run stIn <| run steps1 <| run steps2 tail

end Cert.KernelIdeal.Tweak
-- ==== Proof.TweakEq.lean ====
/-
  Hand-written, untrusted. The printed body is the body written over its parts.
-/
module

public import proofs.«01_k».proof.Proof.Tweak

@[expose] public section

set_option maxRecDepth 65536

noncomputable section

namespace Cert.KernelIdeal.Tweak

open Idealize.ShloMosaic Idealize.SL.Sem
open Cert.KernelIdeal
open Facts₀ Facts

variable {F : FTy → Type} [FloatOps F] [Named F]

set_option maxHeartbeats 0 in
/-- The kernel's body is `body`. -/
theorem defs_body (t) : (defs₀ (F := F) .tc 0 t) = body := by
  rfl

end Cert.KernelIdeal.Tweak
-- ==== Proof.Exec.lean ====
/-
  Hand-written, untrusted. The run of the body, on plain states.

  `pl` is the program's plan of transfers. `Step.next` is what each part does to a state, and `good_step` says that the part does it
  where the transfers it needs done are not in flight (`Step.ok`). `good_body` runs the whole body: from a state with nothing in flight
  to the state `endS`, with nothing in flight.
-/
module

public import proofs.«01_k».proof.Proof.Machine
public import proofs.«01_k».proof.Proof.TweakEq
public import Idealize.ShloMosaic.Lib.ViewIndex

@[expose] public section

set_option maxRecDepth 16384

noncomputable section

namespace Cert.KernelIdeal.Tweak

open Idealize.ShloMosaic Idealize.ShloMosaic.TcCoe
open Idealize.SL Idealize.SL.RA Idealize.SL.BI Idealize.SL.Sem
open Idealize.ShloMosaic.Pipeline (UC)
open Cert.KernelIdeal
open Cert.Machine
open Facts₀ Facts

variable {F : FTy → Type} [FloatOps F] [Named F]

/-! ## The plan of the transfers -/

abbrev srcR (k : Fin 26) : Ref sig .tc := (X k).src.view.ref
abbrev dstR (k : Fin 26) : Ref sig .tc := (X k).dst.view.ref

/-- No buffer is the source of one transfer and the destination of another. -/
theorem src_ne_dst : ∀ k k', srcR k ≠ dstR k' := by decide +kernel

/-- Which of the three families of row or column blocks a transfer belongs to; a number of its own for the others. -/
def fam (k : Fin 26) : ℕ :=
  if 5 ≤ (k : ℕ) ∧ (k : ℕ) ≤ 10 then 100 else if 11 ≤ (k : ℕ) ∧ (k : ℕ) ≤ 16 then 101 else if 21 ≤ (k : ℕ) ∧ (k : ℕ) ≤ 23 then 102 else k

/-- Transfers with one source are of one family. -/
theorem src_fam : ∀ k k', srcR k = srcR k' → fam k = fam k' := by decide +kernel
/-- Transfers with one destination are of one family. -/
theorem dst_fam : ∀ k k', dstR k = dstR k' → fam k = fam k' := by decide +kernel

/-- Two transfers of one family are two row blocks of the tokens, two column blocks of the float weight, or two row blocks of the token derivative. -/
theorem same_fam : ∀ k k' : Fin 26, k ≠ k' → fam k = fam k' →
    (∃ t t' : Fin 6, t ≠ t' ∧ k = ⟨5 + (t : ℕ), by omega⟩ ∧ k' = ⟨5 + (t' : ℕ), by omega⟩)
    ∨ (∃ t t' : Fin 6, t ≠ t' ∧ k = ⟨11 + (t : ℕ), by omega⟩ ∧ k' = ⟨11 + (t' : ℕ), by omega⟩)
    ∨ (∃ t t' : Fin 3, t ≠ t' ∧ k = ⟨21 + (t : ℕ), by omega⟩ ∧ k' = ⟨21 + (t' : ℕ), by omega⟩) := by decide +kernel

/-- The transfer of a row block of the tokens. -/
theorem X_x (t : Fin 6) : X ⟨5 + (t : ℕ), by omega⟩ = xX t := by fin_cases t <;> rfl
/-- The transfer of a column block of the float weight. -/
theorem X_w (j : Fin 6) : X ⟨11 + (j : ℕ), by omega⟩ = xW j (blk j).co (blk j).hc := by fin_cases j <;> rfl
/-- The transfer of a row block of the token derivative. -/
theorem X_o (m : Fin 3) : X ⟨21 + (m : ℕ), by omega⟩ = xO m := by fin_cases m <;> rfl

/-- The columns of two blocks of the weight do not meet. -/
theorem blk_sep : ∀ j j' : Fin 6, j ≠ j' → (blk j).co + (blk j).w ≤ (blk j').co ∨ (blk j').co + (blk j').w ≤ (blk j).co := by decide +kernel

/-- Boxes apart along the rows, or along the columns, do not meet. -/
theorem box_rows {P Q a b p q a' b' p' q' : ℕ} {h1 : a + p ≤ P} {h2 : b + q ≤ Q} {h1' : a' + p' ≤ P} {h2' : b' + q' ≤ Q}
    (h : a + p ≤ a' ∨ a' + p' ≤ a) : Disjoint (box a b p q h1 h2).set (box a' b' p' q' h1' h2').set :=
  Rect.unit_disjoint (s := ⟨2, ![P, Q]⟩) 0 h
/-- Two rectangles with separate columns do not meet. -/
theorem box_cols {P Q a b p q a' b' p' q' : ℕ} {h1 : a + p ≤ P} {h2 : b + q ≤ Q} {h1' : a' + p' ≤ P} {h2' : b' + q' ≤ Q}
    (h : b + q ≤ b' ∨ b' + q' ≤ b) : Disjoint (box a b p q h1 h2).set (box a' b' p' q' h1' h2').set :=
  Rect.unit_disjoint (s := ⟨2, ![P, Q]⟩) 1 h

/-- Two tiles of 256 rows do not meet. -/
theorem hfR_sep {t t' : Fin 6} (h : t ≠ t') : Disjoint (hfR t).set (hfR t').set :=
  box_rows (by have : (t : ℕ) ≠ t' := fun e => h (Fin.ext e); omega)
/-- Two tiles of 512 rows do not meet. -/
theorem aT_sep {t t' : Fin 3} (h : t ≠ t') : Disjoint (aT t).set (aT t').set :=
  box_rows (by have : (t : ℕ) ≠ t' := fun e => h (Fin.ext e); omega)
/-- Two column blocks of the float weight do not meet. -/
theorem wrR_sep {j j' : Fin 6} (h : j ≠ j') : Disjoint (wrR (blk j).co (blk j).hc).set (wrR (blk j').co (blk j').hc).set :=
  box_cols (blk_sep j j' h)

variable (c : Dev nD)

/-- A transfer of the program. -/
def cpy (x : Xfer) : Copy τ sig c := Copy.of x.src x.dst x.sem

variable {c} in
/-- Two transfers share no element where neither reads what the other writes and they read, and write, apart. -/
theorem lent_disj (x y : Copy τ sig c) (hx : x.dst ≠ x.src) (hy : y.dst ≠ y.src) (h1 : x.src ≠ y.dst) (h2 : y.src ≠ x.dst)
    (hs : ∀ h : y.src = x.src, Disjoint x.sset (h ▸ y.sset)) (hd : ∀ h : y.dst = x.dst, Disjoint x.dset (h ▸ y.dset)) (b : Ref sig .tc) :
    Disjoint (x.lent c b) (y.lent c b) := by
  obtain ⟨_, xs, xd, xss, xds, _⟩ := x
  obtain ⟨_, ys, yd, yss, yds, _⟩ := y
  dsimp only at *
  unfold Copy.lent
  dsimp only
  by_cases hbs : b = xs
  · subst hbs
    rw [dif_pos rfl]
    by_cases hbs' : b = ys
    · subst hbs'
      rw [dif_pos rfl]; exact hs rfl
    · rw [dif_neg hbs', dif_neg h1]; exact Finset.disjoint_empty_right _
  · rw [dif_neg hbs]
    by_cases hbd : b = xd
    · subst hbd
      rw [dif_pos rfl, dif_neg (fun e => h2 e.symm)]
      by_cases hbd' : b = yd
      · subst hbd'
        rw [dif_pos rfl]; exact hd rfl
      · rw [dif_neg hbd']; exact Finset.disjoint_empty_right _
    · rw [dif_neg hbd]; exact Finset.disjoint_empty_left _

/-- Two transfers borrow separate elements of every buffer. -/
theorem cpy_disj (k k' : Fin 26) (h : k ≠ k') (b : Ref sig .tc) : Disjoint ((cpy c (X k)).lent c b) ((cpy c (X k')).lent c b) := by
  by_cases hf : fam k = fam k'
  · rcases same_fam k k' h hf with ⟨t, t', ht, rfl, rfl⟩ | ⟨t, t', ht, rfl, rfl⟩ | ⟨t, t', ht, rfl, rfl⟩
    · rw [X_x, X_x]
      refine lent_disj _ _ ?_ ?_ ?_ ?_ (fun _ => ?_) (fun _ => ?_) b
      · show xM.view.ref ≠ (Memref.whole main_v0 : Memref sig .tc .hbm S1536x1024 .bf16).view.ref; decide
      · show xM.view.ref ≠ (Memref.whole main_v0 : Memref sig .tc .hbm S1536x1024 .bf16).view.ref; decide
      · show (Memref.whole main_v0 : Memref sig .tc .hbm S1536x1024 .bf16).view.ref ≠ xM.view.ref; decide
      · show (Memref.whole main_v0 : Memref sig .tc .hbm S1536x1024 .bf16).view.ref ≠ xM.view.ref; decide
      · exact View.disjoint_slice (v := (Memref.whole main_v0 : Memref sig .tc .hbm S1536x1024 .bf16).view) (hfR_sep ht)
      · exact View.disjoint_slice (v := xM.view) (hfR_sep ht)
    · rw [X_w, X_w]
      refine lent_disj _ _ ?_ ?_ ?_ ?_ (fun _ => ?_) (fun _ => ?_) b
      · show wrM.view.ref ≠ (Memref.whole main_arg5 : Memref sig .tc .hbm S1024x2816 .bf16).view.ref; decide
      · show wrM.view.ref ≠ (Memref.whole main_arg5 : Memref sig .tc .hbm S1024x2816 .bf16).view.ref; decide
      · show (Memref.whole main_arg5 : Memref sig .tc .hbm S1024x2816 .bf16).view.ref ≠ wrM.view.ref; decide
      · show (Memref.whole main_arg5 : Memref sig .tc .hbm S1024x2816 .bf16).view.ref ≠ wrM.view.ref; decide
      · exact View.disjoint_slice (v := (Memref.whole main_arg5 : Memref sig .tc .hbm S1024x2816 .bf16).view) (wrR_sep ht)
      · exact View.disjoint_slice (v := wrM.view) (wrR_sep ht)
    · rw [X_o, X_o]
      refine lent_disj _ _ ?_ ?_ ?_ ?_ (fun _ => ?_) (fun _ => ?_) b
      · show (Memref.whole main_v5_3 : Memref sig .tc .hbm S1536x1024 .f32).view.ref ≠ dhM.view.ref; decide
      · show (Memref.whole main_v5_3 : Memref sig .tc .hbm S1536x1024 .f32).view.ref ≠ dhM.view.ref; decide
      · show dhM.view.ref ≠ (Memref.whole main_v5_3 : Memref sig .tc .hbm S1536x1024 .f32).view.ref; decide
      · show dhM.view.ref ≠ (Memref.whole main_v5_3 : Memref sig .tc .hbm S1536x1024 .f32).view.ref; decide
      · exact View.disjoint_slice (v := dhM.view) (aT_sep ht)
      · exact View.disjoint_slice (v := (Memref.whole main_v5_3 : Memref sig .tc .hbm S1536x1024 .f32).view) (aT_sep ht)
  · exact lent_disj _ _ (src_ne_dst k k).symm (src_ne_dst k' k').symm (src_ne_dst k k') (src_ne_dst k' k)
      (fun e => absurd (src_fam k k' e.symm) hf) (fun e => absurd (dst_fam k k' e.symm) hf) b

/-- Every transfer moves something. -/
theorem numel_pos : ∀ k : Fin 26, 0 < (X k).s.numel := by
  intro k
  fin_cases k
  all_goals first | exact numel2 (by decide) (by decide)

/-- The plan of the transfers. -/
def pl : Plan nD τ sig c (Fin 26) where
  cp k := cpy c (X k)
  ne k := (src_ne_dst k k).symm
  pos k := (X k).dst.view.dmaCredit_pos (numel_pos k)
  disj := cpy_disj c

/-! ## What is lent -/

/-- No element of a buffer is lent where no transfer in flight touches it. -/
theorem busy_none {fly : Finset (Fin 26)} {b : Ref sig .tc} (h : ∀ k ∈ fly, b ≠ srcR k ∧ b ≠ dstR k) : (pl c).busy fly b = ∅ := by
  unfold Plan.busy
  refine Finset.eq_empty_of_forall_notMem fun i hi => ?_
  obtain ⟨k, hk, hi⟩ := Finset.mem_biUnion.mp hi
  rw [Copy.lent_none _ _ (h k hk).1 (h k hk).2] at hi
  exact absurd hi (Finset.notMem_empty i)

variable {c}

/-- No element of a buffer is lent where the transfers that touch it are not in flight. -/
theorem free_of {fly : Finset (Fin 26)} {b : Ref sig .tc} (T : List (Fin 26)) (hT : ∀ k, k ∉ T → b ≠ srcR k ∧ b ≠ dstR k) (h : ∀ k ∈ T, k ∉ fly)
    (A : Finset (Idx (L τ c b))) : Disjoint A ((pl c).busy fly b) := by
  rw [busy_none c (fun k hk => hT k fun hk' => h k hk' hk)]
  exact Finset.disjoint_empty_right A

/-- Only the transfers of its row blocks touch the buffer of the tokens. -/
theorem touch_x : ∀ k, (∃ t : Fin 6, k = ⟨5 + (t : ℕ), by omega⟩) ∨ (xM.view.ref ≠ srcR k ∧ xM.view.ref ≠ dstR k) := by decide +kernel
/-- Only the transfers of its column blocks touch the buffer of the float weight. -/
theorem touch_w : ∀ k, (∃ t : Fin 6, k = ⟨11 + (t : ℕ), by omega⟩) ∨ (wrM.view.ref ≠ srcR k ∧ wrM.view.ref ≠ dstR k) := by decide +kernel
/-- Only the transfers of its row blocks touch the buffer of the token derivative. -/
theorem touch_dh : ∀ k, (∃ t : Fin 3, k = ⟨21 + (t : ℕ), by omega⟩) ∨ (dhM.view.ref ≠ srcR k ∧ dhM.view.ref ≠ dstR k) := by decide +kernel

/-- The tile of 256 tokens that 32 rows lie in. -/
abbrev tileOf (i : Fin 48) : Fin 6 := ⟨(i : ℕ) / 8, by omega⟩

/-- 32 rows of the tokens are free when the transfer of their tile is not in flight. -/
theorem free_x {fly : Finset (Fin 26)} (i : Fin 48) (h : (⟨5 + (tileOf i : ℕ), by omega⟩ : Fin 26) ∉ fly) :
    Disjoint (xM.view.slice (rows i)).set ((pl c).busy fly xM.view.ref) := by
  unfold Plan.busy
  rw [Finset.disjoint_biUnion_right]
  intro k hk
  rcases touch_x k with ⟨t, rfl⟩ | hn
  · have ht : t ≠ tileOf i := fun e => h (e ▸ hk)
    have : ((pl c).cp ⟨5 + (t : ℕ), by omega⟩).lent c xM.view.ref = (xM.view.slice (hfR t)).set := by
      show (cpy c (X _)).lent c xM.view.ref = _
      rw [X_x]
      exact Copy.lent_dst (c := c) (cpy c (xX t)) (by
        show xM.view.ref ≠ (Memref.whole main_v0 : Memref sig .tc .hbm S1536x1024 .bf16).view.ref; decide)
    rw [this]
    refine View.disjoint_slice (v := xM.view) (box_rows ?_)
    have : (t : ℕ) ≠ (i : ℕ) / 8 := fun e => ht (Fin.ext e)
    omega
  · rw [Copy.lent_none _ _ hn.1 hn.2]; exact Finset.disjoint_empty_right _

/-- A column block of the float weight is free when its transfer is not in flight. -/
theorem free_w {fly : Finset (Fin 26)} (j : Fin 6) (h : (⟨11 + (j : ℕ), by omega⟩ : Fin 26) ∉ fly) :
    Disjoint (wrM.view.slice (wrR (blk j).co (blk j).hc)).set ((pl c).busy fly wrM.view.ref) := by
  unfold Plan.busy
  rw [Finset.disjoint_biUnion_right]
  intro k hk
  rcases touch_w k with ⟨t, rfl⟩ | hn
  · have ht : j ≠ t := fun e => h (e ▸ hk)
    have : ((pl c).cp ⟨11 + (t : ℕ), by omega⟩).lent c wrM.view.ref = (wrM.view.slice (wrR (blk t).co (blk t).hc)).set := by
      show (cpy c (X _)).lent c wrM.view.ref = _
      rw [X_w]
      exact Copy.lent_dst (c := c) (cpy c (xW t (blk t).co (blk t).hc)) (by
        show wrM.view.ref ≠ (Memref.whole main_arg5 : Memref sig .tc .hbm S1024x2816 .bf16).view.ref; decide)
    rw [this]
    exact View.disjoint_slice (v := wrM.view) (wrR_sep ht)
  · rw [Copy.lent_none _ _ hn.1 hn.2]; exact Finset.disjoint_empty_right _

/-- A block of the token derivative is free when the transfer of its rows is not in flight. -/
theorem free_dh {fly : Finset (Fin 26)} (m : Fin 3) (cc : Fin 2) (h : (⟨21 + (m : ℕ), by omega⟩ : Fin 26) ∉ fly) :
    Disjoint (dhM.view.slice (dhR m cc)).set ((pl c).busy fly dhM.view.ref) := by
  unfold Plan.busy
  rw [Finset.disjoint_biUnion_right]
  intro k hk
  rcases touch_dh k with ⟨t, rfl⟩ | hn
  · have ht : m ≠ t := fun e => h (e ▸ hk)
    have : ((pl c).cp ⟨21 + (t : ℕ), by omega⟩).lent c dhM.view.ref = (dhM.view.slice (aT t)).set := by
      show (cpy c (X _)).lent c dhM.view.ref = _
      rw [X_o]
      exact Copy.lent_src (c := c) (cpy c (xO t))
    rw [this]
    refine View.disjoint_slice (v := dhM.view) (box_rows ?_)
    have : (m : ℕ) ≠ (t : ℕ) := fun e => ht (Fin.ext e)
    omega
  · rw [Copy.lent_none _ _ hn.1 hn.2]; exact Finset.disjoint_empty_right _

/-! ## States -/

/-- The state of the core. -/
abbrev S (F : FTy → Type) [FloatOps F] [Named F] (c : Dev nD) := St nD τ sig (Elt F) c (Fin 26)

/-- The elements of a buffer under a rectangle. -/
def rd (σ : S F c) {s : Shape} {e : EltTy} (m : Memref sig .tc .vmem s e) (r : Rect s) : r.shape.Idx → Elt F e :=
  (m.view.slice r).read (Elt F) (σ.mem m.view.ref)

/-- The state with the elements under a rectangle overwritten. -/
def wt (σ : S F c) {s : Shape} {e : EltTy} (m : Memref sig .tc .vmem s e) (r : Rect s) (w : r.shape.Idx → Elt F e) : S F c :=
  σ.put m.view.ref ((m.view.slice r).write (Elt F) (σ.mem m.view.ref) w Finset.univ)

/-- The state with a transfer started. -/
def go (σ : S F c) (k : Fin 26) : S F c :=
  σ.start k (X k).dst.view.ref ((X k).dst.view.write (Elt F) (σ.mem (X k).dst.view.ref) ((X k).src.view.read (Elt F) (σ.mem (X k).src.view.ref)) Finset.univ)

local notation "𝕄" => MT nD τ sig Unit (Elt F) ℕ (UC sig nD τ) ℕ

variable {𝒱 : Variants} {bd : Option 𝒱.V} {defs : Defs nD τ sig (Elt F) Λ₀}

/-- From the state the program runs to the post. -/
abbrev gd (defs : Defs nD τ sig (Elt F) Λ₀) (𝒱 : Variants) (bd : Option 𝒱.V) (Q : PUnit → sProp (MT nD τ sig Unit (Elt F) ℕ (UC sig nD τ) ℕ)) (σ : S F c) (p : PP F) : Prop :=
  good defs 𝒱 bd (pl c) Q σ p

/-- A load of free elements goes on with what it reads. -/
theorem good_ld {Q : PUnit → sProp (MT nD τ sig Unit (Elt F) ℕ (UC sig nD τ) ℕ)} {σ : S F c} {s : Shape} {e : EltTy} {m : Memref sig .tc .vmem s e} {r : Rect s} {hl : m.view.LoadsAt r.toLoadRect}
    {K : (r.shape.Idx → Elt F e) → PP F} (hd : Disjoint (m.view.slice r).set ((pl c).busy σ.fly m.view.ref))
    (h : gd defs 𝒱 bd Q σ (K (rd σ m r))) : gd defs 𝒱 bd Q σ (.op (.load m r.toLoadRect hl) K) := by
  rw [View.set_slice] at hd
  exact good_load hd h

/-- A store to free elements goes on with the memory changed. -/
theorem good_wr {Q : PUnit → sProp (MT nD τ sig Unit (Elt F) ℕ (UC sig nD τ) ℕ)} {σ : S F c} {s : Shape} {e : EltTy} {m : Memref sig .tc .vmem s e} {r : Rect s} {hl : m.view.LoadsAt r.toLoadRect}
    {hx : (m.access r).Stores Finset.univ} {w : r.shape.Idx → Elt F e}
    {K : PP F} (hd : Disjoint (m.view.slice r).set ((pl c).busy σ.fly m.view.ref))
    (h : gd defs 𝒱 bd Q (wt σ m r w) K) :
    gd defs 𝒱 bd Q σ (.op (.load m r.toLoadRect hl) fun _ => .op (.store m r w Finset.univ hx (.inl rfl)) fun _ => K) :=
  good_ld hd (good_store hd h)

/-- A transfer that is not in flight can be started. -/
theorem good_go {Q : PUnit → sProp (MT nD τ sig Unit (Elt F) ℕ (UC sig nD τ) ℕ)} {σ : S F c} {k : Fin 26} {K : PP F} (hk : k ∉ σ.fly)
    (h : gd defs 𝒱 bd Q (go σ k) K) : gd defs 𝒱 bd Q σ ((X k).start K) :=
  good_start k rfl hk h

/-- A transfer in flight can be waited for. -/
theorem good_done {Q : PUnit → sProp (MT nD τ sig Unit (Elt F) ℕ (UC sig nD τ) ℕ)} {σ : S F c} {k : Fin 26} {K : PP F} (hk : k ∈ σ.fly)
    (h : gd defs 𝒱 bd Q (σ.done k) K) : gd defs 𝒱 bd Q σ ((X k).wait K) :=
  good_wait k rfl rfl hk h

/-! ## What the parts do -/

/-- The norms and the quantisation of 32 rows. -/
def lnS (i : Fin 48) (σ : S F c) : S F c :=
  let x := rd σ xM (rows i)
  let σ := wt σ nM (rows i) (shapeCast S32x1024 (lnN x) shapeCasts_S32x1024_S32x1024)
  let g0 := rd σ g0M rowsAll
  let b0 := rd σ b0M rowsAll
  let σ := wt σ hfM (rows i) (shapeCast S32x1024 (truncf .bf16 (lnAff (lnN x) g0 b0) bitsLt_bf16_f32) shapeCasts_S32x1024_S32x1024)
  let g := rd σ gM rowsAll
  let b := rd σ bM rowsAll
  let σ := wt σ aM (rows i) (shapeCast S32x1024 (truncf .bf16 (lnQ (lnAff (lnN x) g b)) bitsLt_bf16_f32) shapeCasts_S32x1024_S32x1024)
  let σ := wt σ a8M (rows i) (shapeCast S32x1024 (fptosi 8 (lnQ (lnAff (lnN x) g b))) shapeCasts_S32x1024_S32x1024)
  wt σ sbM (sbRows i)
    (shapeCast S32x128 (broadcastTo S32x128 (shapeCast S32x1 (lnScale (lnAff (lnN x) g b)) shapeCasts_S32x1_S32x1) broadcasts_S32x1_S32x128) shapeCasts_S32x128_S32x128)

abbrev sbD (i : Fin 12) : Rect S1536x128 := box (128 * (i : ℕ)) 0 128 128 (by omega) (le_refl _)
abbrev sR (i : Fin 12) : Rect S4x384 := box ((i : ℕ) / 3) (128 * ((i : ℕ) % 3)) 1 128 (by omega) (by omega)

/-- 128 scales as a row. -/
def rowS (i : Fin 12) (σ : S F c) : S F c :=
  wt σ sM (sR i) (shapeCast S1x128 (rowV (rd σ sbM (sbD i))) shapeCasts_S1x128_S1x128)

section Width
variable {w : ℕ} (W : Wd w) (co : ℕ) (hc : co + w ≤ 2816)

/-- The float output of the first tile. -/
def yf0S (σ : S F c) : S F c :=
  let y := yfV W (rd σ hfM (hfR 0)) (rd σ wrM (wrR co hc))
  let σ := wt σ stM (stR co hc 0 (by decide)) (shapeCast ⟨2, ![8, w]⟩ (broadcastTo ⟨2, ![8, w]⟩ (shapeCast ⟨2, ![1, w]⟩ (pilot W y) W.id1) W.bc8) W.id8)
  let σ := wt σ stM (stR co hc 8 (by decide)) (shapeCast ⟨2, ![8, w]⟩ (fold256 W (less W y (pilot W y))) W.id8)
  wt σ stM (stR co hc 16 (by decide)) (shapeCast ⟨2, ![8, w]⟩ (fold256 W (mulf (less W y (pilot W y)) (less W y (pilot W y)))) W.id8)

/-- The float output of a later tile. -/
def yfS (t : Fin 6) (σ : S F c) : S F c :=
  let y := yfV W (rd σ hfM (hfR t)) (rd σ wrM (wrR co hc))
  let p := rd σ stM (st0 co hc)
  let σ := wt σ stM (stR co hc 8 (by decide)) (shapeCast ⟨2, ![8, w]⟩ (addf (rd σ stM (stR co hc 8 (by decide))) (fold256 W (less W y p))) W.id8)
  wt σ stM (stR co hc 16 (by decide)) (shapeCast ⟨2, ![8, w]⟩ (addf (rd σ stM (stR co hc 16 (by decide))) (fold256 W (mulf (less W y p) (less W y p)))) W.id8)

/-- The dequantised weight of one group of bytes. -/
def deqS (g : Fin 4) (σ : S F c) : S F c :=
  let v := rd σ wpM (wpR co hc g)
  let σ := wt σ wqM (wqR co hc (lo g)) (shapeCast ⟨2, ![128, w]⟩ (deqV W (nibLo v) (rd σ wsM (wsR co hc (lo g)))) W.id128)
  wt σ wqM (wqR co hc (up g)) (shapeCast ⟨2, ![128, w]⟩ (deqV W (nibHi v) (rd σ wsM (wsR co hc (up g)))) W.id128)

/-- The quantised output of 512 rows. -/
def yqOf (m : Fin 3) (σ : S F c) : FVec F ⟨2, ![512, w]⟩ .f32 := yqV W (rd σ sbM (sbT m)) (rd σ aM (aT m)) (rd σ wqM (wrR co hc))
/-- It kept in a slot. -/
def yqS (k : Fin 2) (m : Fin 3) (σ : S F c) : S F c := wt σ yM (yT W.slot k m) (shapeCast ⟨3, ![1, 512, w]⟩ (yqOf W co hc m σ) W.to3)
/-- The derivative by it. -/
def dyS (k : Fin 2) (m : Fin 3) (mu p q : FVec F ⟨2, ![1, w]⟩ .f32) (σ : S F c) : S F c :=
  wt σ dyM (dyT co hc m) (shapeCast ⟨2, ![512, w]⟩ (dyV W (rd σ yM (yT W.slot k m)) mu p q) W.id512)

/-- A block of columns of the quantised output. -/
def qS (k : Fin 2) (σ0 : S F c) : S F c :=
  let σ1 := yqS W co hc k 0 σ0
  let σ2 := yqS W co hc k 1 σ1
  let σ := yqS W co hc k 2 σ2
  let muq := meanT W (tot3 (fold512 W (yqOf W co hc 0 σ0)) (fold512 W (yqOf W co hc 1 σ1)) (fold512 W (yqOf W co hc 2 σ2)))
  let vq := meanT W (tot3 (sqV W (rd σ yM (yT W.slot k 0)) muq) (sqV W (rd σ yM (yT W.slot k 1)) muq) (sqV W (rd σ yM (yT W.slot k 2)) muq))
  let s1 := rd σ stM (stR co hc 8 (by decide))
  let s2 := rd σ stM (stR co hc 16 (by decide))
  let p0 := rd σ stM (st0 co hc)
  let muf := addf p0 (meanT W s1)
  let vf := vfV (meanT W s1) (meanT W s2)
  let σ := wt σ klM (klR co hc) (shapeCast ⟨2, ![1, w]⟩ (klV muf vf muq vq) W.id1)
  let σ := dyS W co hc k 0 muq (pV muf vf muq vq) (qV muf vf muq vq) σ
  let σ := dyS W co hc k 1 muq (pV muf vf muq vq) (qV muf vf muq vq) σ
  dyS W co hc k 2 muq (pV muf vf muq vq) (qV muf vf muq vq) σ

end Width

/-- The derivative by the norm's output, 512 rows and 512 columns. -/
def dhOf (m : Fin 3) (cc : Fin 2) (σ : S F c) : FVec F S512x512 .f32 := dhV (rd σ dyM (dyR m)) (rd σ wqM (wqH cc))
def dhS (m : Fin 3) (cc : Fin 2) (σ : S F c) : S F c := wt σ dhM (dhR m cc) (shapeCast S512x512 (dhOf m cc σ) shapeCasts_S512x512_S512x512)
/-- A row of 512 sums. -/
def dgS (M : Memref sig .tc .vmem S1x1024 .f32) (cc : Fin 2) (t : FVec F S8x512 .f32) (σ : S F c) : S F c :=
  wt σ M (dgR cc) (shapeCast S1x512 (sum8 w512 t) shapeCasts_S1x512_S1x512)

/-- What a part does. -/
def Step.next : Step → S F c → S F c
  | .start k => fun σ => go σ k
  | .wait k => fun σ => σ.done k
  | .ln i => lnS i
  | .row i => rowS i
  | .yf0 j => yf0S (blk j).W (blk j).co (blk j).hc
  | .yf t j => yfS (blk j).W (blk j).co (blk j).hc t
  | .deq j g => deqS (blk j).W (blk j).co (blk j).hc g
  | .q j => qS (blk j).W (blk j).co (blk j).hc ⟨(j : ℕ) % 2, Nat.mod_lt _ (by decide)⟩

/-- The transfers in flight after a part. -/
def Step.fly : Step → Finset (Fin 26) → Finset (Fin 26)
  | .start k => fun f => insert k f
  | .wait k => fun f => f.erase k
  | _ => id

/-- What a part leaves in flight. -/
theorem next_fly (s : Step) (σ : S F c) : (s.next σ).fly = s.fly σ.fly := by cases s <;> rfl

/-- The transfers that a part needs not in flight. -/
def Step.need : Step → List (Fin 26)
  | .start k => [k]
  | .wait _ => []
  | .ln i => [0, 1, 2, 3, ⟨5 + (tileOf i : ℕ), by omega⟩, 18]
  | .row _ => [19]
  | .yf0 j => [⟨11 + (j : ℕ), by omega⟩]
  | .yf _ j => [⟨11 + (j : ℕ), by omega⟩]
  | .deq _ _ => [17, 4]
  | .q _ => [20]

/-- Where a part can run. -/
def Step.ok (s : Step) (f : Finset (Fin 26)) : Bool :=
  decide (∀ k ∈ s.need, k ∉ f) && (match s with | .wait k => decide (k ∈ f) | _ => true)

/-- A buffer that no transfer touches is free. -/
theorem free0 {fly : Finset (Fin 26)} {b : Ref sig .tc} (hT : ∀ k, b ≠ srcR k ∧ b ≠ dstR k) (A : Finset (Idx (L τ c b))) :
    Disjoint A ((pl c).busy fly b) := free_of [] (fun k _ => hT k) (by simp) A
/-- A buffer that one transfer touches is free when that one is not in flight. -/
theorem free1 {fly : Finset (Fin 26)} {b : Ref sig .tc} (k₀ : Fin 26) (h : k₀ ∉ fly) (hT : ∀ k, k ≠ k₀ → b ≠ srcR k ∧ b ≠ dstR k) (A : Finset (Idx (L τ c b))) :
    Disjoint A ((pl c).busy fly b) := free_of [k₀] (fun k hk => hT k (by simpa using hk)) (by simpa using h) A

/-- No transfer touches the buffer of the normalised tokens. -/
theorem t_n : ∀ k, nM.view.ref ≠ srcR k ∧ nM.view.ref ≠ dstR k := by decide +kernel
/-- No transfer touches the buffer of the float norm's output. -/
theorem t_hf : ∀ k, hfM.view.ref ≠ srcR k ∧ hfM.view.ref ≠ dstR k := by decide +kernel
/-- No transfer touches the buffer of the codes as numbers. -/
theorem t_a : ∀ k, aM.view.ref ≠ srcR k ∧ aM.view.ref ≠ dstR k := by decide +kernel
/-- No transfer touches the buffer of the scales' rows. -/
theorem t_sb : ∀ k, sbM.view.ref ≠ srcR k ∧ sbM.view.ref ≠ dstR k := by decide +kernel
/-- No transfer touches the buffer of the dequantised weight. -/
theorem t_wq : ∀ k, wqM.view.ref ≠ srcR k ∧ wqM.view.ref ≠ dstR k := by decide +kernel
/-- No transfer touches the buffer of the quantised output. -/
theorem t_y : ∀ k, yM.view.ref ≠ srcR k ∧ yM.view.ref ≠ dstR k := by decide +kernel
/-- No transfer touches the buffer of the derivative by the output. -/
theorem t_dy : ∀ k, dyM.view.ref ≠ srcR k ∧ dyM.view.ref ≠ dstR k := by decide +kernel
/-- No transfer touches the buffer of the partial sums. -/
theorem t_st : ∀ k, stM.view.ref ≠ srcR k ∧ stM.view.ref ≠ dstR k := by decide +kernel
/-- One transfer touches the buffer of the float norm's weight. -/
theorem t_g0 : ∀ k, k ≠ 0 → g0M.view.ref ≠ srcR k ∧ g0M.view.ref ≠ dstR k := by decide +kernel
/-- One transfer touches the buffer of the tweaked norm's weight. -/
theorem t_g : ∀ k, k ≠ 1 → gM.view.ref ≠ srcR k ∧ gM.view.ref ≠ dstR k := by decide +kernel
/-- One transfer touches the buffer of the float norm's bias. -/
theorem t_b0 : ∀ k, k ≠ 2 → b0M.view.ref ≠ srcR k ∧ b0M.view.ref ≠ dstR k := by decide +kernel
/-- One transfer touches the buffer of the tweaked norm's bias. -/
theorem t_b : ∀ k, k ≠ 3 → bM.view.ref ≠ srcR k ∧ bM.view.ref ≠ dstR k := by decide +kernel
/-- One transfer touches the buffer of the weight's scales. -/
theorem t_ws : ∀ k, k ≠ 4 → wsM.view.ref ≠ srcR k ∧ wsM.view.ref ≠ dstR k := by decide +kernel
/-- One transfer touches the buffer of the packed weight. -/
theorem t_wp : ∀ k, k ≠ 17 → wpM.view.ref ≠ srcR k ∧ wpM.view.ref ≠ dstR k := by decide +kernel
/-- One transfer touches the buffer of the codes as bytes. -/
theorem t_a8 : ∀ k, k ≠ 18 → a8M.view.ref ≠ srcR k ∧ a8M.view.ref ≠ dstR k := by decide +kernel
/-- One transfer touches the buffer of the scales. -/
theorem t_s : ∀ k, k ≠ 19 → sM.view.ref ≠ srcR k ∧ sM.view.ref ≠ dstR k := by decide +kernel
/-- One transfer touches the buffer of the divergence. -/
theorem t_kl : ∀ k, k ≠ 20 → klM.view.ref ≠ srcR k ∧ klM.view.ref ≠ dstR k := by decide +kernel
/-- One transfer touches the buffer of the derivative by the norm's weight. -/
theorem t_dg : ∀ k, k ≠ 24 → dgM.view.ref ≠ srcR k ∧ dgM.view.ref ≠ dstR k := by decide +kernel
/-- One transfer touches the buffer of the derivative by the norm's bias. -/
theorem t_db : ∀ k, k ≠ 25 → dbM.view.ref ≠ srcR k ∧ dbM.view.ref ≠ dstR k := by decide +kernel

section Parts
variable {Q : PUnit → sProp (MT nD τ sig Unit (Elt F) ℕ (UC sig nD τ) ℕ)} {σ : S F c} {K : PP F}

/-- The norms of 32 tokens run. -/
theorem good_ln (i : Fin 48) (hx : (⟨5 + (tileOf i : ℕ), by omega⟩ : Fin 26) ∉ σ.fly) (h0 : 0 ∉ σ.fly) (h1 : 1 ∉ σ.fly) (h2 : 2 ∉ σ.fly) (h3 : 3 ∉ σ.fly)
    (h18 : 18 ∉ σ.fly) (h : gd defs 𝒱 bd Q (lnS i σ) K) : gd defs 𝒱 bd Q σ (lnP i K) :=
  good_ld (free_x i hx) <| good_wr (free0 t_n _) <| good_ld (free1 0 h0 t_g0 _) <| good_ld (free1 2 h2 t_b0 _) <| good_wr (free0 t_hf _) <|
    good_ld (free1 1 h1 t_g _) <| good_ld (free1 3 h3 t_b _) <| good_wr (free0 t_a _) <| good_wr (free1 18 h18 t_a8 _) <| good_wr (free0 t_sb _) h

/-- The scales of 128 tokens in a row run. -/
theorem good_row (i : Fin 12) (h19 : 19 ∉ σ.fly) (h : gd defs 𝒱 bd Q (rowS i σ) K) : gd defs 𝒱 bd Q σ (rowP i K) :=
  good_ld (free0 t_sb _) <| good_wr (free1 19 h19 t_s _) h

/-- The first tile of the float output runs. -/
theorem good_yf0 (j : Fin 6) (hw : (⟨11 + (j : ℕ), by omega⟩ : Fin 26) ∉ σ.fly) (h : gd defs 𝒱 bd Q (yf0S (blk j).W (blk j).co (blk j).hc σ) K) :
    gd defs 𝒱 bd Q σ (yf0P (blk j).W (blk j).co (blk j).hc K) :=
  good_ld (free0 t_hf _) <| good_ld (free_w j hw) <| good_wr (free0 t_st _) <| good_wr (free0 t_st _) <| good_wr (free0 t_st _) h

/-- A further tile of the float output runs. -/
theorem good_yf (t j : Fin 6) (hw : (⟨11 + (j : ℕ), by omega⟩ : Fin 26) ∉ σ.fly) (h : gd defs 𝒱 bd Q (yfS (blk j).W (blk j).co (blk j).hc t σ) K) :
    gd defs 𝒱 bd Q σ (yfP (blk j).W (blk j).co (blk j).hc t K) :=
  good_ld (free0 t_hf _) <| good_ld (free_w j hw) <| good_ld (free0 t_st _) <| good_ld (free0 t_st _) <| good_wr (free0 t_st _) <|
    good_ld (free0 t_st _) <| good_wr (free0 t_st _) h

section Width
variable {w : ℕ} (W : Wd w) (co : ℕ) (hc : co + w ≤ 2816)

/-- The dequantisation of a group of the weight runs. -/
theorem good_deq (g : Fin 4) (h17 : 17 ∉ σ.fly) (h4 : 4 ∉ σ.fly) (h : gd defs 𝒱 bd Q (deqS W co hc g σ) K) : gd defs 𝒱 bd Q σ (deqP W co hc g K) :=
  good_ld (free1 17 h17 t_wp _) <| good_ld (free1 4 h4 t_ws _) <| good_wr (free0 t_wq _) <| good_ld (free1 4 h4 t_ws _) <| good_wr (free0 t_wq _) h

/-- A tile of the quantised output runs. -/
theorem good_yq (k : Fin 2) (m : Fin 3) {K : FVec F ⟨2, ![512, w]⟩ .f32 → PP F} (h : gd defs 𝒱 bd Q (yqS W co hc k m σ) (K (yqOf W co hc m σ))) :
    gd defs 𝒱 bd Q σ (yqP W co hc k m K) :=
  good_ld (free0 t_sb _) <| good_ld (free0 t_a _) <| good_ld (free0 t_wq _) <| good_wr (free0 t_y _) h

/-- A tile of the derivative by the output runs. -/
theorem good_dy (k : Fin 2) (m : Fin 3) (mu p q : FVec F ⟨2, ![1, w]⟩ .f32) (h : gd defs 𝒱 bd Q (dyS W co hc k m mu p q σ) K) :
    gd defs 𝒱 bd Q σ (dyP W co hc k m mu p q K) :=
  good_ld (free0 t_y _) <| good_wr (free0 t_dy _) h

/-- A column block of the quantised output with its moments, divergence and derivative runs. -/
theorem good_q (k : Fin 2) (h20 : 20 ∉ σ.fly) (h : gd defs 𝒱 bd Q (qS W co hc k σ) K) : gd defs 𝒱 bd Q σ (qP W co hc k K) :=
  good_yq W co hc k 0 <| good_yq W co hc k 1 <| good_yq W co hc k 2 <| good_ld (free0 t_y _) <| good_ld (free0 t_y _) <| good_ld (free0 t_y _) <|
    good_ld (free0 t_st _) <| good_ld (free0 t_st _) <| good_ld (free0 t_st _) <| good_wr (free1 20 h20 t_kl _) <|
    good_dy W co hc k 0 _ _ _ <| good_dy W co hc k 1 _ _ _ <| good_dy W co hc k 2 _ _ _ h

end Width

/-- A block of the token derivative runs. -/
theorem good_dh (m : Fin 3) (cc : Fin 2) (hm : (⟨21 + (m : ℕ), by omega⟩ : Fin 26) ∉ σ.fly) {K : FVec F S512x512 .f32 → Vec F S512x512 .f32 → PP F}
    (h : gd defs 𝒱 bd Q (dhS m cc σ) (K (dhOf m cc σ) (rd (dhS m cc σ) nM (dhR m cc)))) : gd defs 𝒱 bd Q σ (dhP m cc K) :=
  good_ld (free0 t_dy _) <| good_ld (free0 t_wq _) <| good_wr (free_dh m cc hm) <| good_ld (free0 t_n _) h

/-- The sums of the derivative by the norm's weight run. -/
theorem good_dg (cc : Fin 2) (t : FVec F S8x512 .f32) (h24 : 24 ∉ σ.fly) (h : gd defs 𝒱 bd Q (dgS dgM cc t σ) K) : gd defs 𝒱 bd Q σ (dgP dgM cc t K) :=
  good_wr (free1 24 h24 t_dg _) h
/-- The sums of the derivative by the norm's bias run. -/
theorem good_db (cc : Fin 2) (t : FVec F S8x512 .f32) (h25 : 25 ∉ σ.fly) (h : gd defs 𝒱 bd Q (dgS dbM cc t σ) K) : gd defs 𝒱 bd Q σ (dgP dbM cc t K) :=
  good_wr (free1 25 h25 t_db _) h

/-- A part does what it does. -/
theorem good_step (s : Step) (hok : s.ok σ.fly = true) (h : gd defs 𝒱 bd Q (s.next σ) K) : gd defs 𝒱 bd Q σ (s.prog K) := by
  unfold Step.ok at hok
  rw [Bool.and_eq_true, decide_eq_true_eq] at hok
  obtain ⟨hn, hw⟩ := hok
  cases s with
  | start k => exact good_go (hn k (by simp [Step.need])) h
  | wait k => exact good_done (by simpa using hw) h
  | ln i => exact good_ln i (hn _ (by simp [Step.need])) (hn _ (by simp [Step.need])) (hn _ (by simp [Step.need])) (hn _ (by simp [Step.need])) (hn _ (by simp [Step.need])) (hn _ (by simp [Step.need])) h
  | row i => exact good_row i (hn _ (by simp [Step.need])) h
  | yf0 j => exact good_yf0 j (hn _ (by simp [Step.need])) h
  | yf t j => exact good_yf t j (hn _ (by simp [Step.need])) h
  | deq j g => exact good_deq _ _ _ g (hn _ (by simp [Step.need])) (hn _ (by simp [Step.need])) h
  | q j => exact good_q _ _ _ _ (hn _ (by simp [Step.need])) h

/-! ## Parts in sequence -/

/-- Whether the parts can run in sequence. -/
def chk : List Step → Finset (Fin 26) → Bool
  | [], _ => true
  | s :: l, f => s.ok f && chk l (s.fly f)

/-- What parts in sequence do. -/
def nexts (l : List Step) (σ : S F c) : S F c := l.foldl (fun σ s => s.next σ) σ
def flys (l : List Step) (f : Finset (Fin 26)) : Finset (Fin 26) := l.foldl (fun f s => s.fly f) f

/-- What a list of parts leaves in flight. -/
theorem nexts_fly (l : List Step) (σ : S F c) : (nexts l σ).fly = flys l σ.fly := by
  induction l generalizing σ with
  | nil => rfl
  | cons s l ih => exact (ih (s.next σ)).trans (by rw [next_fly]; rfl)

/-- A list of parts runs when the check of its transfers succeeds. -/
theorem good_run (l : List Step) (hok : chk l σ.fly = true) (h : gd defs 𝒱 bd Q (nexts l σ) K) : gd defs 𝒱 bd Q σ (run l K) := by
  induction l generalizing σ with
  | nil => exact h
  | cons s l ih =>
    unfold chk at hok
    rw [Bool.and_eq_true] at hok
    exact good_step s hok.1 (ih (by rw [next_fly]; exact hok.2) h)

end Parts

/-! ## The whole body -/

abbrev stepsO : List Step := [.start 24, .start 25, .wait 18, .wait 19, .wait 20, .wait 21, .wait 22, .wait 23, .wait 24, .wait 25]

/-- After the copies in, the norms and the outputs. -/
def midS (σ : S F c) : S F c := nexts steps2 (nexts steps1 (nexts stIn σ))

section Tail
variable (σ : S F c)
def e00 : S F c := dhS 0 0 σ
def e01 : S F c := dhS 0 1 (e00 σ)
def e10 : S F c := dhS 1 0 (go (e01 σ) 21)
def e11 : S F c := dhS 1 1 (e10 σ)
def e20 : S F c := dhS 2 0 (go (e11 σ) 22)
def e21 : S F c := dhS 2 1 (e20 σ)
/-- The six blocks of the derivative, and of the normalised rows. -/
def d00 := dhOf 0 0 σ
def d01 := dhOf 0 1 (e00 σ)
def d10 := dhOf 1 0 (go (e01 σ) 21)
def d11 := dhOf 1 1 (e10 σ)
def d20 := dhOf 2 0 (go (e11 σ) 22)
def d21 := dhOf 2 1 (e20 σ)
def n00 := rd (e00 σ) nM (dhR 0 0)
def n01 := rd (e01 σ) nM (dhR 0 1)
def n10 := rd (e10 σ) nM (dhR 1 0)
def n11 := rd (e11 σ) nM (dhR 1 1)
def n20 := rd (e20 σ) nM (dhR 2 0)
def n21 := rd (e21 σ) nM (dhR 2 1)

/-- The sums. -/
def sumS : S F c :=
  dgS dbM 1 (tot3 (fold512 w512 (d01 σ)) (fold512 w512 (d11 σ)) (fold512 w512 (d21 σ))) <|
  dgS dgM 1 (tot3 (fold512 w512 (mulf (d01 σ) (n01 σ))) (fold512 w512 (mulf (d11 σ) (n11 σ))) (fold512 w512 (mulf (d21 σ) (n21 σ)))) <|
  dgS dbM 0 (tot3 (fold512 w512 (d00 σ)) (fold512 w512 (d10 σ)) (fold512 w512 (d20 σ))) <|
  dgS dgM 0 (tot3 (fold512 w512 (mulf (d00 σ) (n00 σ))) (fold512 w512 (mulf (d10 σ) (n10 σ))) (fold512 w512 (mulf (d20 σ) (n20 σ)))) <|
  go (e21 σ) 23

/-- The end of the tail. -/
def tailS : S F c := nexts stepsO (sumS σ)

/-- What the last part has in flight before its waits. -/
theorem sumS_fly : (sumS σ).fly = insert 23 (insert 22 (insert 21 σ.fly)) := rfl

end Tail

/-- The last part runs. -/
theorem good_tail {Q : PUnit → sProp (MT nD τ sig Unit (Elt F) ℕ (UC sig nD τ) ℕ)} {σ : S F c} (hf : σ.fly = {18, 19, 20})
    (h : gd defs 𝒱 bd Q (tailS σ) (.ret ⟨⟩)) : gd defs 𝒱 bd Q σ tail := by
  have a0 : σ.fly = {18, 19, 20} := hf
  have a1 : (go (e01 σ) 21).fly = {21, 18, 19, 20} := by show insert 21 σ.fly = _; rw [hf]
  have a2 : (go (e11 σ) 22).fly = {22, 21, 18, 19, 20} := by show insert 22 (insert 21 σ.fly) = _; rw [hf]
  have a3 : (go (e21 σ) 23).fly = {23, 22, 21, 18, 19, 20} := by show insert 23 (insert 22 (insert 21 σ.fly)) = _; rw [hf]
  refine good_dh 0 0 (by rw [a0]; decide) <| good_dh 0 1 (by show _ ∉ σ.fly; rw [a0]; decide) <| good_go (by show _ ∉ σ.fly; rw [a0]; decide) <|
    good_dh 1 0 (by show _ ∉ (go (e01 σ) 21).fly; rw [a1]; decide) <| good_dh 1 1 (by show _ ∉ (go (e01 σ) 21).fly; rw [a1]; decide) <|
    good_go (by show _ ∉ (go (e01 σ) 21).fly; rw [a1]; decide) <|
    good_dh 2 0 (by show _ ∉ (go (e11 σ) 22).fly; rw [a2]; decide) <| good_dh 2 1 (by show _ ∉ (go (e11 σ) 22).fly; rw [a2]; decide) <|
    good_go (by show _ ∉ (go (e11 σ) 22).fly; rw [a2]; decide) <|
    good_dg _ _ (by show _ ∉ (go (e21 σ) 23).fly; rw [a3]; decide) <| good_db _ _ (by show _ ∉ (go (e21 σ) 23).fly; rw [a3]; decide) <|
    good_dg _ _ (by show _ ∉ (go (e21 σ) 23).fly; rw [a3]; decide) <| good_db _ _ (by show _ ∉ (go (e21 σ) 23).fly; rw [a3]; decide) <|
    good_run stepsO ?_ h
  show chk stepsO (sumS σ).fly = true
  rw [sumS_fly, hf]
  decide +kernel

/-- The end of the body. -/
def endS (σ : S F c) : S F c := tailS (midS σ)

/-- The check of the transfers succeeds for the entry. -/
theorem chk_in : chk stIn ∅ = true := by decide +kernel
/-- The check of the transfers succeeds for the first half. -/
theorem chk_1 : chk steps1 (flys stIn ∅) = true := by decide +kernel
/-- The check of the transfers succeeds for the second half. -/
theorem chk_2 : chk steps2 (flys steps1 (flys stIn ∅)) = true := by decide +kernel
/-- What is in flight before the last part, computed. -/
theorem fly_mid : flys steps2 (flys steps1 (flys stIn ∅)) = {18, 19, 20} := by decide +kernel

/-- What is in flight before the last part. -/
theorem midS_fly {σ : S F c} (hf : σ.fly = ∅) : (midS σ).fly = {18, 19, 20} := by
  unfold midS; rw [nexts_fly, nexts_fly, nexts_fly, hf, fly_mid]

/-- Nothing is in flight at the end. -/
theorem endS_fly {σ : S F c} (hf : σ.fly = ∅) : (endS σ).fly = ∅ := by
  unfold endS tailS
  rw [nexts_fly, sumS_fly, midS_fly hf]
  decide +kernel

/-- The body runs from a state with nothing in flight to its end. -/
theorem good_body {Q : PUnit → sProp (MT nD τ sig Unit (Elt F) ℕ (UC sig nD τ) ℕ)} {σ : S F c} (hf : σ.fly = ∅)
    (h : gd defs 𝒱 bd Q (endS σ) (.ret ⟨⟩)) : gd defs 𝒱 bd Q σ body :=
  good_run stIn (by rw [hf]; exact chk_in) <| good_run steps1 (by rw [nexts_fly, hf]; exact chk_1) <|
    good_run steps2 (by rw [nexts_fly, nexts_fly, hf]; exact chk_2) <| good_tail (midS_fly hf) h

end Cert.KernelIdeal.Tweak
-- ==== Proof.Run.lean ====
/-
  Hand-written, untrusted. The whole program: from any memory it terminates, and its buffers in the main memory end as `endS`
  leaves them from some state whose main memory is the one the kernel is entered with.
-/
module

public import proofs.«01_k».proof.Proof.Exec
public import proofs.«01_k».proof.Proof.Gen.KernelIdeal.Frame
public import Idealize.ShloMosaic.Lib.Quiescent

@[expose] public section

set_option maxRecDepth 16384

noncomputable section

namespace Cert.KernelIdeal.Tweak

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat Ends routed restRefs ownSems0 scopedRest BodyObligationLoose)
open Cert.KernelIdeal
open Cert.Machine

variable {F : FTy → Type} [FloatOps F] [Named F]

local notation "𝕄" => MT nD τ sig Unit (Elt F) ℕ (UC sig nD τ) ℕ

/-- The kernel's own semaphores. -/
abbrev osem : Fin 26 → SemLoc sig := fun k => .dma (X k).sem
/-- The kernel's semaphores are its own. -/
theorem ownSemFacts : Pipeline.OwnSemFacts cfg0.spec osem := by decide +kernel

/-- The buffers in the main memory. -/
abbrev R0 : Finset (Ref sig .tc) := restRefs sig cfg0.spec
/-- The scratch buffers. -/
abbrev Sc : Finset (Ref sig .tc) := (Finset.univ.filter fun b : Ref sig .tc => b.isScoped) \ Finset.univ.image (Pipeline.stageRef cfg0.spec)

/-- The buffers outside the scratch memory are those in the main memory. -/
theorem R0_eq : Finset.univ \ Sc = R0 := by
  ext b
  simp [restRefs]

variable (m : (ℓ : Loc nD τ sig) → Buf (Elt F) ℓ) (ρ : Dev nD → PrngReg)

/-- A state with nothing in flight and the main memory as the kernel is entered with. -/
def Init (c : Dev nD) (σ : S F c) : Prop := σ.fly = ∅ ∧ ∀ b ∈ R0, σ.mem b = Gen.V m c b

/-- Main memory as the kernel leaves it. -/
def After (c : Dev nD) (W : (b : Ref sig .tc) → Buf (Elt F) ((c.tc : Thread nD τ).loc b)) : Prop := ∃ σ : S F c, Init m c σ ∧ W = (endS σ).mem

/-- With nothing in flight no element is lent. -/
theorem busy_empty (c : Dev nD) (b : Ref sig .tc) : (pl c).busy ∅ b = ∅ := rfl

/-- What the core holds with nothing in flight. -/
theorem interp_idle (c : Dev nD) {σ : S F c} (h : σ.fly = ∅) :
    Machine.interp (pl c) σ = iprop(((bigSep Sc fun b => L τ c b ↦{fullShare} σ.mem b) ∗ routed R0 c σ.mem) ∗ ownSems0 osem c ∗ ∃ W, owes (c.tc : Thread nD τ) 0 W) := by
  obtain ⟨mem, fly⟩ := σ
  dsimp only at h
  subst h
  unfold Machine.interp routed ownSems0
  dsimp only
  simp only [busy_empty, Finset.sdiff_empty]
  congr 1
  · rw [← R0_eq]; exact bigSep_sdiff_split (Finset.subset_univ _)

/-- The core's holdings at the entry of the kernel are a state's. -/
theorem enter (c : Dev nD) :
    iprop(Ends cfg0.spec osem R0 c (Gen.V m c) ∗ ∃ W, owes (c.tc : Thread nD τ) 0 W)
      ⊢ (iprop(∃ σ : S F c, ⌜Init m c σ⌝ ∗ Machine.interp (pl c) σ ∗ ∃ r, prngReg c r) : sProp (MT nD τ sig Unit (Elt F) ℕ (UC sig nD τ) ℕ)) := by
  classical
  unfold Ends scopedRest
  iintro ⟨⟨HR, Hos, Hsc, Hp⟩, Ho⟩
  ihave Hsc' := (bigSep_exists_pi Sc fun (b : Ref sig .tc) (f : Buf (Elt F) (L τ c b)) => (L τ c b ↦{fullShare} f : sProp (MT nD τ sig Unit (Elt F) ℕ (UC sig nD τ) ℕ))) $$ Hsc
  icases Hsc' with ⟨%y, Hsc⟩
  let σ : S F c := ⟨fun b => if b ∈ R0 then Gen.V m c b else y b, ∅⟩
  have e1 : (bigSep Sc fun b => (L τ c b ↦{fullShare} σ.mem b : sProp (MT nD τ sig Unit (Elt F) ℕ (UC sig nD τ) ℕ))) = bigSep Sc fun b => L τ c b ↦{fullShare} y b :=
    bigSep_congr fun b hb => by
      have : b ∉ R0 := by rw [← R0_eq]; exact fun h => (Finset.mem_sdiff.mp h).2 hb
      rw [show σ.mem b = y b from if_neg this]
  have e2 : (routed R0 c σ.mem : sProp (MT nD τ sig Unit (Elt F) ℕ (UC sig nD τ) ℕ)) = routed R0 c (Gen.V m c) :=
    bigSep_congr fun b hb => by rw [show σ.mem b = Gen.V m c b from if_pos hb]
  iexists σ
  isplitr
  · ipureintro; exact ⟨rfl, fun b hb => if_pos hb⟩
  rw [interp_idle c rfl, e1, e2]
  isplitr [Hp]
  · isplitl [Hsc HR]
    · isplitl [Hsc] <;> iassumption
    isplitl [Hos] <;> iassumption
  · iexact Hp

/-- The core's holdings after the kernel. -/
def Out (c : Dev nD) : sProp (MT nD τ sig Unit (Elt F) ℕ (UC sig nD τ) ℕ) :=
  iprop((∃ W, ⌜After m c W⌝ ∗ routed R0 c W) ∗ ownSems0 osem c ∗ scopedRest (Ix := Unit) (Name := ℕ) (U := UC sig nD τ) (Lvl := ℕ) (Val := Elt F) cfg0.spec c
    ∗ ∃ r, prngReg c r)

/-- The holdings after the kernel are what its end owes. -/
theorem leave (c : Dev nD) (σ : S F c) (h : Init m c σ) :
    iprop(Machine.interp (pl c) (endS σ) ∗ ∃ r, prngReg c r) ⊢ (iprop(Out m c ∗ ∃ W, owes (c.tc : Thread nD τ) 0 W) : sProp (MT nD τ sig Unit (Elt F) ℕ (UC sig nD τ) ℕ)) := by
  rw [interp_idle c (endS_fly h.1)]
  unfold Out scopedRest
  have hsc : (bigSep Sc fun b => (L τ c b ↦{fullShare} (endS σ).mem b : sProp (MT nD τ sig Unit (Elt F) ℕ (UC sig nD τ) ℕ)))
      ⊢ bigSep Sc fun b => iprop(∃ f : Buf (Elt F) (L τ c b), L τ c b ↦{fullShare} f) :=
    bigSep_mono fun b _ => show _ ⊢ iprop(∃ f : Buf (Elt F) (L τ c b), L τ c b ↦{fullShare} f) from by iintro H; iexists _; iexact H
  iintro ⟨⟨⟨Hsc, HR⟩, Hos, Ho⟩, Hp⟩
  isplitr [Ho]
  · isplitl [HR]
    · iexists (endS σ).mem
      isplitr
      · ipureintro; exact ⟨σ, h, rfl⟩
      iexact HR
    isplitl [Hos]; · iexact Hos
    isplitl [Hsc]
    · iapply hsc
      iexact Hsc
    · iexact Hp
  · iexact Ho

/-- The proof data of the kernel's one point. -/
def dats (p : Fin 1) (c : Dev nD) : Dat τ (Elt F) Unit ℕ (UC sig nD τ) ℕ (cfgs p) c where
  A w := w.elim0
  after w := w.elim0
  Φ t := if (t : ℕ) = 0 then Ends cfg0.spec osem R0 c (Gen.V m c) else Out m c
  q w := w.elim0
  owed _ := 0

/-- The kernel's body does what the launch asks of it. -/
theorem body_obligation (c : Dev nD) : BodyObligationLoose (dats m 0 c) (defs₀ (F := F)) Variants.none () Set.univ := fun t => by
  obtain rfl := Gen.fin_N0 t
  rw [show (dats m 0 c).Φ Gen.t0_0.castSucc = Ends cfg0.spec osem R0 c (Gen.V m c) from rfl,
    show (dats m 0 c).Φ Gen.t0_0.succ = Out m c from rfl]
  unfold Dat.owesAt Pipeline.owesWithin
  rw [show (dats m 0 c).owed Gen.t0_0.castSucc = 0 from rfl, show (dats m 0 c).owed Gen.t0_0.succ = 0 from rfl]
  rw [show (defs₀ (F := F) .tc cfg0.body (cfg0.bodyArgs Gen.t0_0 (cfg0.slots Gen.t0_0))) = body from defs_body _]
  iintro ⟨HE, ⟨%W, %hW, HO⟩, -⟩
  ihave H := (enter m c) $$ [HE HO]
  · isplitl [HE]; · iexact HE
    iexists W; iexact HO
  icases H with ⟨%σ, %hσ, HI, Hp⟩
  have hg := good_body (defs := defs₀ (F := F)) (𝒱 := Variants.none) (bd := none) (Q := fun _ => Machine.interp (pl c) (endS σ)) hσ.1
    (show Machine.interp (pl c) (endS σ) ⊢ _ from by rw [wp_ret]; iintro H; imodintro; iexact H)
  iapply wp_wand $$ [HI]
  · iapply (show Machine.interp (pl c) σ ⊢ _ from hg); iexact HI
  iintro %_ HI
  ihave H := (leave m c σ hσ) $$ [HI Hp]
  · isplitl [HI] <;> iassumption
  icases H with ⟨HO, ⟨%W', HW⟩⟩
  isplitl [HO]; · iexact HO
  isplitl [HW]
  · iexists W'; isplitr; · ipureintro; exact fun _ _ => Or.inl trivial
    iexact HW
  · rw [show (Finset.univ : Finset (Fin (cfgs 0).W)) = ∅ from rfl, bigSep_empty]
    iempintro

/-! ## The launch -/

/-- Every execution from a memory terminates with the semaphores at zero and main memory as `endS` leaves it. -/
theorem run_main : θ_run defs (onTc (τ := τ) (main (F := F))) (s₀ m ρ)
    (fun r => (∀ c : Dev nD, ∃ σ : S F c, Init m c σ ∧ ∀ b ∈ R0, r.2.mem ((c.tc : Thread nD τ).loc b) = (endS σ).mem b) ∧ r.2.sem = fun _ => 0) :=
  Pipeline.θ_run_region_kit_quiescent cfgs (dats m) () (0 : Fin 1) Gen.launch0 ownSemFacts embL (defs₀ (F := F)) Variants.none m ρ main (body_obligation m)
    (fun c w => w.elim0) (fun _ _ => rfl)
    (G := fun _ => iprop(emp)) (u₀ := (initOf (Pipeline.cells cfgs Gen.launch0.cellOf_inj) (Pipeline.launchToks cfgs Gen.launch0.cellOf_inj), 1))
    (hu₀ := by
      iintro Hu
      ihave H := (ownU_pair _ _) $$ Hu
      icases H with ⟨HP, -⟩
      imodintro
      isplitl [HP]; · iexact HP
      iapply (show (BI.emp : sProp (MT nD τ sig Unit (Elt F) ℕ (UC sig nD τ) ℕ)) ⊢ bigSep Finset.univ (fun _ : Dev nD => (BI.emp : sProp (MT nD τ sig Unit (Elt F) ℕ (UC sig nD τ) ℕ))) from by rw [BI.bigSep_emp_const])
      iempintro)
    (V := Gen.V m) (hmain := Pipeline.hmain_prefix cfgs 0 defs₀ Variants.none m main Gen.hostOps0 Gen.hostOps0_sub Gen.hostOps0_fresh Gen.main_chain)
    (hA := fun c w => w.elim0)
    (X := fun c => iprop(routed R0 c (Gen.V m c) ∗ ownSems0 osem c ∗ ∃ r, prngReg c r))
    (Y := fun c => iprop((∃ W, ⌜After m c W⌝ ∗ routed R0 c W) ∗ ∃ r, prngReg c r))
    (Z := fun c => iprop(emp))
    (hX := fun c => by
      iintro ⟨HR, Hos, -, Hp, -⟩; imodintro
      isplitl
      · isplitl [HR]; · unfold Pipeline.unscopedRest routed; iexact HR
        isplitl [Hos]; · iexact Hos
        iexists _; iexact Hp
      · iempintro)
    (hin := fun c => by
      rw [show (dats m 0 c).Φ 0 = Ends cfg0.spec osem R0 c (Gen.V m c) from rfl]
      unfold Ends
      iintro ⟨⟨HR, Hos, Hp⟩, Hr⟩
      isplitl [HR]; · iexact HR
      isplitl [Hos]; · iexact Hos
      isplitl [Hr] <;> iassumption)
    (hout := fun c => by
      rw [show (dats m 0 c).Φ (Fin.last (cfgs 0).N) = Out m c from rfl]
      unfold Out
      iintro ⟨HR, Hos, Hr, Hp⟩
      isplitl [HR Hp]
      · isplitl [HR] <;> iassumption
      isplitl [Hos] <;> iassumption)
    (QY := fun c s => ∃ W, After m c W ∧ ∀ b ∈ R0, s.mem ((c.tc : Thread nD τ).loc b) = W b)
    (hY := fun c s' => by
      unfold routed
      iintro ⟨⟨⟨%W, %hW, HR⟩, -⟩, -, HSI⟩
      ihave H := (pointsTo_read_all R0 (fun b => (c.tc : Thread nD τ).loc b) W s') $$ [HR HSI]
      · isplitl [HR] <;> iassumption
      icases H with ⟨%hR', HSI⟩
      imodintro
      isplitr; · ipureintro; exact ⟨W, hW, hR'⟩
      iexact HSI)
    (hQ := fun _ h hz => ⟨fun c => by
      obtain ⟨W, ⟨σ, hσ, rfl⟩, hW⟩ := (h c).2
      exact ⟨σ, hσ, hW⟩, hz⟩)

/-! ## The arguments -/

/-- A buffer that no transfer and no store writes. -/
structure Kept (b : Ref sig .tc) : Prop where
  dst : ∀ k, b ≠ dstR k
  n : b ≠ nM.view.ref
  hf : b ≠ hfM.view.ref
  a : b ≠ aM.view.ref
  a8 : b ≠ a8M.view.ref
  sb : b ≠ sbM.view.ref
  s : b ≠ sM.view.ref
  st : b ≠ stM.view.ref
  wq : b ≠ wqM.view.ref
  y : b ≠ yM.view.ref
  dy : b ≠ dyM.view.ref
  kl : b ≠ klM.view.ref
  dh : b ≠ dhM.view.ref
  dg : b ≠ dgM.view.ref
  db : b ≠ dbM.view.ref

/-- A buffer is kept when no transfer's destination and no store is it. -/
theorem kept_iff (b : Ref sig .tc) : Kept b ↔ (∀ k, b ≠ dstR k) ∧ b ≠ nM.view.ref ∧ b ≠ hfM.view.ref ∧ b ≠ aM.view.ref ∧ b ≠ a8M.view.ref ∧ b ≠ sbM.view.ref ∧ b ≠ sM.view.ref ∧ b ≠ stM.view.ref ∧ b ≠ wqM.view.ref ∧ b ≠ yM.view.ref ∧ b ≠ dyM.view.ref ∧ b ≠ klM.view.ref ∧ b ≠ dhM.view.ref ∧ b ≠ dgM.view.ref ∧ b ≠ dbM.view.ref :=
  ⟨fun ⟨h0, h1, h2, h3, h4, h5, h6, h7, h8, h9, h10, h11, h12, h13, h14⟩ => ⟨h0, h1, h2, h3, h4, h5, h6, h7, h8, h9, h10, h11, h12, h13, h14⟩,
    fun ⟨h0, h1, h2, h3, h4, h5, h6, h7, h8, h9, h10, h11, h12, h13, h14⟩ => ⟨h0, h1, h2, h3, h4, h5, h6, h7, h8, h9, h10, h11, h12, h13, h14⟩⟩

instance (b : Ref sig .tc) : Decidable (Kept b) := decidable_of_iff' _ (kept_iff b)

/-- A store changes no other buffer. -/
theorem wt_ne {c : Dev nD} (σ : S F c) {s : Shape} {e : EltTy} (m : Memref sig .tc .vmem s e) (r : Rect s) (w : r.shape.Idx → Elt F e) {b : Ref sig .tc}
    (h : b ≠ m.view.ref) : (wt σ m r w).mem b = σ.mem b := St.put_ne _ _ _ h
/-- A transfer changes its destination only. -/
theorem go_ne {c : Dev nD} (σ : S F c) (k : Fin 26) {b : Ref sig .tc} (h : b ≠ dstR k) : (go σ k).mem b = σ.mem b := St.put_ne _ _ _ h

/-- A part keeps the buffers that nothing writes. -/
theorem next_kept {c : Dev nD} {b : Ref sig .tc} (h : Kept b) (s : Step) (σ : S F c) : (s.next σ).mem b = σ.mem b := by
  cases s with
  | start k => exact go_ne σ k (h.dst k)
  | wait k => rfl
  | ln i => exact (wt_ne _ _ _ _ h.sb).trans <| (wt_ne _ _ _ _ h.a8).trans <| (wt_ne _ _ _ _ h.a).trans <| (wt_ne _ _ _ _ h.hf).trans (wt_ne _ _ _ _ h.n)
  | row i => exact wt_ne _ _ _ _ h.s
  | yf0 j => exact (wt_ne _ _ _ _ h.st).trans <| (wt_ne _ _ _ _ h.st).trans (wt_ne _ _ _ _ h.st)
  | yf t j => exact (wt_ne _ _ _ _ h.st).trans (wt_ne _ _ _ _ h.st)
  | deq j g => exact (wt_ne _ _ _ _ h.wq).trans (wt_ne _ _ _ _ h.wq)
  | q j =>
    exact (wt_ne _ _ _ _ h.dy).trans <| (wt_ne _ _ _ _ h.dy).trans <| (wt_ne _ _ _ _ h.dy).trans <| (wt_ne _ _ _ _ h.kl).trans <|
      (wt_ne _ _ _ _ h.y).trans <| (wt_ne _ _ _ _ h.y).trans (wt_ne _ _ _ _ h.y)

/-- A list of parts keeps the buffers that nothing writes. -/
theorem nexts_kept {c : Dev nD} {b : Ref sig .tc} (h : Kept b) (l : List Step) (σ : S F c) : (nexts l σ).mem b = σ.mem b := by
  induction l generalizing σ with
  | nil => rfl
  | cons s l ih => exact (ih (s.next σ)).trans (next_kept h s σ)

/-- The kernel keeps the buffers that nothing writes. -/
theorem endS_kept {c : Dev nD} {b : Ref sig .tc} (h : Kept b) (σ : S F c) : (endS σ).mem b = σ.mem b := by
  unfold endS tailS midS
  refine (nexts_kept h _ _).trans ?_
  refine Eq.trans ?_ ((nexts_kept h steps2 _).trans ((nexts_kept h steps1 _).trans (nexts_kept h stIn σ)))
  exact (wt_ne _ _ _ _ h.db).trans <| (wt_ne _ _ _ _ h.dg).trans <| (wt_ne _ _ _ _ h.db).trans <| (wt_ne _ _ _ _ h.dg).trans <| (go_ne _ _ (h.dst _)).trans <|
    (wt_ne _ _ _ _ h.dh).trans <| (wt_ne _ _ _ _ h.dh).trans <| (go_ne _ _ (h.dst _)).trans <|
    (wt_ne _ _ _ _ h.dh).trans <| (wt_ne _ _ _ _ h.dh).trans <| (go_ne _ _ (h.dst _)).trans <| (wt_ne _ _ _ _ h.dh).trans (wt_ne _ _ _ _ h.dh)

/-- A buffer in main memory that nothing writes ends as the kernel is entered with it. -/
theorem kept_of {c : Dev nD} {mem : (ℓ : Loc nD τ sig) → Buf (Elt F) ℓ} (b : Ref sig .tc) (hb : b ∈ R0) (hk : Kept b)
    (h : ∃ σ : S F c, Init m c σ ∧ ∀ b ∈ R0, mem ((c.tc : Thread nD τ).loc b) = (endS σ).mem b) : mem ((c.tc : Thread nD τ).loc b) = Gen.V m c b := by
  obtain ⟨σ, hσ, h⟩ := h
  rw [h b hb, endS_kept hk, hσ.2 b hb]

/-- The arguments end as they were. -/
theorem args_kept {c : Dev nD} {mem : (ℓ : Loc nD τ sig) → Buf (Elt F) ℓ}
    (h : ∃ σ : S F c, Init m c σ ∧ ∀ b ∈ R0, mem ((c.tc : Thread nD τ).loc b) = (endS σ).mem b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) :=
  ⟨(kept_of m main_arg0 (Pipeline.mem_restRefs_of _ (by decide) (by decide)) (by decide +kernel) h).trans (Gen.V_main_arg0 m c),
    (kept_of m main_arg1 (Pipeline.mem_restRefs_of _ (by decide) (by decide)) (by decide +kernel) h).trans (Gen.V_main_arg1 m c),
    (kept_of m main_arg2 (Pipeline.mem_restRefs_of _ (by decide) (by decide)) (by decide +kernel) h).trans (Gen.V_main_arg2 m c),
    (kept_of m main_arg3 (Pipeline.mem_restRefs_of _ (by decide) (by decide)) (by decide +kernel) h).trans (Gen.V_main_arg3 m c),
    (kept_of m main_arg4 (Pipeline.mem_restRefs_of _ (by decide) (by decide)) (by decide +kernel) h).trans (Gen.V_main_arg4 m c),
    (kept_of m main_arg5 (Pipeline.mem_restRefs_of _ (by decide) (by decide)) (by decide +kernel) h).trans (Gen.V_main_arg5 m c),
    (kept_of m main_arg6 (Pipeline.mem_restRefs_of _ (by decide) (by decide)) (by decide +kernel) h).trans (Gen.V_main_arg6 m c),
    (kept_of m main_arg7 (Pipeline.mem_restRefs_of _ (by decide) (by decide)) (by decide +kernel) h).trans (Gen.V_main_arg7 m c)⟩

end Cert.KernelIdeal.Tweak
-- ==== Proof.Bits.Tweak.lean ====
/-
  Hand-written, untrusted. The kernel body written over its repeating parts.

  The printed body is one straight line of some 1500 memory operations. Here each repeating part (32 rows of the norms, a block of
  columns of the float output, a group of the weight's dequantisation, ...) is written once, over its row or column offset and,
  where the last column block is narrower, over its width. `steps` lists the parts in the program's order, and `body` is the program.
-/
module

public import proofs.«01_k».proof.Proof.Gen.Kernel

@[expose] public section

set_option maxRecDepth 16384

noncomputable section

namespace Cert.Kernel.Tweak

open Idealize.ShloMosaic Idealize.SL.Sem
open Cert.Kernel
open Facts₀ Facts

variable {F : FTy → Type} [FloatOps F]

/-! ## The buffers -/

abbrev xM : Memref sig .tc .vmem S1536x1024 .bf16 := Memref.whole cc0_scratch0
abbrev g0M : Memref sig .tc .vmem S1x1024 .f32 := Memref.whole cc0_scratch1
abbrev gM : Memref sig .tc .vmem S1x1024 .f32 := Memref.whole cc0_scratch2
abbrev b0M : Memref sig .tc .vmem S1x1024 .f32 := Memref.whole cc0_scratch3
abbrev bM : Memref sig .tc .vmem S1x1024 .f32 := Memref.whole cc0_scratch4
abbrev wrM : Memref sig .tc .vmem S1024x2816 .bf16 := Memref.whole cc0_scratch5
abbrev wpM : Memref sig .tc .vmem S512x2816 .i8 := Memref.whole cc0_scratch6
abbrev wsM : Memref sig .tc .vmem S8x2816 .f32 := Memref.whole cc0_scratch7
abbrev nM : Memref sig .tc .vmem S1536x1024 .f32 := Memref.whole cc0_scratch8
abbrev hfM : Memref sig .tc .vmem S1536x1024 .bf16 := Memref.whole cc0_scratch9
abbrev aM : Memref sig .tc .vmem S1536x1024 .bf16 := Memref.whole cc0_scratch10
abbrev a8M : Memref sig .tc .vmem S1536x1024 .i8 := Memref.whole cc0_scratch11
abbrev sM : Memref sig .tc .vmem S4x384 .f32 := Memref.whole cc0_scratch12
abbrev sbM : Memref sig .tc .vmem S1536x128 .f32 := Memref.whole cc0_scratch13
abbrev wqM : Memref sig .tc .vmem S1024x2816 .bf16 := Memref.whole cc0_scratch14
abbrev yM : Memref sig .tc .vmem S2x1536x512 .f32 := Memref.whole cc0_scratch15
abbrev dyM : Memref sig .tc .vmem S1536x2816 .bf16 := Memref.whole cc0_scratch16
abbrev dhM : Memref sig .tc .vmem S1536x1024 .f32 := Memref.whole cc0_scratch17
abbrev stM : Memref sig .tc .vmem S24x2816 .f32 := Memref.whole cc0_scratch18
abbrev klM : Memref sig .tc .vmem S1x2816 .f32 := Memref.whole cc0_scratch19
abbrev dgM : Memref sig .tc .vmem S1x1024 .f32 := Memref.whole cc0_scratch20
abbrev dbM : Memref sig .tc .vmem S1x1024 .f32 := Memref.whole cc0_scratch21

/-! ## Rectangles -/

/-- A rectangle of a matrix fits where it does along both axes. -/
theorem fits {P Q a b p q : ℕ} (h1 : a + p ≤ P) (h2 : b + q ≤ Q) :
    ∀ i, (![a, b] : Fin 2 → ℕ) i + (⟨2, ![p, q]⟩ : Shape).size i ≤ (⟨2, ![P, Q]⟩ : Shape).size i := by
  intro i; fin_cases i
  · exact h1
  · exact h2

/-- A box of a stack of matrices fits where it does along the three axes. -/
theorem fits3 {P Q R a b c p q r : ℕ} (h1 : a + p ≤ P) (h2 : b + q ≤ Q) (h3 : c + r ≤ R) :
    ∀ i, (![a, b, c] : Fin 3 → ℕ) i + (⟨3, ![p, q, r]⟩ : Shape).size i ≤ (⟨3, ![P, Q, R]⟩ : Shape).size i := by
  intro i; fin_cases i
  · exact h1
  · exact h2
  · exact h3

/-- The rectangle of `p` rows and `q` columns at row `a` and column `b`. -/
abbrev box {P Q : ℕ} (a b p q : ℕ) (h1 : a + p ≤ P) (h2 : b + q ≤ Q) : Rect (⟨2, ![P, Q]⟩ : Shape) :=
  Rect.unit (s := ⟨2, ![P, Q]⟩) ![a, b] (⟨2, ![p, q]⟩ : Shape).size (fits h1 h2)

/-- Rows that start at and number multiples of the packing are whole packed rows. -/
theorem packed {P Q a b p q k : ℕ} (h1 : a + p ≤ P) (h2 : b + q ≤ Q) (ha : k ∣ a) (hp : k ∣ p) :
    (box (P := P) (Q := Q) a b p q h1 h2).PackedRows k :=
  Or.inr ⟨le_refl 2, rfl, Or.inl ⟨ha, hp⟩⟩

/-! ## Loads and stores

  A store of the kernel is preceded by a load of the same elements whose value is not used. -/

abbrev PP (F : FTy → Type) [FloatOps F] := Prog (TpuEff nD τ sig (Elt F) Λ₀ .tc) PUnit

/-- A load of a rectangle. -/
abbrev ld {s : Shape} {e : EltTy} (m : Memref sig .tc .vmem s e) (r : Rect s) (h : 0 < r.shape.numel)
    (K : (r.shape.Idx → Elt F e) → PP F) : PP F :=
  .op (.load m r.toLoadRect (View.loadsAt_vmem h)) K

/-- A store of a rectangle. -/
abbrev wr {s : Shape} {e : EltTy} (m : Memref sig .tc .vmem s e) (r : Rect s) (h : 0 < r.shape.numel)
    (hx : (m.access r).Stores Finset.univ) (w : r.shape.Idx → Elt F e) (K : PP F) : PP F :=
  .op (.load m r.toLoadRect (View.loadsAt_vmem h)) fun _ => .op (.store m r w Finset.univ hx (.inl rfl)) fun _ => K

/-! ## The parts' values -/

/-- The facts about a block of `w` columns that the parts' values need. -/
structure Wd (w : ℕ) : Prop where
  dotF : DotDims.WF S256x1024 ⟨2, ![1024, w]⟩ ⟨2, ![256, w]⟩ [1] [0] [0] [1] [] []
  dotQ : DotDims.WF S512x1024 ⟨2, ![1024, w]⟩ ⟨2, ![512, w]⟩ [1] [0] [0] [1] [] []
  sc256 : (⟨2, ![256, w]⟩ : Shape).ShapeCasts ⟨3, ![32, 8, w]⟩
  sc512 : (⟨2, ![512, w]⟩ : Shape).ShapeCasts ⟨3, ![64, 8, w]⟩
  red256 : (⟨3, ![32, 8, w]⟩ : Shape).Reduces [0] ⟨2, ![8, w]⟩
  red512 : (⟨3, ![64, 8, w]⟩ : Shape).Reduces [0] ⟨2, ![8, w]⟩
  red8 : (⟨2, ![8, w]⟩ : Shape).Reduces [0] ⟨1, ![w]⟩
  row : (⟨1, ![w]⟩ : Shape).ShapeCasts ⟨2, ![1, w]⟩
  id1 : (⟨2, ![1, w]⟩ : Shape).ShapeCasts ⟨2, ![1, w]⟩
  id8 : (⟨2, ![8, w]⟩ : Shape).ShapeCasts ⟨2, ![8, w]⟩
  id128 : (⟨2, ![128, w]⟩ : Shape).ShapeCasts ⟨2, ![128, w]⟩
  id512 : (⟨2, ![512, w]⟩ : Shape).ShapeCasts ⟨2, ![512, w]⟩
  to3 : (⟨2, ![512, w]⟩ : Shape).ShapeCasts ⟨3, ![1, 512, w]⟩
  of3 : (⟨3, ![1, 512, w]⟩ : Shape).ShapeCasts ⟨2, ![512, w]⟩
  bc8 : (⟨2, ![1, w]⟩ : Shape).Broadcasts ⟨2, ![8, w]⟩
  bc128 : (⟨2, ![1, w]⟩ : Shape).Broadcasts ⟨2, ![128, w]⟩
  bc256 : (⟨2, ![1, w]⟩ : Shape).Broadcasts ⟨2, ![256, w]⟩
  bc512 : (⟨2, ![1, w]⟩ : Shape).Broadcasts ⟨2, ![512, w]⟩
  cat : ∀ {α : Type} (v : S512x128.Idx → α),
    Shape.Concatenates ((List.replicate (w / 128) (⟨S512x128, v⟩ : (s : Shape) × (s.Idx → α))).map (·.1)) ⟨2, ![512, w]⟩ 1
  pos : 0 < w
  slot : w ≤ 512

/-- The shapes of a column block of 512. -/
theorem w512 : Wd 512 :=
  { dotF := dot_S256x1024_S1024x512_S256x512_1_0_0_1_n_n_wf, dotQ := dot_S512x1024_S1024x512_S512x512_1_0_0_1_n_n_wf,
    sc256 := shapeCasts_S256x512_S32x8x512, sc512 := shapeCasts_S512x512_S64x8x512, red256 := reduces_S32x8x512_S8x512,
    red512 := reduces_S64x8x512_S8x512, red8 := reduces_S8x512_S512, row := shapeCasts_S512_S1x512, id1 := shapeCasts_S1x512_S1x512,
    id8 := shapeCasts_S8x512_S8x512, id128 := shapeCasts_S128x512_S128x512, id512 := shapeCasts_S512x512_S512x512,
    to3 := shapeCasts_S512x512_S1x512x512, of3 := shapeCasts_S1x512x512_S512x512, bc8 := broadcasts_S1x512_S8x512,
    bc128 := broadcasts_S1x512_S128x512, bc256 := broadcasts_S1x512_S256x512, bc512 := broadcasts_S1x512_S512x512,
    cat := fun _ => concatenates_S512x128_S512x128_S512x128_S512x128_S512x512_d1, pos := by decide, slot := by decide }

/-- The shapes of a column block of 256. -/
theorem w256 : Wd 256 :=
  { dotF := dot_S256x1024_S1024x256_S256x256_1_0_0_1_n_n_wf, dotQ := dot_S512x1024_S1024x256_S512x256_1_0_0_1_n_n_wf,
    sc256 := shapeCasts_S256x256_S32x8x256, sc512 := shapeCasts_S512x256_S64x8x256, red256 := reduces_S32x8x256_S8x256,
    red512 := reduces_S64x8x256_S8x256, red8 := reduces_S8x256_S256, row := shapeCasts_S256_S1x256, id1 := shapeCasts_S1x256_S1x256,
    id8 := shapeCasts_S8x256_S8x256, id128 := shapeCasts_S128x256_S128x256, id512 := shapeCasts_S512x256_S512x256,
    to3 := shapeCasts_S512x256_S1x512x256, of3 := shapeCasts_S1x512x256_S512x256, bc8 := broadcasts_S1x256_S8x256,
    bc128 := broadcasts_S1x256_S128x256, bc256 := broadcasts_S1x256_S256x256, bc512 := broadcasts_S1x256_S512x256,
    cat := fun _ => concatenates_S512x128_S512x128_S512x256_d1, pos := by decide, slot := by decide }

/-- The matrix product of 256 rows. -/
def dotF {w : ℕ} (W : Wd w) : DotDims S256x1024 ⟨2, ![1024, w]⟩ ⟨2, ![256, w]⟩ where
  lhsContracting := [1]
  rhsContracting := [0]
  lhsNonContracting := [0]
  rhsNonContracting := [1]
  lhsBatch := []
  rhsBatch := []
  wf := W.dotF

/-- The matrix product of 512 rows. -/
def dotQ {w : ℕ} (W : Wd w) : DotDims S512x1024 ⟨2, ![1024, w]⟩ ⟨2, ![512, w]⟩ where
  lhsContracting := [1]
  rhsContracting := [0]
  lhsNonContracting := [0]
  rhsNonContracting := [1]
  lhsBatch := []
  rhsBatch := []
  wf := W.dotQ

/-- The constant row `1/1536`. -/
def invTok (s : Shape) : FVec F s .f32 := broadcast s (Scalar.ofBits .f32 0x3A2AAAAB#32 : F .f32)
/-- A constant. -/
def cst (s : Shape) (b : BitVec 32) : FVec F s .f32 := broadcast s (Scalar.ofBits .f32 b : F .f32)

/-- The mean over a row of 1024. -/
def meanR (v : FVec F S32x1024 .f32) : FVec F S32x1 .f32 :=
  divf (shapeCast S32x1 (multiReduction .add [1] S32 v 0x00000000#32 reduces_S32x1024_S32 (.inl rfl) rfl) shapeCasts_S32_S32x1) (cst S32x1 0x44800000#32)

/-- 32 rows less their means. -/
def lnXc (x : Vec F S32x1024 .bf16) : FVec F S32x1024 .f32 :=
  subf (extf .f32 x bitsLt_bf16_f32) (broadcastTo S32x1024 (meanR (extf .f32 x bitsLt_bf16_f32)) broadcasts_S32x1_S32x1024)

/-- 32 rows normalised. -/
def lnN (x : Vec F S32x1024 .bf16) : FVec F S32x1024 .f32 :=
  mulf (lnXc x) (broadcastTo S32x1024 (rsqrt (addf (meanR (mulf (lnXc x) (lnXc x))) (cst S32x1 0x358637BD#32))) broadcasts_S32x1_S32x1024)

/-- The affine map of a norm. -/
def lnAff (n : FVec F S32x1024 .f32) (g b : Vec F S1x1024 .f32) : FVec F S32x1024 .f32 :=
  addf (mulf n (broadcastTo S32x1024 g broadcasts_S1x1024_S32x1024)) (broadcastTo S32x1024 b broadcasts_S1x1024_S32x1024)

/-- The largest magnitude of each row. -/
def lnAmax (h : FVec F S32x1024 .f32) : FVec F S32x1 .f32 :=
  shapeCast S32x1 (multiReduction .maximumf [1] S32 (absf h) 0xFF800000#32 reduces_S32x1024_S32 (.inl rfl) rfl) shapeCasts_S32_S32x1

/-- Each row's scale. -/
def lnScale (h : FVec F S32x1024 .f32) : FVec F S32x1 .f32 :=
  select (cmpf .ogt (lnAmax h) (cst S32x1 0x00000000#32)) (divf (lnAmax h) (cst S32x1 0x42FE0000#32)) (cst S32x1 0x3F800000#32)

/-- The codes, as floats. -/
def lnQ (h : FVec F S32x1024 .f32) : FVec F S32x1024 .f32 :=
  minimumf (broadcast S32x1024 (Scalar.sitofp .f32 (127#32)))
    (maximumf (broadcast S32x1024 (Scalar.sitofp .f32 (4294967169#32)))
      (roundeven (divf h (broadcastTo S32x1024 (lnScale h) broadcasts_S32x1_S32x1024))))

/-- Where the row and the column number agree. -/
def eye : IVec S128x128 1 :=
  cmpi .eq (iota .tc S128x128 32 [0] iota_S128x128_d0_w32) (iota .tc S128x128 32 [1] iota_S128x128_d1_w32)

/-- 128 scales, read off the diagonal as a row. -/
def rowV (sb : Vec F S128x128 .f32) : FVec F S1x128 .f32 :=
  shapeCast S1x128 (multiReduction .add [0] S128 (select eye sb (cst S128x128 0x00000000#32)) 0x00000000#32 reduces_S128x128_S128 (.inl rfl) rfl) shapeCasts_S128_S1x128

section Width
variable {w : ℕ} (W : Wd w)

/-- The float output: a tile of 256 rows. -/
def yfV (hf : Vec F S256x1024 .bf16) (wr : Vec F ⟨2, ![1024, w]⟩ .bf16) : FVec F ⟨2, ![256, w]⟩ .f32 :=
  matmul (dotF W) none hf wr (constant ⟨2, ![256, w]⟩ .f32 0x00000000#32)

/-- Eight partial sums of 256 rows. -/
def fold256 (y : FVec F ⟨2, ![256, w]⟩ .f32) : FVec F ⟨2, ![8, w]⟩ .f32 :=
  multiReduction .add [0] ⟨2, ![8, w]⟩ (shapeCast ⟨3, ![32, 8, w]⟩ y W.sc256) 0x00000000#32 W.red256 (.inl rfl) rfl

/-- Eight partial sums of 512 rows. -/
def fold512 (y : FVec F ⟨2, ![512, w]⟩ .f32) : FVec F ⟨2, ![8, w]⟩ .f32 :=
  multiReduction .add [0] ⟨2, ![8, w]⟩ (shapeCast ⟨3, ![64, 8, w]⟩ y W.sc512) 0x00000000#32 W.red512 (.inl rfl) rfl

/-- The sum of eight partial sums, as a row. -/
def sum8 (t : FVec F ⟨2, ![8, w]⟩ .f32) : FVec F ⟨2, ![1, w]⟩ .f32 :=
  shapeCast ⟨2, ![1, w]⟩ (multiReduction .add [0] ⟨1, ![w]⟩ t 0x00000000#32 W.red8 (.inl rfl) rfl) W.row

/-- The first tile's mean. -/
def pilot (y : FVec F ⟨2, ![256, w]⟩ .f32) : FVec F ⟨2, ![1, w]⟩ .f32 :=
  mulf (sum8 W (fold256 W y)) (cst ⟨2, ![1, w]⟩ 0x3B800000#32)

/-- A tile less a row. -/
def less (y : FVec F ⟨2, ![256, w]⟩ .f32) (p : FVec F ⟨2, ![1, w]⟩ .f32) : FVec F ⟨2, ![256, w]⟩ .f32 :=
  subf y (broadcastTo ⟨2, ![256, w]⟩ p W.bc256)

/-- The two nibbles of a byte. -/
def nibLo (v : Vec F ⟨2, ![128, w]⟩ .i8) : IVec ⟨2, ![128, w]⟩ 32 := andi (extui 32 v natLt_8_32) (broadcast ⟨2, ![128, w]⟩ 15#32)
def nibHi (v : Vec F ⟨2, ![128, w]⟩ .i8) : IVec ⟨2, ![128, w]⟩ 32 := shrsi (extui 32 v natLt_8_32) (broadcast ⟨2, ![128, w]⟩ 4#32)

/-- A nibble read as a two's complement number, times its group's scale. -/
def deqV (f : IVec ⟨2, ![128, w]⟩ 32) (sc : Vec F ⟨2, ![1, w]⟩ .f32) : FVec F ⟨2, ![128, w]⟩ .bf16 :=
  mulf (sitofp .bf16 (select (cmpi .sge f (broadcast ⟨2, ![128, w]⟩ 8#32)) (subi f (broadcast ⟨2, ![128, w]⟩ 16#32)) f))
    (broadcastTo ⟨2, ![128, w]⟩ (truncf .bf16 sc bitsLt_bf16_f32) W.bc128)

/-- The quantised output: a tile of 512 rows. -/
def yqV (sb : Vec F S512x128 .f32) (a : Vec F S512x1024 .bf16) (wq : Vec F ⟨2, ![1024, w]⟩ .bf16) : FVec F ⟨2, ![512, w]⟩ .f32 :=
  mulf (matmul (dotQ W) none a wq (constant ⟨2, ![512, w]⟩ .f32 0x00000000#32))
    (concatenate ⟨2, ![512, w]⟩ 1 (List.replicate (w / 128) ⟨S512x128, sb⟩) (W.cat sb))

/-- The quantised output less its mean. -/
def ycV (y : Vec F ⟨3, ![1, 512, w]⟩ .f32) (mu : FVec F ⟨2, ![1, w]⟩ .f32) : FVec F ⟨2, ![512, w]⟩ .f32 :=
  subf (shapeCast ⟨2, ![512, w]⟩ y W.of3) (broadcastTo ⟨2, ![512, w]⟩ mu W.bc512)

def sqV (y : Vec F ⟨3, ![1, 512, w]⟩ .f32) (mu : FVec F ⟨2, ![1, w]⟩ .f32) : FVec F ⟨2, ![8, w]⟩ .f32 :=
  fold512 W (mulf (ycV W y mu) (ycV W y mu))

/-- A mean over all 1536 rows, from eight partial sums. -/
def meanT (t : FVec F ⟨2, ![8, w]⟩ .f32) : FVec F ⟨2, ![1, w]⟩ .f32 := mulf (sum8 W t) (invTok ⟨2, ![1, w]⟩)

/-- Three tiles' partial sums, added up from zero. -/
def tot3 (a b c : FVec F ⟨2, ![8, w]⟩ .f32) : FVec F ⟨2, ![8, w]⟩ .f32 := addf (addf (addf (cst ⟨2, ![8, w]⟩ 0x00000000#32) a) b) c

/-- The float output's variance, from the two sums of the deviations from the pilot. -/
def vfV (d1 d2 : FVec F ⟨2, ![1, w]⟩ .f32) : FVec F ⟨2, ![1, w]⟩ .f32 := subf d2 (mulf d1 d1)

/-- The squared difference of the means. -/
def dmu2 (muf muq : FVec F ⟨2, ![1, w]⟩ .f32) : FVec F ⟨2, ![1, w]⟩ .f32 := mulf (subf muf muq) (subf muf muq)

/-- The divergence of two normal distributions. -/
def klV (muf vf muq vq : FVec F ⟨2, ![1, w]⟩ .f32) : FVec F ⟨2, ![1, w]⟩ .f32 :=
  subf (addf (mulf (cst ⟨2, ![1, w]⟩ 0x3F000000#32) (log (divf vq vf)))
    (divf (addf vf (dmu2 muf muq)) (mulf (cst ⟨2, ![1, w]⟩ 0x40000000#32) vq))) (cst ⟨2, ![1, w]⟩ 0x3F000000#32)

/-- Its derivative by the quantised mean, over the number of rows. -/
def pV (muf vf muq vq : FVec F ⟨2, ![1, w]⟩ .f32) : FVec F ⟨2, ![1, w]⟩ .f32 :=
  mulf (divf (divf (subf muq muf) vq) (cst ⟨2, ![1, w]⟩ 0x45300000#32)) (invTok ⟨2, ![1, w]⟩)

/-- Twice its derivative by the quantised variance, over the number of rows. -/
def qV (muf vf muq vq : FVec F ⟨2, ![1, w]⟩ .f32) : FVec F ⟨2, ![1, w]⟩ .f32 :=
  mulf (mulf (cst ⟨2, ![1, w]⟩ 0x40000000#32)
    (divf (subf (divf (cst ⟨2, ![1, w]⟩ 0x3F800000#32) (mulf (cst ⟨2, ![1, w]⟩ 0x40000000#32) vq))
      (divf (addf vf (dmu2 muf muq)) (mulf (mulf (cst ⟨2, ![1, w]⟩ 0x40000000#32) vq) vq))) (cst ⟨2, ![1, w]⟩ 0x45300000#32)))
    (invTok ⟨2, ![1, w]⟩)

/-- The derivative by the quantised output: a tile of 512 rows. -/
def dyV (y : Vec F ⟨3, ![1, 512, w]⟩ .f32) (mu p q : FVec F ⟨2, ![1, w]⟩ .f32) : FVec F ⟨2, ![512, w]⟩ .bf16 :=
  truncf .bf16 (addf (broadcastTo ⟨2, ![512, w]⟩ p W.bc512) (mulf (ycV W y mu) (broadcastTo ⟨2, ![512, w]⟩ q W.bc512))) bitsLt_bf16_f32

end Width

/-- The derivative by the norm's output: 512 rows and 512 columns. -/
def dhV (dy wq : Vec F S512x2816 .bf16) : FVec F S512x512 .f32 :=
  matmul dot_S512x2816_S512x2816_S512x512_1_1_0_0_n_n none dy wq (constant S512x512 .f32 0x00000000#32)

/-! ## The parts -/

/-- A matrix with rows and columns has elements. -/
theorem numel2 {p q : ℕ} (hp : 0 < p) (hq : 0 < q) : 0 < (⟨2, ![p, q]⟩ : Shape).numel := by
  rw [Shape.numel, Fin.prod_univ_two]; exact Nat.mul_pos hp hq
/-- A stack of matrices with rows and columns has elements. -/
theorem numel3 {p q r : ℕ} (hp : 0 < p) (hq : 0 < q) (hr : 0 < r) : 0 < (⟨3, ![p, q, r]⟩ : Shape).numel := by
  rw [Shape.numel, Fin.prod_univ_three]; exact Nat.mul_pos (Nat.mul_pos hp hq) hr

/-- The rectangles of the parts. -/
abbrev rows (i : Fin 48) : Rect S1536x1024 := box (32 * (i : ℕ)) 0 32 1024 (by omega) (le_refl _)
abbrev sbRows (i : Fin 48) : Rect S1536x128 := box (32 * (i : ℕ)) 0 32 128 (by omega) (le_refl _)
abbrev rowsAll : Rect S1x1024 := box 0 0 1 1024 (le_refl _) (le_refl _)

/-- 32 rows have elements. -/
theorem pos32 : 0 < (⟨2, ![32, 1024]⟩ : Shape).numel := numel2 (by decide) (by decide)
/-- A row has elements. -/
theorem pos1 : 0 < (⟨2, ![1, 1024]⟩ : Shape).numel := numel2 (by decide) (by decide)

/-- The norms and the quantisation of 32 rows. -/
def lnP (i : Fin 48) (K : PP F) : PP F :=
  ld xM (rows i) pos32 fun x =>
  wr nM (rows i) pos32 (View.stores_vmem_bits_univ pos32 rfl) (shapeCast S32x1024 (lnN x) shapeCasts_S32x1024_S32x1024) <|
  ld g0M rowsAll pos1 fun g0 => ld b0M rowsAll pos1 fun b0 =>
  wr hfM (rows i) pos32 (View.stores_vmem pos32 ((Memref.isWhole_whole _).storeExact_slice rfl _ (packed _ _ (Dvd.intro _ (by omega : 2 * (16 * (i : ℕ)) = _)) (by decide))) (fun _ => rfl))
    (shapeCast S32x1024 (truncf .bf16 (lnAff (lnN x) g0 b0) bitsLt_bf16_f32) shapeCasts_S32x1024_S32x1024) <|
  ld gM rowsAll pos1 fun g => ld bM rowsAll pos1 fun b =>
  wr aM (rows i) pos32 (View.stores_vmem pos32 ((Memref.isWhole_whole _).storeExact_slice rfl _ (packed _ _ (Dvd.intro _ (by omega : 2 * (16 * (i : ℕ)) = _)) (by decide))) (fun _ => rfl))
    (shapeCast S32x1024 (truncf .bf16 (lnQ (lnAff (lnN x) g b)) bitsLt_bf16_f32) shapeCasts_S32x1024_S32x1024) <|
  wr a8M (rows i) pos32 (View.stores_vmem pos32 ((Memref.isWhole_whole _).storeExact_slice rfl _ (packed _ _ (Dvd.intro _ (by omega : 4 * (8 * (i : ℕ)) = _)) (by decide))) (fun _ => rfl))
    (shapeCast S32x1024 (fptosi 8 (lnQ (lnAff (lnN x) g b))) shapeCasts_S32x1024_S32x1024) <|
  wr sbM (sbRows i) (numel2 (by decide) (by decide)) (View.stores_vmem_bits_univ (numel2 (by decide) (by decide)) rfl)
    (shapeCast S32x128 (broadcastTo S32x128 (shapeCast S32x1 (lnScale (lnAff (lnN x) g b)) shapeCasts_S32x1_S32x1) broadcasts_S32x1_S32x128) shapeCasts_S32x128_S32x128) K

/-- 128 scales, read off the diagonal as a row. -/
def rowP (i : Fin 12) (K : PP F) : PP F :=
  ld sbM (box (128 * (i : ℕ)) 0 128 128 (by omega) (le_refl _)) (numel2 (by decide) (by decide)) fun sb =>
  wr sM (box ((i : ℕ) / 3) (128 * ((i : ℕ) % 3)) 1 128 (by omega) (by omega)) (numel2 (by decide) (by decide))
    (View.stores_vmem_bits_univ (numel2 (by decide) (by decide)) rfl) (shapeCast S1x128 (rowV sb) shapeCasts_S1x128_S1x128) K

abbrev hfR (t : Fin 6) : Rect S1536x1024 := box (256 * (t : ℕ)) 0 256 1024 (by omega) (le_refl _)
/-- The group that a byte's upper nibbles belong to. -/
abbrev up (g : Fin 4) : Fin 8 := ⟨(g : ℕ) + 4, by omega⟩
abbrev lo (g : Fin 4) : Fin 8 := ⟨(g : ℕ), by omega⟩
abbrev sbT (m : Fin 3) : Rect S1536x128 := box (512 * (m : ℕ)) 0 512 128 (by omega) (le_refl _)
abbrev aT (m : Fin 3) : Rect S1536x1024 := box (512 * (m : ℕ)) 0 512 1024 (by omega) (le_refl _)
/-- 512 rows of one of the two slots that hold a block of the quantised output. -/
abbrev yT {w : ℕ} (hw : w ≤ 512) (k : Fin 2) (m : Fin 3) : Rect S2x1536x512 :=
  Rect.unit (s := S2x1536x512) ![(k : ℕ), 512 * (m : ℕ), 0] (⟨3, ![1, 512, w]⟩ : Shape).size (fits3 (by omega) (by omega) (by omega))

section Width
variable {w : ℕ} (W : Wd w) (co : ℕ) (hc : co + w ≤ 2816)

/-- Eight rows of the statistics. -/
abbrev stR (r : ℕ) (h : r + 8 ≤ 24) : Rect S24x2816 := box r co 8 w h hc
/-- The statistics' first row. -/
abbrev st0 : Rect S24x2816 := box 0 co 1 w (by decide) hc
abbrev wrR : Rect S1024x2816 := box 0 co 1024 w (le_refl _) hc

/-- The float output of the first tile: its mean, and the sums of its deviations from it and of their squares. -/
def yf0P (K : PP F) : PP F :=
  ld hfM (hfR 0) (numel2 (by decide) (by decide)) fun hf => ld wrM (wrR co hc) (numel2 (by decide) W.pos) fun v =>
  wr stM (stR co hc 0 (by decide)) (numel2 (by decide) W.pos) (View.stores_vmem_bits_univ (numel2 (by decide) W.pos) rfl)
    (shapeCast ⟨2, ![8, w]⟩ (broadcastTo ⟨2, ![8, w]⟩ (shapeCast ⟨2, ![1, w]⟩ (pilot W (yfV W hf v)) W.id1) W.bc8) W.id8) <|
  wr stM (stR co hc 8 (by decide)) (numel2 (by decide) W.pos) (View.stores_vmem_bits_univ (numel2 (by decide) W.pos) rfl)
    (shapeCast ⟨2, ![8, w]⟩ (fold256 W (less W (yfV W hf v) (pilot W (yfV W hf v)))) W.id8) <|
  wr stM (stR co hc 16 (by decide)) (numel2 (by decide) W.pos) (View.stores_vmem_bits_univ (numel2 (by decide) W.pos) rfl)
    (shapeCast ⟨2, ![8, w]⟩ (fold256 W (mulf (less W (yfV W hf v) (pilot W (yfV W hf v))) (less W (yfV W hf v) (pilot W (yfV W hf v))))) W.id8) K

/-- The float output of a later tile: its deviations from the first tile's mean, added to the sums. -/
def yfP (t : Fin 6) (K : PP F) : PP F :=
  ld hfM (hfR t) (numel2 (by decide) (by decide)) fun hf => ld wrM (wrR co hc) (numel2 (by decide) W.pos) fun v =>
  ld stM (st0 co hc) (numel2 (by decide) W.pos) fun p => ld stM (stR co hc 8 (by decide)) (numel2 (by decide) W.pos) fun s1 =>
  wr stM (stR co hc 8 (by decide)) (numel2 (by decide) W.pos) (View.stores_vmem_bits_univ (numel2 (by decide) W.pos) rfl)
    (shapeCast ⟨2, ![8, w]⟩ (addf s1 (fold256 W (less W (yfV W hf v) p))) W.id8) <|
  ld stM (stR co hc 16 (by decide)) (numel2 (by decide) W.pos) fun s2 =>
  wr stM (stR co hc 16 (by decide)) (numel2 (by decide) W.pos) (View.stores_vmem_bits_univ (numel2 (by decide) W.pos) rfl)
    (shapeCast ⟨2, ![8, w]⟩ (addf s2 (fold256 W (mulf (less W (yfV W hf v) p) (less W (yfV W hf v) p)))) W.id8) K

/-- 128 rows of the weight, or the scales of group `g`. -/
abbrev wqR (g : Fin 8) : Rect S1024x2816 := box (128 * (g : ℕ)) co 128 w (by omega) hc
abbrev wsR (g : Fin 8) : Rect S8x2816 := box (g : ℕ) co 1 w (by omega) hc
abbrev wpR (g : Fin 4) : Rect S512x2816 := box (128 * (g : ℕ)) co 128 w (by omega) hc

/-- The dequantised weight of one group of bytes: two groups of 128 rows. -/
def deqP (g : Fin 4) (K : PP F) : PP F :=
  ld wpM (wpR co hc g) (numel2 (by decide) W.pos) fun v => ld wsM (wsR co hc (lo g)) (numel2 (by decide) W.pos) fun s0 =>
  wr wqM (wqR co hc (lo g)) (numel2 (by decide) W.pos)
    (View.stores_vmem (numel2 (by decide) W.pos) ((Memref.isWhole_whole _).storeExact_slice rfl _ (packed _ _ (Dvd.intro _ (by simp only [lo]; omega : 2 * (64 * (g : ℕ)) = _)) (by decide))) (fun _ => rfl))
    (shapeCast ⟨2, ![128, w]⟩ (deqV W (nibLo v) s0) W.id128) <|
  ld wsM (wsR co hc (up g)) (numel2 (by decide) W.pos) fun s1 =>
  wr wqM (wqR co hc (up g)) (numel2 (by decide) W.pos)
    (View.stores_vmem (numel2 (by decide) W.pos) ((Memref.isWhole_whole _).storeExact_slice rfl _ (packed _ _ (Dvd.intro _ (by simp only [up]; omega : 2 * (64 * ((g : ℕ) + 4)) = _)) (by decide))) (fun _ => rfl))
    (shapeCast ⟨2, ![128, w]⟩ (deqV W (nibHi v) s1) W.id128) K

abbrev dyT (m : Fin 3) : Rect S1536x2816 := box (512 * (m : ℕ)) co 512 w (by omega) hc
abbrev klR : Rect S1x2816 := box 0 co 1 w (le_refl _) hc

/-- The quantised output of 512 rows, kept in a slot. -/
def yqP (k : Fin 2) (m : Fin 3) (K : FVec F ⟨2, ![512, w]⟩ .f32 → PP F) : PP F :=
  ld sbM (sbT m) (numel2 (by decide) (by decide)) fun sb => ld aM (aT m) (numel2 (by decide) (by decide)) fun a =>
  ld wqM (wrR co hc) (numel2 (by decide) W.pos) fun v =>
  wr yM (yT W.slot k m) (numel3 (by decide) (by decide) W.pos) (View.stores_vmem_bits_univ (numel3 (by decide) (by decide) W.pos) rfl)
    (shapeCast ⟨3, ![1, 512, w]⟩ (yqV W sb a v) W.to3) (K (yqV W sb a v))

/-- The derivative by the quantised output of 512 rows. -/
def dyP (k : Fin 2) (m : Fin 3) (mu p q : FVec F ⟨2, ![1, w]⟩ .f32) (K : PP F) : PP F :=
  ld yM (yT W.slot k m) (numel3 (by decide) (by decide) W.pos) fun y =>
  wr dyM (dyT co hc m) (numel2 (by decide) W.pos)
    (View.stores_vmem (numel2 (by decide) W.pos) ((Memref.isWhole_whole _).storeExact_slice rfl _ (packed _ _ (Dvd.intro _ (by omega : 2 * (256 * (m : ℕ)) = _)) (by decide))) (fun _ => rfl))
    (shapeCast ⟨2, ![512, w]⟩ (dyV W y mu p q) W.id512) K

/-- A block of columns of the quantised output: its moments, the divergence from the float output's, and the derivative. -/
def qP (k : Fin 2) (K : PP F) : PP F :=
  yqP W co hc k 0 fun y0 => yqP W co hc k 1 fun y1 => yqP W co hc k 2 fun y2 =>
  let muq := meanT W (tot3 (fold512 W y0) (fold512 W y1) (fold512 W y2))
  ld yM (yT W.slot k 0) (numel3 (by decide) (by decide) W.pos) fun z0 => ld yM (yT W.slot k 1) (numel3 (by decide) (by decide) W.pos) fun z1 =>
  ld yM (yT W.slot k 2) (numel3 (by decide) (by decide) W.pos) fun z2 =>
  let vq := meanT W (tot3 (sqV W z0 muq) (sqV W z1 muq) (sqV W z2 muq))
  ld stM (stR co hc 8 (by decide)) (numel2 (by decide) W.pos) fun s1 => ld stM (stR co hc 16 (by decide)) (numel2 (by decide) W.pos) fun s2 =>
  ld stM (st0 co hc) (numel2 (by decide) W.pos) fun p0 =>
  let muf := addf p0 (meanT W s1)
  let vf := vfV (meanT W s1) (meanT W s2)
  wr klM (klR co hc) (numel2 (by decide) W.pos) (View.stores_vmem_bits_univ (numel2 (by decide) W.pos) rfl)
    (shapeCast ⟨2, ![1, w]⟩ (klV muf vf muq vq) W.id1) <|
  dyP W co hc k 0 muq (pV muf vf muq vq) (qV muf vf muq vq) <|
  dyP W co hc k 1 muq (pV muf vf muq vq) (qV muf vf muq vq) <|
  dyP W co hc k 2 muq (pV muf vf muq vq) (qV muf vf muq vq) K

end Width

abbrev dyR (m : Fin 3) : Rect S1536x2816 := box (512 * (m : ℕ)) 0 512 2816 (by omega) (le_refl _)
abbrev wqH (c : Fin 2) : Rect S1024x2816 := box (512 * (c : ℕ)) 0 512 2816 (by omega) (le_refl _)
abbrev dhR (m : Fin 3) (c : Fin 2) : Rect S1536x1024 := box (512 * (m : ℕ)) (512 * (c : ℕ)) 512 512 (by omega) (by omega)
abbrev dgR (c : Fin 2) : Rect S1x1024 := box 0 (512 * (c : ℕ)) 1 512 (le_refl _) (by omega)

/-- The derivative by the norm's output, 512 rows and 512 columns. -/
def dhP (m : Fin 3) (c : Fin 2) (K : FVec F S512x512 .f32 → Vec F S512x512 .f32 → PP F) : PP F :=
  ld dyM (dyR m) (numel2 (by decide) (by decide)) fun dy => ld wqM (wqH c) (numel2 (by decide) (by decide)) fun v =>
  wr dhM (dhR m c) (numel2 (by decide) (by decide)) (View.stores_vmem_bits_univ (numel2 (by decide) (by decide)) rfl)
    (shapeCast S512x512 (dhV dy v) shapeCasts_S512x512_S512x512) <|
  ld nM (dhR m c) (numel2 (by decide) (by decide)) fun n => K (dhV dy v) n

/-- A row of 512 sums stored. -/
def dgP (M : Memref sig .tc .vmem S1x1024 .f32) (c : Fin 2) (t : FVec F S8x512 .f32) (K : PP F) : PP F :=
  wr M (dgR c) (numel2 (by decide) (by decide)) (View.stores_vmem_bits_univ (numel2 (by decide) (by decide)) rfl)
    (shapeCast S1x512 (sum8 w512 t) shapeCasts_S1x512_S1x512) K

/-! ## The transfers -/

/-- One transfer of the program. -/
structure Xfer where
  {sp sp' : Space}
  {s : Shape}
  {e : EltTy}
  src : Memref sig .tc sp s e
  dst : Memref sig .tc sp' s e
  sem : DmaSem sig
  hsrc : src.view.WordExact
  hdst : dst.view.WordExact
  ty : DmaTarget.Typed (nD := nD) (τ := τ) (p := .tc) sp (.dma sem) (.here dst)

/-- Its start. -/
def Xfer.start (x : Xfer) (K : PP F) : PP F := .op (.enqueueDma x.src (.here x.dst) (.dma x.sem) x.hsrc x.hdst x.ty) fun _ => K
/-- The wait for it. -/
def Xfer.wait (x : Xfer) (K : PP F) : PP F := .op (.waitDma2 x.sem x.src x.dst x.hsrc x.hdst) fun _ => K

abbrev semP (i : Fin 5) : DmaSem sig := ((cc0_scratch22.slice (Rect.unit (s := S5) ![(i : ℕ)] S1.size (by intro a; fin_cases a; exact i.isLt))).squeeze S_ squeezes_S1_S_).sem
abbrev semX (i : Fin 6) : DmaSem sig := ((cc0_scratch23.slice (Rect.unit (s := S6) ![(i : ℕ)] S1.size (by intro a; fin_cases a; exact i.isLt))).squeeze S_ squeezes_S1_S_).sem
abbrev semW (i : Fin 6) : DmaSem sig := ((cc0_scratch24.slice (Rect.unit (s := S6) ![(i : ℕ)] S1.size (by intro a; fin_cases a; exact i.isLt))).squeeze S_ squeezes_S1_S_).sem
abbrev semO (i : Fin 8) : DmaSem sig := ((cc0_scratch26.slice (Rect.unit (s := S8) ![(i : ℕ)] S1.size (by intro a; fin_cases a; exact i.isLt))).squeeze S_ squeezes_S1_S_).sem

/-- A tile of the tokens copied in. -/
def xX (t : Fin 6) : Xfer :=
  ⟨(Memref.whole main_v0 : Memref sig .tc .hbm S1536x1024 .bf16).slice (hfR t) (fun _ => rfl), xM.slice (hfR t) (fun _ => rfl), semX t,
    (Memref.isWhole_whole _).wordExact_slice rfl _ (packed _ _ (Dvd.intro _ (by omega : 2 * (128 * (t : ℕ)) = _)) (by decide)).wholeWords,
    (Memref.isWhole_whole _).wordExact_slice rfl _ (packed _ _ (Dvd.intro _ (by omega : 2 * (128 * (t : ℕ)) = _)) (by decide)).wholeWords, ⟨Or.inl rfl, trivial⟩⟩

/-- A column block of the float weight copied in. -/
def xW {w : ℕ} (i : Fin 6) (co : ℕ) (hc : co + w ≤ 2816) : Xfer :=
  ⟨(Memref.whole main_arg5 : Memref sig .tc .hbm S1024x2816 .bf16).slice (wrR co hc) (fun _ => rfl), wrM.slice (wrR co hc) (fun _ => rfl), semW i,
    (Memref.isWhole_whole _).wordExact_slice rfl _ (packed _ _ (Dvd.intro 0 rfl) (by decide)).wholeWords,
    (Memref.isWhole_whole _).wordExact_slice rfl _ (packed _ _ (Dvd.intro 0 rfl) (by decide)).wholeWords, ⟨Or.inl rfl, trivial⟩⟩

/-- 512 rows of the derivative copied out. -/
def xO (m : Fin 3) : Xfer :=
  ⟨dhM.slice (aT m) (fun _ => rfl), (Memref.whole main_v5_3 : Memref sig .tc .hbm S1536x1024 .f32).slice (aT m) (fun _ => rfl), semO ⟨(m : ℕ) + 3, by omega⟩,
    View.wordExact_bits rfl, View.wordExact_bits rfl, ⟨Or.inl rfl, trivial⟩⟩

/-- The transfers, in the order of the semaphores. -/
def X : Fin 26 → Xfer
  | 0 => ⟨(Memref.whole main_v1 : Memref sig .tc .hbm S1x1024 .f32), g0M, semP 0, (Memref.isWhole_whole _).wordExact, (Memref.isWhole_whole _).wordExact, ⟨Or.inl rfl, trivial⟩⟩
  | 1 => ⟨(Memref.whole main_v2 : Memref sig .tc .hbm S1x1024 .f32), gM, semP 1, (Memref.isWhole_whole _).wordExact, (Memref.isWhole_whole _).wordExact, ⟨Or.inl rfl, trivial⟩⟩
  | 2 => ⟨(Memref.whole main_v3 : Memref sig .tc .hbm S1x1024 .f32), b0M, semP 2, (Memref.isWhole_whole _).wordExact, (Memref.isWhole_whole _).wordExact, ⟨Or.inl rfl, trivial⟩⟩
  | 3 => ⟨(Memref.whole main_v4 : Memref sig .tc .hbm S1x1024 .f32), bM, semP 3, (Memref.isWhole_whole _).wordExact, (Memref.isWhole_whole _).wordExact, ⟨Or.inl rfl, trivial⟩⟩
  | 4 => ⟨(Memref.whole main_arg7 : Memref sig .tc .hbm S8x2816 .f32), wsM, semP 4, (Memref.isWhole_whole _).wordExact, (Memref.isWhole_whole _).wordExact, ⟨Or.inl rfl, trivial⟩⟩
  | 5 => xX 0
  | 6 => xX 1
  | 7 => xX 2
  | 8 => xX 3
  | 9 => xX 4
  | 10 => xX 5
  | 11 => xW (w := 512) 0 0 (by decide)
  | 12 => xW (w := 512) 1 512 (by decide)
  | 13 => xW (w := 512) 2 1024 (by decide)
  | 14 => xW (w := 512) 3 1536 (by decide)
  | 15 => xW (w := 512) 4 2048 (by decide)
  | 16 => xW (w := 256) 5 2560 (by decide)
  | 17 => ⟨(Memref.whole main_arg6 : Memref sig .tc .hbm S512x2816 .i8), wpM, cc0_scratch25.sem, (Memref.isWhole_whole _).wordExact, (Memref.isWhole_whole _).wordExact, ⟨Or.inl rfl, trivial⟩⟩
  | 18 => ⟨a8M, (Memref.whole main_v5_4 : Memref sig .tc .hbm S1536x1024 .i8), semO 0, (Memref.isWhole_whole _).wordExact, (Memref.isWhole_whole _).wordExact, ⟨Or.inl rfl, trivial⟩⟩
  | 19 => ⟨sM, (Memref.whole main_v5_5 : Memref sig .tc .hbm S4x384 .f32), semO 1, (Memref.isWhole_whole _).wordExact, (Memref.isWhole_whole _).wordExact, ⟨Or.inl rfl, trivial⟩⟩
  | 20 => ⟨klM, (Memref.whole main_v5_0 : Memref sig .tc .hbm S1x2816 .f32), semO 2, (Memref.isWhole_whole _).wordExact, (Memref.isWhole_whole _).wordExact, ⟨Or.inl rfl, trivial⟩⟩
  | 21 => xO 0
  | 22 => xO 1
  | 23 => xO 2
  | 24 => ⟨dgM, (Memref.whole main_v5_1 : Memref sig .tc .hbm S1x1024 .f32), semO 6, (Memref.isWhole_whole _).wordExact, (Memref.isWhole_whole _).wordExact, ⟨Or.inl rfl, trivial⟩⟩
  | 25 => ⟨dbM, (Memref.whole main_v5_2 : Memref sig .tc .hbm S1x1024 .f32), semO 7, (Memref.isWhole_whole _).wordExact, (Memref.isWhole_whole _).wordExact, ⟨Or.inl rfl, trivial⟩⟩
  | ⟨_ + 26, h⟩ => absurd h (Nat.not_lt.2 (Nat.le_add_left _ _))

/-! ## The program -/

/-- A column block of the weight. -/
structure Blk where
  w : ℕ
  W : Wd w
  co : ℕ
  hc : co + w ≤ 2816

/-- The six column blocks: five of 512 columns and one of 256. -/
def blk : Fin 6 → Blk
  | 0 => ⟨512, w512, 0, by decide⟩
  | 1 => ⟨512, w512, 512, by decide⟩
  | 2 => ⟨512, w512, 1024, by decide⟩
  | 3 => ⟨512, w512, 1536, by decide⟩
  | 4 => ⟨512, w512, 2048, by decide⟩
  | 5 => ⟨256, w256, 2560, by decide⟩

/-- The parts of the program. -/
inductive Step where
  | start (k : Fin 26)
  | wait (k : Fin 26)
  | ln (i : Fin 48)
  | row (i : Fin 12)
  | yf0 (j : Fin 6)
  | yf (t j : Fin 6)
  | deq (j : Fin 6) (g : Fin 4)
  | q (j : Fin 6)

/-- A part as a program. -/
def Step.prog : Step → PP F → PP F
  | .start k => (X k).start
  | .wait k => (X k).wait
  | .ln i => lnP i
  | .row i => rowP i
  | .yf0 j => yf0P (blk j).W (blk j).co (blk j).hc
  | .yf t j => yfP (blk j).W (blk j).co (blk j).hc t
  | .deq j g => deqP (blk j).W (blk j).co (blk j).hc g
  | .q j => qP (blk j).W (blk j).co (blk j).hc ⟨(j : ℕ) % 2, Nat.mod_lt _ (by decide)⟩

/-- The copies in. -/
def stIn : List Step :=
  [.start 5, .start 0, .start 1, .start 2, .start 3, .start 4, .start 6, .start 11, .start 12, .start 13, .start 14, .start 15, .start 16,
    .start 7, .start 8, .start 9, .start 10, .start 17, .wait 0, .wait 1, .wait 2, .wait 3, .wait 4, .wait 5]

/-- A tile of 256 rows: its norms, and its scales as two rows. -/
def stLn (t : Fin 6) : List Step :=
  [.ln ⟨8 * (t : ℕ) + 0, by omega⟩, .ln ⟨8 * (t : ℕ) + 1, by omega⟩, .ln ⟨8 * (t : ℕ) + 2, by omega⟩, .ln ⟨8 * (t : ℕ) + 3, by omega⟩,
    .ln ⟨8 * (t : ℕ) + 4, by omega⟩, .ln ⟨8 * (t : ℕ) + 5, by omega⟩, .ln ⟨8 * (t : ℕ) + 6, by omega⟩, .ln ⟨8 * (t : ℕ) + 7, by omega⟩,
    .row ⟨2 * (t : ℕ) + 0, by omega⟩, .row ⟨2 * (t : ℕ) + 1, by omega⟩]

/-- The float output of the first tile. -/
def stY0 : List Step :=
  [.wait 11, .yf0 0, .wait 12, .yf0 1, .wait 13, .yf0 2, .wait 14, .yf0 3, .wait 15, .yf0 4, .wait 16, .yf0 5]
/-- The float output of a later tile. -/
def stY (t : Fin 6) : List Step := [.yf t 0, .yf t 1, .yf t 2, .yf t 3, .yf t 4, .yf t 5]
/-- The dequantisation of a column block. -/
def stD (j : Fin 6) : List Step := [.deq j 0, .deq j 1, .deq j 2, .deq j 3]

/-- The norms and the float output. -/
def steps1 : List Step :=
  stLn 0 ++ .wait 6 :: stLn 1 ++ stY0 ++ .wait 7 :: stLn 2 ++ stY 1 ++ .wait 8 :: stLn 3 ++ stY 2 ++ .wait 9 :: stLn 4 ++ stY 3
    ++ .wait 10 :: stLn 5 ++ stY 4 ++ stY 5 ++ [.start 18, .start 19, .wait 17]

/-- The quantised output. -/
def steps2 : List Step :=
  stD 0 ++ stD 1 ++ .q 0 :: stD 2 ++ .q 1 :: stD 3 ++ .q 2 :: stD 4 ++ .q 3 :: stD 5 ++ [.q 4, .q 5, .start 20]

/-- Parts in sequence. -/
def run (l : List Step) (K : PP F) : PP F := l.foldr Step.prog K

/-- The backward product, its sums, and the copies out. -/
def tail : PP F :=
  dhP 0 0 fun d00 n00 => dhP 0 1 fun d01 n01 => (X 21).start <|
  dhP 1 0 fun d10 n10 => dhP 1 1 fun d11 n11 => (X 22).start <|
  dhP 2 0 fun d20 n20 => dhP 2 1 fun d21 n21 => (X 23).start <|
  dgP dgM 0 (tot3 (fold512 w512 (mulf d00 n00)) (fold512 w512 (mulf d10 n10)) (fold512 w512 (mulf d20 n20))) <|
  dgP dbM 0 (tot3 (fold512 w512 d00) (fold512 w512 d10) (fold512 w512 d20)) <|
  dgP dgM 1 (tot3 (fold512 w512 (mulf d01 n01)) (fold512 w512 (mulf d11 n11)) (fold512 w512 (mulf d21 n21))) <|
  dgP dbM 1 (tot3 (fold512 w512 d01) (fold512 w512 d11) (fold512 w512 d21)) <|
  run [.start 24, .start 25, .wait 18, .wait 19, .wait 20, .wait 21, .wait 22, .wait 23, .wait 24, .wait 25] (.ret ⟨⟩)

/-- The whole body. -/
def body : PP F := run stIn <| run steps1 <| run steps2 tail

end Cert.Kernel.Tweak
-- ==== Proof.Bits.TweakEq.lean ====
/-
  Hand-written, untrusted. The printed body is the body written over its parts.
-/
module

public import proofs.«01_k».proof.Proof.Bits.Tweak

@[expose] public section

set_option maxRecDepth 65536

noncomputable section

namespace Cert.Kernel.Tweak

open Idealize.ShloMosaic Idealize.SL.Sem
open Cert.Kernel
open Facts₀ Facts

variable {F : FTy → Type} [FloatOps F]

set_option maxHeartbeats 0 in
/-- The kernel's body is `body`. -/
theorem defs_body (t) : (defs₀ (F := F) .tc 0 t) = body := by
  rfl

end Cert.Kernel.Tweak
-- ==== Proof.Bits.Exec.lean ====
/-
  Hand-written, untrusted. The run of the body, on plain states.

  `pl` is the program's plan of transfers. `Step.next` is what each part does to a state, and `good_step` says that the part does it
  where the transfers it needs done are not in flight (`Step.ok`). `good_body` runs the whole body: from a state with nothing in flight
  to the state `endS`, with nothing in flight.
-/
module

public import proofs.«01_k».proof.Proof.Machine
public import proofs.«01_k».proof.Proof.Bits.TweakEq
public import Idealize.ShloMosaic.Lib.ViewIndex

@[expose] public section

set_option maxRecDepth 16384

noncomputable section

namespace Cert.Kernel.Tweak

open Idealize.ShloMosaic Idealize.ShloMosaic.TcCoe
open Idealize.SL Idealize.SL.RA Idealize.SL.BI Idealize.SL.Sem
open Idealize.ShloMosaic.Pipeline (UC)
open Cert.Kernel
open Cert.Machine
open Facts₀ Facts

variable {F : FTy → Type} [FloatOps F]

/-! ## The plan of the transfers -/

abbrev srcR (k : Fin 26) : Ref sig .tc := (X k).src.view.ref
abbrev dstR (k : Fin 26) : Ref sig .tc := (X k).dst.view.ref

/-- No buffer is the source of one transfer and the destination of another. -/
theorem src_ne_dst : ∀ k k', srcR k ≠ dstR k' := by decide +kernel

/-- Which of the three families of row or column blocks a transfer belongs to; a number of its own for the others. -/
def fam (k : Fin 26) : ℕ :=
  if 5 ≤ (k : ℕ) ∧ (k : ℕ) ≤ 10 then 100 else if 11 ≤ (k : ℕ) ∧ (k : ℕ) ≤ 16 then 101 else if 21 ≤ (k : ℕ) ∧ (k : ℕ) ≤ 23 then 102 else k

/-- Transfers with one source are of one family. -/
theorem src_fam : ∀ k k', srcR k = srcR k' → fam k = fam k' := by decide +kernel
/-- Transfers with one destination are of one family. -/
theorem dst_fam : ∀ k k', dstR k = dstR k' → fam k = fam k' := by decide +kernel

/-- Two transfers of one family are two row blocks of the tokens, two column blocks of the float weight, or two row blocks of the token derivative. -/
theorem same_fam : ∀ k k' : Fin 26, k ≠ k' → fam k = fam k' →
    (∃ t t' : Fin 6, t ≠ t' ∧ k = ⟨5 + (t : ℕ), by omega⟩ ∧ k' = ⟨5 + (t' : ℕ), by omega⟩)
    ∨ (∃ t t' : Fin 6, t ≠ t' ∧ k = ⟨11 + (t : ℕ), by omega⟩ ∧ k' = ⟨11 + (t' : ℕ), by omega⟩)
    ∨ (∃ t t' : Fin 3, t ≠ t' ∧ k = ⟨21 + (t : ℕ), by omega⟩ ∧ k' = ⟨21 + (t' : ℕ), by omega⟩) := by decide +kernel

/-- The transfer of a row block of the tokens. -/
theorem X_x (t : Fin 6) : X ⟨5 + (t : ℕ), by omega⟩ = xX t := by fin_cases t <;> rfl
/-- The transfer of a column block of the float weight. -/
theorem X_w (j : Fin 6) : X ⟨11 + (j : ℕ), by omega⟩ = xW j (blk j).co (blk j).hc := by fin_cases j <;> rfl
/-- The transfer of a row block of the token derivative. -/
theorem X_o (m : Fin 3) : X ⟨21 + (m : ℕ), by omega⟩ = xO m := by fin_cases m <;> rfl

/-- The columns of two blocks of the weight do not meet. -/
theorem blk_sep : ∀ j j' : Fin 6, j ≠ j' → (blk j).co + (blk j).w ≤ (blk j').co ∨ (blk j').co + (blk j').w ≤ (blk j).co := by decide +kernel

/-- Boxes apart along the rows, or along the columns, do not meet. -/
theorem box_rows {P Q a b p q a' b' p' q' : ℕ} {h1 : a + p ≤ P} {h2 : b + q ≤ Q} {h1' : a' + p' ≤ P} {h2' : b' + q' ≤ Q}
    (h : a + p ≤ a' ∨ a' + p' ≤ a) : Disjoint (box a b p q h1 h2).set (box a' b' p' q' h1' h2').set :=
  Rect.unit_disjoint (s := ⟨2, ![P, Q]⟩) 0 h
/-- Two rectangles with separate columns do not meet. -/
theorem box_cols {P Q a b p q a' b' p' q' : ℕ} {h1 : a + p ≤ P} {h2 : b + q ≤ Q} {h1' : a' + p' ≤ P} {h2' : b' + q' ≤ Q}
    (h : b + q ≤ b' ∨ b' + q' ≤ b) : Disjoint (box a b p q h1 h2).set (box a' b' p' q' h1' h2').set :=
  Rect.unit_disjoint (s := ⟨2, ![P, Q]⟩) 1 h

/-- Two tiles of 256 rows do not meet. -/
theorem hfR_sep {t t' : Fin 6} (h : t ≠ t') : Disjoint (hfR t).set (hfR t').set :=
  box_rows (by have : (t : ℕ) ≠ t' := fun e => h (Fin.ext e); omega)
/-- Two tiles of 512 rows do not meet. -/
theorem aT_sep {t t' : Fin 3} (h : t ≠ t') : Disjoint (aT t).set (aT t').set :=
  box_rows (by have : (t : ℕ) ≠ t' := fun e => h (Fin.ext e); omega)
/-- Two column blocks of the float weight do not meet. -/
theorem wrR_sep {j j' : Fin 6} (h : j ≠ j') : Disjoint (wrR (blk j).co (blk j).hc).set (wrR (blk j').co (blk j').hc).set :=
  box_cols (blk_sep j j' h)

variable (c : Dev nD)

/-- A transfer of the program. -/
def cpy (x : Xfer) : Copy τ sig c := Copy.of x.src x.dst x.sem

variable {c} in
/-- Two transfers share no element where neither reads what the other writes and they read, and write, apart. -/
theorem lent_disj (x y : Copy τ sig c) (hx : x.dst ≠ x.src) (hy : y.dst ≠ y.src) (h1 : x.src ≠ y.dst) (h2 : y.src ≠ x.dst)
    (hs : ∀ h : y.src = x.src, Disjoint x.sset (h ▸ y.sset)) (hd : ∀ h : y.dst = x.dst, Disjoint x.dset (h ▸ y.dset)) (b : Ref sig .tc) :
    Disjoint (x.lent c b) (y.lent c b) := by
  obtain ⟨_, xs, xd, xss, xds, _⟩ := x
  obtain ⟨_, ys, yd, yss, yds, _⟩ := y
  dsimp only at *
  unfold Copy.lent
  dsimp only
  by_cases hbs : b = xs
  · subst hbs
    rw [dif_pos rfl]
    by_cases hbs' : b = ys
    · subst hbs'
      rw [dif_pos rfl]; exact hs rfl
    · rw [dif_neg hbs', dif_neg h1]; exact Finset.disjoint_empty_right _
  · rw [dif_neg hbs]
    by_cases hbd : b = xd
    · subst hbd
      rw [dif_pos rfl, dif_neg (fun e => h2 e.symm)]
      by_cases hbd' : b = yd
      · subst hbd'
        rw [dif_pos rfl]; exact hd rfl
      · rw [dif_neg hbd']; exact Finset.disjoint_empty_right _
    · rw [dif_neg hbd]; exact Finset.disjoint_empty_left _

/-- Two transfers borrow separate elements of every buffer. -/
theorem cpy_disj (k k' : Fin 26) (h : k ≠ k') (b : Ref sig .tc) : Disjoint ((cpy c (X k)).lent c b) ((cpy c (X k')).lent c b) := by
  by_cases hf : fam k = fam k'
  · rcases same_fam k k' h hf with ⟨t, t', ht, rfl, rfl⟩ | ⟨t, t', ht, rfl, rfl⟩ | ⟨t, t', ht, rfl, rfl⟩
    · rw [X_x, X_x]
      refine lent_disj _ _ ?_ ?_ ?_ ?_ (fun _ => ?_) (fun _ => ?_) b
      · show xM.view.ref ≠ (Memref.whole main_v0 : Memref sig .tc .hbm S1536x1024 .bf16).view.ref; decide
      · show xM.view.ref ≠ (Memref.whole main_v0 : Memref sig .tc .hbm S1536x1024 .bf16).view.ref; decide
      · show (Memref.whole main_v0 : Memref sig .tc .hbm S1536x1024 .bf16).view.ref ≠ xM.view.ref; decide
      · show (Memref.whole main_v0 : Memref sig .tc .hbm S1536x1024 .bf16).view.ref ≠ xM.view.ref; decide
      · exact View.disjoint_slice (v := (Memref.whole main_v0 : Memref sig .tc .hbm S1536x1024 .bf16).view) (hfR_sep ht)
      · exact View.disjoint_slice (v := xM.view) (hfR_sep ht)
    · rw [X_w, X_w]
      refine lent_disj _ _ ?_ ?_ ?_ ?_ (fun _ => ?_) (fun _ => ?_) b
      · show wrM.view.ref ≠ (Memref.whole main_arg5 : Memref sig .tc .hbm S1024x2816 .bf16).view.ref; decide
      · show wrM.view.ref ≠ (Memref.whole main_arg5 : Memref sig .tc .hbm S1024x2816 .bf16).view.ref; decide
      · show (Memref.whole main_arg5 : Memref sig .tc .hbm S1024x2816 .bf16).view.ref ≠ wrM.view.ref; decide
      · show (Memref.whole main_arg5 : Memref sig .tc .hbm S1024x2816 .bf16).view.ref ≠ wrM.view.ref; decide
      · exact View.disjoint_slice (v := (Memref.whole main_arg5 : Memref sig .tc .hbm S1024x2816 .bf16).view) (wrR_sep ht)
      · exact View.disjoint_slice (v := wrM.view) (wrR_sep ht)
    · rw [X_o, X_o]
      refine lent_disj _ _ ?_ ?_ ?_ ?_ (fun _ => ?_) (fun _ => ?_) b
      · show (Memref.whole main_v5_3 : Memref sig .tc .hbm S1536x1024 .f32).view.ref ≠ dhM.view.ref; decide
      · show (Memref.whole main_v5_3 : Memref sig .tc .hbm S1536x1024 .f32).view.ref ≠ dhM.view.ref; decide
      · show dhM.view.ref ≠ (Memref.whole main_v5_3 : Memref sig .tc .hbm S1536x1024 .f32).view.ref; decide
      · show dhM.view.ref ≠ (Memref.whole main_v5_3 : Memref sig .tc .hbm S1536x1024 .f32).view.ref; decide
      · exact View.disjoint_slice (v := dhM.view) (aT_sep ht)
      · exact View.disjoint_slice (v := (Memref.whole main_v5_3 : Memref sig .tc .hbm S1536x1024 .f32).view) (aT_sep ht)
  · exact lent_disj _ _ (src_ne_dst k k).symm (src_ne_dst k' k').symm (src_ne_dst k k') (src_ne_dst k' k)
      (fun e => absurd (src_fam k k' e.symm) hf) (fun e => absurd (dst_fam k k' e.symm) hf) b

/-- Every transfer moves something. -/
theorem numel_pos : ∀ k : Fin 26, 0 < (X k).s.numel := by
  intro k
  fin_cases k
  all_goals first | exact numel2 (by decide) (by decide)

/-- The plan of the transfers. -/
def pl : Plan nD τ sig c (Fin 26) where
  cp k := cpy c (X k)
  ne k := (src_ne_dst k k).symm
  pos k := (X k).dst.view.dmaCredit_pos (numel_pos k)
  disj := cpy_disj c

/-! ## What is lent -/

/-- No element of a buffer is lent where no transfer in flight touches it. -/
theorem busy_none {fly : Finset (Fin 26)} {b : Ref sig .tc} (h : ∀ k ∈ fly, b ≠ srcR k ∧ b ≠ dstR k) : (pl c).busy fly b = ∅ := by
  unfold Plan.busy
  refine Finset.eq_empty_of_forall_notMem fun i hi => ?_
  obtain ⟨k, hk, hi⟩ := Finset.mem_biUnion.mp hi
  rw [Copy.lent_none _ _ (h k hk).1 (h k hk).2] at hi
  exact absurd hi (Finset.notMem_empty i)

variable {c}

/-- No element of a buffer is lent where the transfers that touch it are not in flight. -/
theorem free_of {fly : Finset (Fin 26)} {b : Ref sig .tc} (T : List (Fin 26)) (hT : ∀ k, k ∉ T → b ≠ srcR k ∧ b ≠ dstR k) (h : ∀ k ∈ T, k ∉ fly)
    (A : Finset (Idx (L τ c b))) : Disjoint A ((pl c).busy fly b) := by
  rw [busy_none c (fun k hk => hT k fun hk' => h k hk' hk)]
  exact Finset.disjoint_empty_right A

/-- Only the transfers of its row blocks touch the buffer of the tokens. -/
theorem touch_x : ∀ k, (∃ t : Fin 6, k = ⟨5 + (t : ℕ), by omega⟩) ∨ (xM.view.ref ≠ srcR k ∧ xM.view.ref ≠ dstR k) := by decide +kernel
/-- Only the transfers of its column blocks touch the buffer of the float weight. -/
theorem touch_w : ∀ k, (∃ t : Fin 6, k = ⟨11 + (t : ℕ), by omega⟩) ∨ (wrM.view.ref ≠ srcR k ∧ wrM.view.ref ≠ dstR k) := by decide +kernel
/-- Only the transfers of its row blocks touch the buffer of the token derivative. -/
theorem touch_dh : ∀ k, (∃ t : Fin 3, k = ⟨21 + (t : ℕ), by omega⟩) ∨ (dhM.view.ref ≠ srcR k ∧ dhM.view.ref ≠ dstR k) := by decide +kernel

/-- The tile of 256 tokens that 32 rows lie in. -/
abbrev tileOf (i : Fin 48) : Fin 6 := ⟨(i : ℕ) / 8, by omega⟩

/-- 32 rows of the tokens are free when the transfer of their tile is not in flight. -/
theorem free_x {fly : Finset (Fin 26)} (i : Fin 48) (h : (⟨5 + (tileOf i : ℕ), by omega⟩ : Fin 26) ∉ fly) :
    Disjoint (xM.view.slice (rows i)).set ((pl c).busy fly xM.view.ref) := by
  unfold Plan.busy
  rw [Finset.disjoint_biUnion_right]
  intro k hk
  rcases touch_x k with ⟨t, rfl⟩ | hn
  · have ht : t ≠ tileOf i := fun e => h (e ▸ hk)
    have : ((pl c).cp ⟨5 + (t : ℕ), by omega⟩).lent c xM.view.ref = (xM.view.slice (hfR t)).set := by
      show (cpy c (X _)).lent c xM.view.ref = _
      rw [X_x]
      exact Copy.lent_dst (c := c) (cpy c (xX t)) (by
        show xM.view.ref ≠ (Memref.whole main_v0 : Memref sig .tc .hbm S1536x1024 .bf16).view.ref; decide)
    rw [this]
    refine View.disjoint_slice (v := xM.view) (box_rows ?_)
    have : (t : ℕ) ≠ (i : ℕ) / 8 := fun e => ht (Fin.ext e)
    omega
  · rw [Copy.lent_none _ _ hn.1 hn.2]; exact Finset.disjoint_empty_right _

/-- A column block of the float weight is free when its transfer is not in flight. -/
theorem free_w {fly : Finset (Fin 26)} (j : Fin 6) (h : (⟨11 + (j : ℕ), by omega⟩ : Fin 26) ∉ fly) :
    Disjoint (wrM.view.slice (wrR (blk j).co (blk j).hc)).set ((pl c).busy fly wrM.view.ref) := by
  unfold Plan.busy
  rw [Finset.disjoint_biUnion_right]
  intro k hk
  rcases touch_w k with ⟨t, rfl⟩ | hn
  · have ht : j ≠ t := fun e => h (e ▸ hk)
    have : ((pl c).cp ⟨11 + (t : ℕ), by omega⟩).lent c wrM.view.ref = (wrM.view.slice (wrR (blk t).co (blk t).hc)).set := by
      show (cpy c (X _)).lent c wrM.view.ref = _
      rw [X_w]
      exact Copy.lent_dst (c := c) (cpy c (xW t (blk t).co (blk t).hc)) (by
        show wrM.view.ref ≠ (Memref.whole main_arg5 : Memref sig .tc .hbm S1024x2816 .bf16).view.ref; decide)
    rw [this]
    exact View.disjoint_slice (v := wrM.view) (wrR_sep ht)
  · rw [Copy.lent_none _ _ hn.1 hn.2]; exact Finset.disjoint_empty_right _

/-- A block of the token derivative is free when the transfer of its rows is not in flight. -/
theorem free_dh {fly : Finset (Fin 26)} (m : Fin 3) (cc : Fin 2) (h : (⟨21 + (m : ℕ), by omega⟩ : Fin 26) ∉ fly) :
    Disjoint (dhM.view.slice (dhR m cc)).set ((pl c).busy fly dhM.view.ref) := by
  unfold Plan.busy
  rw [Finset.disjoint_biUnion_right]
  intro k hk
  rcases touch_dh k with ⟨t, rfl⟩ | hn
  · have ht : m ≠ t := fun e => h (e ▸ hk)
    have : ((pl c).cp ⟨21 + (t : ℕ), by omega⟩).lent c dhM.view.ref = (dhM.view.slice (aT t)).set := by
      show (cpy c (X _)).lent c dhM.view.ref = _
      rw [X_o]
      exact Copy.lent_src (c := c) (cpy c (xO t))
    rw [this]
    refine View.disjoint_slice (v := dhM.view) (box_rows ?_)
    have : (m : ℕ) ≠ (t : ℕ) := fun e => ht (Fin.ext e)
    omega
  · rw [Copy.lent_none _ _ hn.1 hn.2]; exact Finset.disjoint_empty_right _

/-! ## States -/

/-- The state of the core. -/
abbrev S (F : FTy → Type) [FloatOps F] (c : Dev nD) := St nD τ sig (Elt F) c (Fin 26)

/-- The elements of a buffer under a rectangle. -/
def rd (σ : S F c) {s : Shape} {e : EltTy} (m : Memref sig .tc .vmem s e) (r : Rect s) : r.shape.Idx → Elt F e :=
  (m.view.slice r).read (Elt F) (σ.mem m.view.ref)

/-- The state with the elements under a rectangle overwritten. -/
def wt (σ : S F c) {s : Shape} {e : EltTy} (m : Memref sig .tc .vmem s e) (r : Rect s) (w : r.shape.Idx → Elt F e) : S F c :=
  σ.put m.view.ref ((m.view.slice r).write (Elt F) (σ.mem m.view.ref) w Finset.univ)

/-- The state with a transfer started. -/
def go (σ : S F c) (k : Fin 26) : S F c :=
  σ.start k (X k).dst.view.ref ((X k).dst.view.write (Elt F) (σ.mem (X k).dst.view.ref) ((X k).src.view.read (Elt F) (σ.mem (X k).src.view.ref)) Finset.univ)

local notation "𝕄" => MT nD τ sig Unit (Elt F) ℕ (UC sig nD τ) ℕ

variable {𝒱 : Variants} {bd : Option 𝒱.V} {defs : Defs nD τ sig (Elt F) Λ₀}

/-- From the state the program runs to the post. -/
abbrev gd (defs : Defs nD τ sig (Elt F) Λ₀) (𝒱 : Variants) (bd : Option 𝒱.V) (Q : PUnit → sProp (MT nD τ sig Unit (Elt F) ℕ (UC sig nD τ) ℕ)) (σ : S F c) (p : PP F) : Prop :=
  good defs 𝒱 bd (pl c) Q σ p

/-- A load of free elements goes on with what it reads. -/
theorem good_ld {Q : PUnit → sProp (MT nD τ sig Unit (Elt F) ℕ (UC sig nD τ) ℕ)} {σ : S F c} {s : Shape} {e : EltTy} {m : Memref sig .tc .vmem s e} {r : Rect s} {hl : m.view.LoadsAt r.toLoadRect}
    {K : (r.shape.Idx → Elt F e) → PP F} (hd : Disjoint (m.view.slice r).set ((pl c).busy σ.fly m.view.ref))
    (h : gd defs 𝒱 bd Q σ (K (rd σ m r))) : gd defs 𝒱 bd Q σ (.op (.load m r.toLoadRect hl) K) := by
  rw [View.set_slice] at hd
  exact good_load hd h

/-- A store to free elements goes on with the memory changed. -/
theorem good_wr {Q : PUnit → sProp (MT nD τ sig Unit (Elt F) ℕ (UC sig nD τ) ℕ)} {σ : S F c} {s : Shape} {e : EltTy} {m : Memref sig .tc .vmem s e} {r : Rect s} {hl : m.view.LoadsAt r.toLoadRect}
    {hx : (m.access r).Stores Finset.univ} {w : r.shape.Idx → Elt F e}
    {K : PP F} (hd : Disjoint (m.view.slice r).set ((pl c).busy σ.fly m.view.ref))
    (h : gd defs 𝒱 bd Q (wt σ m r w) K) :
    gd defs 𝒱 bd Q σ (.op (.load m r.toLoadRect hl) fun _ => .op (.store m r w Finset.univ hx (.inl rfl)) fun _ => K) :=
  good_ld hd (good_store hd h)

/-- A transfer that is not in flight can be started. -/
theorem good_go {Q : PUnit → sProp (MT nD τ sig Unit (Elt F) ℕ (UC sig nD τ) ℕ)} {σ : S F c} {k : Fin 26} {K : PP F} (hk : k ∉ σ.fly)
    (h : gd defs 𝒱 bd Q (go σ k) K) : gd defs 𝒱 bd Q σ ((X k).start K) :=
  good_start k rfl hk h

/-- A transfer in flight can be waited for. -/
theorem good_done {Q : PUnit → sProp (MT nD τ sig Unit (Elt F) ℕ (UC sig nD τ) ℕ)} {σ : S F c} {k : Fin 26} {K : PP F} (hk : k ∈ σ.fly)
    (h : gd defs 𝒱 bd Q (σ.done k) K) : gd defs 𝒱 bd Q σ ((X k).wait K) :=
  good_wait k rfl rfl hk h

/-! ## What the parts do -/

/-- The norms and the quantisation of 32 rows. -/
def lnS (i : Fin 48) (σ : S F c) : S F c :=
  let x := rd σ xM (rows i)
  let σ := wt σ nM (rows i) (shapeCast S32x1024 (lnN x) shapeCasts_S32x1024_S32x1024)
  let g0 := rd σ g0M rowsAll
  let b0 := rd σ b0M rowsAll
  let σ := wt σ hfM (rows i) (shapeCast S32x1024 (truncf .bf16 (lnAff (lnN x) g0 b0) bitsLt_bf16_f32) shapeCasts_S32x1024_S32x1024)
  let g := rd σ gM rowsAll
  let b := rd σ bM rowsAll
  let σ := wt σ aM (rows i) (shapeCast S32x1024 (truncf .bf16 (lnQ (lnAff (lnN x) g b)) bitsLt_bf16_f32) shapeCasts_S32x1024_S32x1024)
  let σ := wt σ a8M (rows i) (shapeCast S32x1024 (fptosi 8 (lnQ (lnAff (lnN x) g b))) shapeCasts_S32x1024_S32x1024)
  wt σ sbM (sbRows i)
    (shapeCast S32x128 (broadcastTo S32x128 (shapeCast S32x1 (lnScale (lnAff (lnN x) g b)) shapeCasts_S32x1_S32x1) broadcasts_S32x1_S32x128) shapeCasts_S32x128_S32x128)

abbrev sbD (i : Fin 12) : Rect S1536x128 := box (128 * (i : ℕ)) 0 128 128 (by omega) (le_refl _)
abbrev sR (i : Fin 12) : Rect S4x384 := box ((i : ℕ) / 3) (128 * ((i : ℕ) % 3)) 1 128 (by omega) (by omega)

/-- 128 scales as a row. -/
def rowS (i : Fin 12) (σ : S F c) : S F c :=
  wt σ sM (sR i) (shapeCast S1x128 (rowV (rd σ sbM (sbD i))) shapeCasts_S1x128_S1x128)

section Width
variable {w : ℕ} (W : Wd w) (co : ℕ) (hc : co + w ≤ 2816)

/-- The float output of the first tile. -/
def yf0S (σ : S F c) : S F c :=
  let y := yfV W (rd σ hfM (hfR 0)) (rd σ wrM (wrR co hc))
  let σ := wt σ stM (stR co hc 0 (by decide)) (shapeCast ⟨2, ![8, w]⟩ (broadcastTo ⟨2, ![8, w]⟩ (shapeCast ⟨2, ![1, w]⟩ (pilot W y) W.id1) W.bc8) W.id8)
  let σ := wt σ stM (stR co hc 8 (by decide)) (shapeCast ⟨2, ![8, w]⟩ (fold256 W (less W y (pilot W y))) W.id8)
  wt σ stM (stR co hc 16 (by decide)) (shapeCast ⟨2, ![8, w]⟩ (fold256 W (mulf (less W y (pilot W y)) (less W y (pilot W y)))) W.id8)

/-- The float output of a later tile. -/
def yfS (t : Fin 6) (σ : S F c) : S F c :=
  let y := yfV W (rd σ hfM (hfR t)) (rd σ wrM (wrR co hc))
  let p := rd σ stM (st0 co hc)
  let σ := wt σ stM (stR co hc 8 (by decide)) (shapeCast ⟨2, ![8, w]⟩ (addf (rd σ stM (stR co hc 8 (by decide))) (fold256 W (less W y p))) W.id8)
  wt σ stM (stR co hc 16 (by decide)) (shapeCast ⟨2, ![8, w]⟩ (addf (rd σ stM (stR co hc 16 (by decide))) (fold256 W (mulf (less W y p) (less W y p)))) W.id8)

/-- The dequantised weight of one group of bytes. -/
def deqS (g : Fin 4) (σ : S F c) : S F c :=
  let v := rd σ wpM (wpR co hc g)
  let σ := wt σ wqM (wqR co hc (lo g)) (shapeCast ⟨2, ![128, w]⟩ (deqV W (nibLo v) (rd σ wsM (wsR co hc (lo g)))) W.id128)
  wt σ wqM (wqR co hc (up g)) (shapeCast ⟨2, ![128, w]⟩ (deqV W (nibHi v) (rd σ wsM (wsR co hc (up g)))) W.id128)

/-- The quantised output of 512 rows. -/
def yqOf (m : Fin 3) (σ : S F c) : FVec F ⟨2, ![512, w]⟩ .f32 := yqV W (rd σ sbM (sbT m)) (rd σ aM (aT m)) (rd σ wqM (wrR co hc))
/-- It kept in a slot. -/
def yqS (k : Fin 2) (m : Fin 3) (σ : S F c) : S F c := wt σ yM (yT W.slot k m) (shapeCast ⟨3, ![1, 512, w]⟩ (yqOf W co hc m σ) W.to3)
/-- The derivative by it. -/
def dyS (k : Fin 2) (m : Fin 3) (mu p q : FVec F ⟨2, ![1, w]⟩ .f32) (σ : S F c) : S F c :=
  wt σ dyM (dyT co hc m) (shapeCast ⟨2, ![512, w]⟩ (dyV W (rd σ yM (yT W.slot k m)) mu p q) W.id512)

/-- A block of columns of the quantised output. -/
def qS (k : Fin 2) (σ0 : S F c) : S F c :=
  let σ1 := yqS W co hc k 0 σ0
  let σ2 := yqS W co hc k 1 σ1
  let σ := yqS W co hc k 2 σ2
  let muq := meanT W (tot3 (fold512 W (yqOf W co hc 0 σ0)) (fold512 W (yqOf W co hc 1 σ1)) (fold512 W (yqOf W co hc 2 σ2)))
  let vq := meanT W (tot3 (sqV W (rd σ yM (yT W.slot k 0)) muq) (sqV W (rd σ yM (yT W.slot k 1)) muq) (sqV W (rd σ yM (yT W.slot k 2)) muq))
  let s1 := rd σ stM (stR co hc 8 (by decide))
  let s2 := rd σ stM (stR co hc 16 (by decide))
  let p0 := rd σ stM (st0 co hc)
  let muf := addf p0 (meanT W s1)
  let vf := vfV (meanT W s1) (meanT W s2)
  let σ := wt σ klM (klR co hc) (shapeCast ⟨2, ![1, w]⟩ (klV muf vf muq vq) W.id1)
  let σ := dyS W co hc k 0 muq (pV muf vf muq vq) (qV muf vf muq vq) σ
  let σ := dyS W co hc k 1 muq (pV muf vf muq vq) (qV muf vf muq vq) σ
  dyS W co hc k 2 muq (pV muf vf muq vq) (qV muf vf muq vq) σ

end Width

/-- The derivative by the norm's output, 512 rows and 512 columns. -/
def dhOf (m : Fin 3) (cc : Fin 2) (σ : S F c) : FVec F S512x512 .f32 := dhV (rd σ dyM (dyR m)) (rd σ wqM (wqH cc))
def dhS (m : Fin 3) (cc : Fin 2) (σ : S F c) : S F c := wt σ dhM (dhR m cc) (shapeCast S512x512 (dhOf m cc σ) shapeCasts_S512x512_S512x512)
/-- A row of 512 sums. -/
def dgS (M : Memref sig .tc .vmem S1x1024 .f32) (cc : Fin 2) (t : FVec F S8x512 .f32) (σ : S F c) : S F c :=
  wt σ M (dgR cc) (shapeCast S1x512 (sum8 w512 t) shapeCasts_S1x512_S1x512)

/-- What a part does. -/
def Step.next : Step → S F c → S F c
  | .start k => fun σ => go σ k
  | .wait k => fun σ => σ.done k
  | .ln i => lnS i
  | .row i => rowS i
  | .yf0 j => yf0S (blk j).W (blk j).co (blk j).hc
  | .yf t j => yfS (blk j).W (blk j).co (blk j).hc t
  | .deq j g => deqS (blk j).W (blk j).co (blk j).hc g
  | .q j => qS (blk j).W (blk j).co (blk j).hc ⟨(j : ℕ) % 2, Nat.mod_lt _ (by decide)⟩

/-- The transfers in flight after a part. -/
def Step.fly : Step → Finset (Fin 26) → Finset (Fin 26)
  | .start k => fun f => insert k f
  | .wait k => fun f => f.erase k
  | _ => id

/-- What a part leaves in flight. -/
theorem next_fly (s : Step) (σ : S F c) : (s.next σ).fly = s.fly σ.fly := by cases s <;> rfl

/-- The transfers that a part needs not in flight. -/
def Step.need : Step → List (Fin 26)
  | .start k => [k]
  | .wait _ => []
  | .ln i => [0, 1, 2, 3, ⟨5 + (tileOf i : ℕ), by omega⟩, 18]
  | .row _ => [19]
  | .yf0 j => [⟨11 + (j : ℕ), by omega⟩]
  | .yf _ j => [⟨11 + (j : ℕ), by omega⟩]
  | .deq _ _ => [17, 4]
  | .q _ => [20]

/-- Where a part can run. -/
def Step.ok (s : Step) (f : Finset (Fin 26)) : Bool :=
  decide (∀ k ∈ s.need, k ∉ f) && (match s with | .wait k => decide (k ∈ f) | _ => true)

/-- A buffer that no transfer touches is free. -/
theorem free0 {fly : Finset (Fin 26)} {b : Ref sig .tc} (hT : ∀ k, b ≠ srcR k ∧ b ≠ dstR k) (A : Finset (Idx (L τ c b))) :
    Disjoint A ((pl c).busy fly b) := free_of [] (fun k _ => hT k) (by simp) A
/-- A buffer that one transfer touches is free when that one is not in flight. -/
theorem free1 {fly : Finset (Fin 26)} {b : Ref sig .tc} (k₀ : Fin 26) (h : k₀ ∉ fly) (hT : ∀ k, k ≠ k₀ → b ≠ srcR k ∧ b ≠ dstR k) (A : Finset (Idx (L τ c b))) :
    Disjoint A ((pl c).busy fly b) := free_of [k₀] (fun k hk => hT k (by simpa using hk)) (by simpa using h) A

/-- No transfer touches the buffer of the normalised tokens. -/
theorem t_n : ∀ k, nM.view.ref ≠ srcR k ∧ nM.view.ref ≠ dstR k := by decide +kernel
/-- No transfer touches the buffer of the float norm's output. -/
theorem t_hf : ∀ k, hfM.view.ref ≠ srcR k ∧ hfM.view.ref ≠ dstR k := by decide +kernel
/-- No transfer touches the buffer of the codes as numbers. -/
theorem t_a : ∀ k, aM.view.ref ≠ srcR k ∧ aM.view.ref ≠ dstR k := by decide +kernel
/-- No transfer touches the buffer of the scales' rows. -/
theorem t_sb : ∀ k, sbM.view.ref ≠ srcR k ∧ sbM.view.ref ≠ dstR k := by decide +kernel
/-- No transfer touches the buffer of the dequantised weight. -/
theorem t_wq : ∀ k, wqM.view.ref ≠ srcR k ∧ wqM.view.ref ≠ dstR k := by decide +kernel
/-- No transfer touches the buffer of the quantised output. -/
theorem t_y : ∀ k, yM.view.ref ≠ srcR k ∧ yM.view.ref ≠ dstR k := by decide +kernel
/-- No transfer touches the buffer of the derivative by the output. -/
theorem t_dy : ∀ k, dyM.view.ref ≠ srcR k ∧ dyM.view.ref ≠ dstR k := by decide +kernel
/-- No transfer touches the buffer of the partial sums. -/
theorem t_st : ∀ k, stM.view.ref ≠ srcR k ∧ stM.view.ref ≠ dstR k := by decide +kernel
/-- One transfer touches the buffer of the float norm's weight. -/
theorem t_g0 : ∀ k, k ≠ 0 → g0M.view.ref ≠ srcR k ∧ g0M.view.ref ≠ dstR k := by decide +kernel
/-- One transfer touches the buffer of the tweaked norm's weight. -/
theorem t_g : ∀ k, k ≠ 1 → gM.view.ref ≠ srcR k ∧ gM.view.ref ≠ dstR k := by decide +kernel
/-- One transfer touches the buffer of the float norm's bias. -/
theorem t_b0 : ∀ k, k ≠ 2 → b0M.view.ref ≠ srcR k ∧ b0M.view.ref ≠ dstR k := by decide +kernel
/-- One transfer touches the buffer of the tweaked norm's bias. -/
theorem t_b : ∀ k, k ≠ 3 → bM.view.ref ≠ srcR k ∧ bM.view.ref ≠ dstR k := by decide +kernel
/-- One transfer touches the buffer of the weight's scales. -/
theorem t_ws : ∀ k, k ≠ 4 → wsM.view.ref ≠ srcR k ∧ wsM.view.ref ≠ dstR k := by decide +kernel
/-- One transfer touches the buffer of the packed weight. -/
theorem t_wp : ∀ k, k ≠ 17 → wpM.view.ref ≠ srcR k ∧ wpM.view.ref ≠ dstR k := by decide +kernel
/-- One transfer touches the buffer of the codes as bytes. -/
theorem t_a8 : ∀ k, k ≠ 18 → a8M.view.ref ≠ srcR k ∧ a8M.view.ref ≠ dstR k := by decide +kernel
/-- One transfer touches the buffer of the scales. -/
theorem t_s : ∀ k, k ≠ 19 → sM.view.ref ≠ srcR k ∧ sM.view.ref ≠ dstR k := by decide +kernel
/-- One transfer touches the buffer of the divergence. -/
theorem t_kl : ∀ k, k ≠ 20 → klM.view.ref ≠ srcR k ∧ klM.view.ref ≠ dstR k := by decide +kernel
/-- One transfer touches the buffer of the derivative by the norm's weight. -/
theorem t_dg : ∀ k, k ≠ 24 → dgM.view.ref ≠ srcR k ∧ dgM.view.ref ≠ dstR k := by decide +kernel
/-- One transfer touches the buffer of the derivative by the norm's bias. -/
theorem t_db : ∀ k, k ≠ 25 → dbM.view.ref ≠ srcR k ∧ dbM.view.ref ≠ dstR k := by decide +kernel

section Parts
variable {Q : PUnit → sProp (MT nD τ sig Unit (Elt F) ℕ (UC sig nD τ) ℕ)} {σ : S F c} {K : PP F}

/-- The norms of 32 tokens run. -/
theorem good_ln (i : Fin 48) (hx : (⟨5 + (tileOf i : ℕ), by omega⟩ : Fin 26) ∉ σ.fly) (h0 : 0 ∉ σ.fly) (h1 : 1 ∉ σ.fly) (h2 : 2 ∉ σ.fly) (h3 : 3 ∉ σ.fly)
    (h18 : 18 ∉ σ.fly) (h : gd defs 𝒱 bd Q (lnS i σ) K) : gd defs 𝒱 bd Q σ (lnP i K) :=
  good_ld (free_x i hx) <| good_wr (free0 t_n _) <| good_ld (free1 0 h0 t_g0 _) <| good_ld (free1 2 h2 t_b0 _) <| good_wr (free0 t_hf _) <|
    good_ld (free1 1 h1 t_g _) <| good_ld (free1 3 h3 t_b _) <| good_wr (free0 t_a _) <| good_wr (free1 18 h18 t_a8 _) <| good_wr (free0 t_sb _) h

/-- The scales of 128 tokens in a row run. -/
theorem good_row (i : Fin 12) (h19 : 19 ∉ σ.fly) (h : gd defs 𝒱 bd Q (rowS i σ) K) : gd defs 𝒱 bd Q σ (rowP i K) :=
  good_ld (free0 t_sb _) <| good_wr (free1 19 h19 t_s _) h

/-- The first tile of the float output runs. -/
theorem good_yf0 (j : Fin 6) (hw : (⟨11 + (j : ℕ), by omega⟩ : Fin 26) ∉ σ.fly) (h : gd defs 𝒱 bd Q (yf0S (blk j).W (blk j).co (blk j).hc σ) K) :
    gd defs 𝒱 bd Q σ (yf0P (blk j).W (blk j).co (blk j).hc K) :=
  good_ld (free0 t_hf _) <| good_ld (free_w j hw) <| good_wr (free0 t_st _) <| good_wr (free0 t_st _) <| good_wr (free0 t_st _) h

/-- A further tile of the float output runs. -/
theorem good_yf (t j : Fin 6) (hw : (⟨11 + (j : ℕ), by omega⟩ : Fin 26) ∉ σ.fly) (h : gd defs 𝒱 bd Q (yfS (blk j).W (blk j).co (blk j).hc t σ) K) :
    gd defs 𝒱 bd Q σ (yfP (blk j).W (blk j).co (blk j).hc t K) :=
  good_ld (free0 t_hf _) <| good_ld (free_w j hw) <| good_ld (free0 t_st _) <| good_ld (free0 t_st _) <| good_wr (free0 t_st _) <|
    good_ld (free0 t_st _) <| good_wr (free0 t_st _) h

section Width
variable {w : ℕ} (W : Wd w) (co : ℕ) (hc : co + w ≤ 2816)

/-- The dequantisation of a group of the weight runs. -/
theorem good_deq (g : Fin 4) (h17 : 17 ∉ σ.fly) (h4 : 4 ∉ σ.fly) (h : gd defs 𝒱 bd Q (deqS W co hc g σ) K) : gd defs 𝒱 bd Q σ (deqP W co hc g K) :=
  good_ld (free1 17 h17 t_wp _) <| good_ld (free1 4 h4 t_ws _) <| good_wr (free0 t_wq _) <| good_ld (free1 4 h4 t_ws _) <| good_wr (free0 t_wq _) h

/-- A tile of the quantised output runs. -/
theorem good_yq (k : Fin 2) (m : Fin 3) {K : FVec F ⟨2, ![512, w]⟩ .f32 → PP F} (h : gd defs 𝒱 bd Q (yqS W co hc k m σ) (K (yqOf W co hc m σ))) :
    gd defs 𝒱 bd Q σ (yqP W co hc k m K) :=
  good_ld (free0 t_sb _) <| good_ld (free0 t_a _) <| good_ld (free0 t_wq _) <| good_wr (free0 t_y _) h

/-- A tile of the derivative by the output runs. -/
theorem good_dy (k : Fin 2) (m : Fin 3) (mu p q : FVec F ⟨2, ![1, w]⟩ .f32) (h : gd defs 𝒱 bd Q (dyS W co hc k m mu p q σ) K) :
    gd defs 𝒱 bd Q σ (dyP W co hc k m mu p q K) :=
  good_ld (free0 t_y _) <| good_wr (free0 t_dy _) h

/-- A column block of the quantised output with its moments, divergence and derivative runs. -/
theorem good_q (k : Fin 2) (h20 : 20 ∉ σ.fly) (h : gd defs 𝒱 bd Q (qS W co hc k σ) K) : gd defs 𝒱 bd Q σ (qP W co hc k K) :=
  good_yq W co hc k 0 <| good_yq W co hc k 1 <| good_yq W co hc k 2 <| good_ld (free0 t_y _) <| good_ld (free0 t_y _) <| good_ld (free0 t_y _) <|
    good_ld (free0 t_st _) <| good_ld (free0 t_st _) <| good_ld (free0 t_st _) <| good_wr (free1 20 h20 t_kl _) <|
    good_dy W co hc k 0 _ _ _ <| good_dy W co hc k 1 _ _ _ <| good_dy W co hc k 2 _ _ _ h

end Width

/-- A block of the token derivative runs. -/
theorem good_dh (m : Fin 3) (cc : Fin 2) (hm : (⟨21 + (m : ℕ), by omega⟩ : Fin 26) ∉ σ.fly) {K : FVec F S512x512 .f32 → Vec F S512x512 .f32 → PP F}
    (h : gd defs 𝒱 bd Q (dhS m cc σ) (K (dhOf m cc σ) (rd (dhS m cc σ) nM (dhR m cc)))) : gd defs 𝒱 bd Q σ (dhP m cc K) :=
  good_ld (free0 t_dy _) <| good_ld (free0 t_wq _) <| good_wr (free_dh m cc hm) <| good_ld (free0 t_n _) h

/-- The sums of the derivative by the norm's weight run. -/
theorem good_dg (cc : Fin 2) (t : FVec F S8x512 .f32) (h24 : 24 ∉ σ.fly) (h : gd defs 𝒱 bd Q (dgS dgM cc t σ) K) : gd defs 𝒱 bd Q σ (dgP dgM cc t K) :=
  good_wr (free1 24 h24 t_dg _) h
/-- The sums of the derivative by the norm's bias run. -/
theorem good_db (cc : Fin 2) (t : FVec F S8x512 .f32) (h25 : 25 ∉ σ.fly) (h : gd defs 𝒱 bd Q (dgS dbM cc t σ) K) : gd defs 𝒱 bd Q σ (dgP dbM cc t K) :=
  good_wr (free1 25 h25 t_db _) h

/-- A part does what it does. -/
theorem good_step (s : Step) (hok : s.ok σ.fly = true) (h : gd defs 𝒱 bd Q (s.next σ) K) : gd defs 𝒱 bd Q σ (s.prog K) := by
  unfold Step.ok at hok
  rw [Bool.and_eq_true, decide_eq_true_eq] at hok
  obtain ⟨hn, hw⟩ := hok
  cases s with
  | start k => exact good_go (hn k (by simp [Step.need])) h
  | wait k => exact good_done (by simpa using hw) h
  | ln i => exact good_ln i (hn _ (by simp [Step.need])) (hn _ (by simp [Step.need])) (hn _ (by simp [Step.need])) (hn _ (by simp [Step.need])) (hn _ (by simp [Step.need])) (hn _ (by simp [Step.need])) h
  | row i => exact good_row i (hn _ (by simp [Step.need])) h
  | yf0 j => exact good_yf0 j (hn _ (by simp [Step.need])) h
  | yf t j => exact good_yf t j (hn _ (by simp [Step.need])) h
  | deq j g => exact good_deq _ _ _ g (hn _ (by simp [Step.need])) (hn _ (by simp [Step.need])) h
  | q j => exact good_q _ _ _ _ (hn _ (by simp [Step.need])) h

/-! ## Parts in sequence -/

/-- Whether the parts can run in sequence. -/
def chk : List Step → Finset (Fin 26) → Bool
  | [], _ => true
  | s :: l, f => s.ok f && chk l (s.fly f)

/-- What parts in sequence do. -/
def nexts (l : List Step) (σ : S F c) : S F c := l.foldl (fun σ s => s.next σ) σ
def flys (l : List Step) (f : Finset (Fin 26)) : Finset (Fin 26) := l.foldl (fun f s => s.fly f) f

/-- What a list of parts leaves in flight. -/
theorem nexts_fly (l : List Step) (σ : S F c) : (nexts l σ).fly = flys l σ.fly := by
  induction l generalizing σ with
  | nil => rfl
  | cons s l ih => exact (ih (s.next σ)).trans (by rw [next_fly]; rfl)

/-- A list of parts runs when the check of its transfers succeeds. -/
theorem good_run (l : List Step) (hok : chk l σ.fly = true) (h : gd defs 𝒱 bd Q (nexts l σ) K) : gd defs 𝒱 bd Q σ (run l K) := by
  induction l generalizing σ with
  | nil => exact h
  | cons s l ih =>
    unfold chk at hok
    rw [Bool.and_eq_true] at hok
    exact good_step s hok.1 (ih (by rw [next_fly]; exact hok.2) h)

end Parts

/-! ## The whole body -/

abbrev stepsO : List Step := [.start 24, .start 25, .wait 18, .wait 19, .wait 20, .wait 21, .wait 22, .wait 23, .wait 24, .wait 25]

/-- After the copies in, the norms and the outputs. -/
def midS (σ : S F c) : S F c := nexts steps2 (nexts steps1 (nexts stIn σ))

section Tail
variable (σ : S F c)
def e00 : S F c := dhS 0 0 σ
def e01 : S F c := dhS 0 1 (e00 σ)
def e10 : S F c := dhS 1 0 (go (e01 σ) 21)
def e11 : S F c := dhS 1 1 (e10 σ)
def e20 : S F c := dhS 2 0 (go (e11 σ) 22)
def e21 : S F c := dhS 2 1 (e20 σ)
/-- The six blocks of the derivative, and of the normalised rows. -/
def d00 := dhOf 0 0 σ
def d01 := dhOf 0 1 (e00 σ)
def d10 := dhOf 1 0 (go (e01 σ) 21)
def d11 := dhOf 1 1 (e10 σ)
def d20 := dhOf 2 0 (go (e11 σ) 22)
def d21 := dhOf 2 1 (e20 σ)
def n00 := rd (e00 σ) nM (dhR 0 0)
def n01 := rd (e01 σ) nM (dhR 0 1)
def n10 := rd (e10 σ) nM (dhR 1 0)
def n11 := rd (e11 σ) nM (dhR 1 1)
def n20 := rd (e20 σ) nM (dhR 2 0)
def n21 := rd (e21 σ) nM (dhR 2 1)

/-- The sums. -/
def sumS : S F c :=
  dgS dbM 1 (tot3 (fold512 w512 (d01 σ)) (fold512 w512 (d11 σ)) (fold512 w512 (d21 σ))) <|
  dgS dgM 1 (tot3 (fold512 w512 (mulf (d01 σ) (n01 σ))) (fold512 w512 (mulf (d11 σ) (n11 σ))) (fold512 w512 (mulf (d21 σ) (n21 σ)))) <|
  dgS dbM 0 (tot3 (fold512 w512 (d00 σ)) (fold512 w512 (d10 σ)) (fold512 w512 (d20 σ))) <|
  dgS dgM 0 (tot3 (fold512 w512 (mulf (d00 σ) (n00 σ))) (fold512 w512 (mulf (d10 σ) (n10 σ))) (fold512 w512 (mulf (d20 σ) (n20 σ)))) <|
  go (e21 σ) 23

/-- The end of the tail. -/
def tailS : S F c := nexts stepsO (sumS σ)

/-- What the last part has in flight before its waits. -/
theorem sumS_fly : (sumS σ).fly = insert 23 (insert 22 (insert 21 σ.fly)) := rfl

end Tail

/-- The last part runs. -/
theorem good_tail {Q : PUnit → sProp (MT nD τ sig Unit (Elt F) ℕ (UC sig nD τ) ℕ)} {σ : S F c} (hf : σ.fly = {18, 19, 20})
    (h : gd defs 𝒱 bd Q (tailS σ) (.ret ⟨⟩)) : gd defs 𝒱 bd Q σ tail := by
  have a0 : σ.fly = {18, 19, 20} := hf
  have a1 : (go (e01 σ) 21).fly = {21, 18, 19, 20} := by show insert 21 σ.fly = _; rw [hf]
  have a2 : (go (e11 σ) 22).fly = {22, 21, 18, 19, 20} := by show insert 22 (insert 21 σ.fly) = _; rw [hf]
  have a3 : (go (e21 σ) 23).fly = {23, 22, 21, 18, 19, 20} := by show insert 23 (insert 22 (insert 21 σ.fly)) = _; rw [hf]
  refine good_dh 0 0 (by rw [a0]; decide) <| good_dh 0 1 (by show _ ∉ σ.fly; rw [a0]; decide) <| good_go (by show _ ∉ σ.fly; rw [a0]; decide) <|
    good_dh 1 0 (by show _ ∉ (go (e01 σ) 21).fly; rw [a1]; decide) <| good_dh 1 1 (by show _ ∉ (go (e01 σ) 21).fly; rw [a1]; decide) <|
    good_go (by show _ ∉ (go (e01 σ) 21).fly; rw [a1]; decide) <|
    good_dh 2 0 (by show _ ∉ (go (e11 σ) 22).fly; rw [a2]; decide) <| good_dh 2 1 (by show _ ∉ (go (e11 σ) 22).fly; rw [a2]; decide) <|
    good_go (by show _ ∉ (go (e11 σ) 22).fly; rw [a2]; decide) <|
    good_dg _ _ (by show _ ∉ (go (e21 σ) 23).fly; rw [a3]; decide) <| good_db _ _ (by show _ ∉ (go (e21 σ) 23).fly; rw [a3]; decide) <|
    good_dg _ _ (by show _ ∉ (go (e21 σ) 23).fly; rw [a3]; decide) <| good_db _ _ (by show _ ∉ (go (e21 σ) 23).fly; rw [a3]; decide) <|
    good_run stepsO ?_ h
  show chk stepsO (sumS σ).fly = true
  rw [sumS_fly, hf]
  decide +kernel

/-- The end of the body. -/
def endS (σ : S F c) : S F c := tailS (midS σ)

/-- The check of the transfers succeeds for the entry. -/
theorem chk_in : chk stIn ∅ = true := by decide +kernel
/-- The check of the transfers succeeds for the first half. -/
theorem chk_1 : chk steps1 (flys stIn ∅) = true := by decide +kernel
/-- The check of the transfers succeeds for the second half. -/
theorem chk_2 : chk steps2 (flys steps1 (flys stIn ∅)) = true := by decide +kernel
/-- What is in flight before the last part, computed. -/
theorem fly_mid : flys steps2 (flys steps1 (flys stIn ∅)) = {18, 19, 20} := by decide +kernel

/-- What is in flight before the last part. -/
theorem midS_fly {σ : S F c} (hf : σ.fly = ∅) : (midS σ).fly = {18, 19, 20} := by
  unfold midS; rw [nexts_fly, nexts_fly, nexts_fly, hf, fly_mid]

/-- Nothing is in flight at the end. -/
theorem endS_fly {σ : S F c} (hf : σ.fly = ∅) : (endS σ).fly = ∅ := by
  unfold endS tailS
  rw [nexts_fly, sumS_fly, midS_fly hf]
  decide +kernel

/-- The body runs from a state with nothing in flight to its end. -/
theorem good_body {Q : PUnit → sProp (MT nD τ sig Unit (Elt F) ℕ (UC sig nD τ) ℕ)} {σ : S F c} (hf : σ.fly = ∅)
    (h : gd defs 𝒱 bd Q (endS σ) (.ret ⟨⟩)) : gd defs 𝒱 bd Q σ body :=
  good_run stIn (by rw [hf]; exact chk_in) <| good_run steps1 (by rw [nexts_fly, hf]; exact chk_1) <|
    good_run steps2 (by rw [nexts_fly, nexts_fly, hf]; exact chk_2) <| good_tail (midS_fly hf) h

end Cert.Kernel.Tweak
-- ==== Proof.Bits.Run.lean ====
/-
  Hand-written, untrusted. The whole program: from any memory it terminates, and its buffers in the main memory end as `endS`
  leaves them from some state whose main memory is the one the kernel is entered with.
-/
module

public import proofs.«01_k».proof.Proof.Bits.Exec
public import proofs.«01_k».proof.Proof.Gen.Kernel.Frame
public import Idealize.ShloMosaic.Lib.Quiescent

@[expose] public section

set_option maxRecDepth 16384

noncomputable section

namespace Cert.Kernel.Tweak

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat Ends routed restRefs ownSems0 scopedRest BodyObligationLoose)
open Cert.Kernel
open Cert.Machine

variable {F : FTy → Type} [FloatOps F]

local notation "𝕄" => MT nD τ sig Unit (Elt F) ℕ (UC sig nD τ) ℕ

/-- The kernel's own semaphores. -/
abbrev osem : Fin 26 → SemLoc sig := fun k => .dma (X k).sem
/-- The kernel's semaphores are its own. -/
theorem ownSemFacts : Pipeline.OwnSemFacts cfg0.spec osem := by decide +kernel

/-- The buffers in the main memory. -/
abbrev R0 : Finset (Ref sig .tc) := restRefs sig cfg0.spec
/-- The scratch buffers. -/
abbrev Sc : Finset (Ref sig .tc) := (Finset.univ.filter fun b : Ref sig .tc => b.isScoped) \ Finset.univ.image (Pipeline.stageRef cfg0.spec)

/-- The buffers outside the scratch memory are those in the main memory. -/
theorem R0_eq : Finset.univ \ Sc = R0 := by
  ext b
  simp [restRefs]

variable (m : (ℓ : Loc nD τ sig) → Buf (Elt F) ℓ) (ρ : Dev nD → PrngReg)

/-- A state with nothing in flight and the main memory as the kernel is entered with. -/
def Init (c : Dev nD) (σ : S F c) : Prop := σ.fly = ∅ ∧ ∀ b ∈ R0, σ.mem b = Gen.V m c b

/-- Main memory as the kernel leaves it. -/
def After (c : Dev nD) (W : (b : Ref sig .tc) → Buf (Elt F) ((c.tc : Thread nD τ).loc b)) : Prop := ∃ σ : S F c, Init m c σ ∧ W = (endS σ).mem

/-- With nothing in flight no element is lent. -/
theorem busy_empty (c : Dev nD) (b : Ref sig .tc) : (pl c).busy ∅ b = ∅ := rfl

/-- What the core holds with nothing in flight. -/
theorem interp_idle (c : Dev nD) {σ : S F c} (h : σ.fly = ∅) :
    Machine.interp (pl c) σ = iprop(((bigSep Sc fun b => L τ c b ↦{fullShare} σ.mem b) ∗ routed R0 c σ.mem) ∗ ownSems0 osem c ∗ ∃ W, owes (c.tc : Thread nD τ) 0 W) := by
  obtain ⟨mem, fly⟩ := σ
  dsimp only at h
  subst h
  unfold Machine.interp routed ownSems0
  dsimp only
  simp only [busy_empty, Finset.sdiff_empty]
  congr 1
  · rw [← R0_eq]; exact bigSep_sdiff_split (Finset.subset_univ _)

/-- The core's holdings at the entry of the kernel are a state's. -/
theorem enter (c : Dev nD) :
    iprop(Ends cfg0.spec osem R0 c (Gen.V m c) ∗ ∃ W, owes (c.tc : Thread nD τ) 0 W)
      ⊢ (iprop(∃ σ : S F c, ⌜Init m c σ⌝ ∗ Machine.interp (pl c) σ ∗ ∃ r, prngReg c r) : sProp (MT nD τ sig Unit (Elt F) ℕ (UC sig nD τ) ℕ)) := by
  classical
  unfold Ends scopedRest
  iintro ⟨⟨HR, Hos, Hsc, Hp⟩, Ho⟩
  ihave Hsc' := (bigSep_exists_pi Sc fun (b : Ref sig .tc) (f : Buf (Elt F) (L τ c b)) => (L τ c b ↦{fullShare} f : sProp (MT nD τ sig Unit (Elt F) ℕ (UC sig nD τ) ℕ))) $$ Hsc
  icases Hsc' with ⟨%y, Hsc⟩
  let σ : S F c := ⟨fun b => if b ∈ R0 then Gen.V m c b else y b, ∅⟩
  have e1 : (bigSep Sc fun b => (L τ c b ↦{fullShare} σ.mem b : sProp (MT nD τ sig Unit (Elt F) ℕ (UC sig nD τ) ℕ))) = bigSep Sc fun b => L τ c b ↦{fullShare} y b :=
    bigSep_congr fun b hb => by
      have : b ∉ R0 := by rw [← R0_eq]; exact fun h => (Finset.mem_sdiff.mp h).2 hb
      rw [show σ.mem b = y b from if_neg this]
  have e2 : (routed R0 c σ.mem : sProp (MT nD τ sig Unit (Elt F) ℕ (UC sig nD τ) ℕ)) = routed R0 c (Gen.V m c) :=
    bigSep_congr fun b hb => by rw [show σ.mem b = Gen.V m c b from if_pos hb]
  iexists σ
  isplitr
  · ipureintro; exact ⟨rfl, fun b hb => if_pos hb⟩
  rw [interp_idle c rfl, e1, e2]
  isplitr [Hp]
  · isplitl [Hsc HR]
    · isplitl [Hsc] <;> iassumption
    isplitl [Hos] <;> iassumption
  · iexact Hp

/-- The core's holdings after the kernel. -/
def Out (c : Dev nD) : sProp (MT nD τ sig Unit (Elt F) ℕ (UC sig nD τ) ℕ) :=
  iprop((∃ W, ⌜After m c W⌝ ∗ routed R0 c W) ∗ ownSems0 osem c ∗ scopedRest (Ix := Unit) (Name := ℕ) (U := UC sig nD τ) (Lvl := ℕ) (Val := Elt F) cfg0.spec c
    ∗ ∃ r, prngReg c r)

/-- The holdings after the kernel are what its end owes. -/
theorem leave (c : Dev nD) (σ : S F c) (h : Init m c σ) :
    iprop(Machine.interp (pl c) (endS σ) ∗ ∃ r, prngReg c r) ⊢ (iprop(Out m c ∗ ∃ W, owes (c.tc : Thread nD τ) 0 W) : sProp (MT nD τ sig Unit (Elt F) ℕ (UC sig nD τ) ℕ)) := by
  rw [interp_idle c (endS_fly h.1)]
  unfold Out scopedRest
  have hsc : (bigSep Sc fun b => (L τ c b ↦{fullShare} (endS σ).mem b : sProp (MT nD τ sig Unit (Elt F) ℕ (UC sig nD τ) ℕ)))
      ⊢ bigSep Sc fun b => iprop(∃ f : Buf (Elt F) (L τ c b), L τ c b ↦{fullShare} f) :=
    bigSep_mono fun b _ => show _ ⊢ iprop(∃ f : Buf (Elt F) (L τ c b), L τ c b ↦{fullShare} f) from by iintro H; iexists _; iexact H
  iintro ⟨⟨⟨Hsc, HR⟩, Hos, Ho⟩, Hp⟩
  isplitr [Ho]
  · isplitl [HR]
    · iexists (endS σ).mem
      isplitr
      · ipureintro; exact ⟨σ, h, rfl⟩
      iexact HR
    isplitl [Hos]; · iexact Hos
    isplitl [Hsc]
    · iapply hsc
      iexact Hsc
    · iexact Hp
  · iexact Ho

/-- The proof data of the kernel's one point. -/
def dats (p : Fin 1) (c : Dev nD) : Dat τ (Elt F) Unit ℕ (UC sig nD τ) ℕ (cfgs p) c where
  A w := w.elim0
  after w := w.elim0
  Φ t := if (t : ℕ) = 0 then Ends cfg0.spec osem R0 c (Gen.V m c) else Out m c
  q w := w.elim0
  owed _ := 0

/-- The kernel's body does what the launch asks of it. -/
theorem body_obligation (c : Dev nD) : BodyObligationLoose (dats m 0 c) (defs₀ (F := F)) Variants.none () Set.univ := fun t => by
  obtain rfl := Gen.fin_N0 t
  rw [show (dats m 0 c).Φ Gen.t0_0.castSucc = Ends cfg0.spec osem R0 c (Gen.V m c) from rfl,
    show (dats m 0 c).Φ Gen.t0_0.succ = Out m c from rfl]
  unfold Dat.owesAt Pipeline.owesWithin
  rw [show (dats m 0 c).owed Gen.t0_0.castSucc = 0 from rfl, show (dats m 0 c).owed Gen.t0_0.succ = 0 from rfl]
  rw [show (defs₀ (F := F) .tc cfg0.body (cfg0.bodyArgs Gen.t0_0 (cfg0.slots Gen.t0_0))) = body from defs_body _]
  iintro ⟨HE, ⟨%W, %hW, HO⟩, -⟩
  ihave H := (enter m c) $$ [HE HO]
  · isplitl [HE]; · iexact HE
    iexists W; iexact HO
  icases H with ⟨%σ, %hσ, HI, Hp⟩
  have hg := good_body (defs := defs₀ (F := F)) (𝒱 := Variants.none) (bd := none) (Q := fun _ => Machine.interp (pl c) (endS σ)) hσ.1
    (show Machine.interp (pl c) (endS σ) ⊢ _ from by rw [wp_ret]; iintro H; imodintro; iexact H)
  iapply wp_wand $$ [HI]
  · iapply (show Machine.interp (pl c) σ ⊢ _ from hg); iexact HI
  iintro %_ HI
  ihave H := (leave m c σ hσ) $$ [HI Hp]
  · isplitl [HI] <;> iassumption
  icases H with ⟨HO, ⟨%W', HW⟩⟩
  isplitl [HO]; · iexact HO
  isplitl [HW]
  · iexists W'; isplitr; · ipureintro; exact fun _ _ => Or.inl trivial
    iexact HW
  · rw [show (Finset.univ : Finset (Fin (cfgs 0).W)) = ∅ from rfl, bigSep_empty]
    iempintro

/-! ## The launch -/

/-- Every execution from a memory terminates with the semaphores at zero and main memory as `endS` leaves it. -/
theorem run_main : θ_run defs (onTc (τ := τ) (main (F := F))) (s₀ m ρ)
    (fun r => (∀ c : Dev nD, ∃ σ : S F c, Init m c σ ∧ ∀ b ∈ R0, r.2.mem ((c.tc : Thread nD τ).loc b) = (endS σ).mem b) ∧ r.2.sem = fun _ => 0) :=
  Pipeline.θ_run_region_kit_quiescent cfgs (dats m) () (0 : Fin 1) Gen.launch0 ownSemFacts embL (defs₀ (F := F)) Variants.none m ρ main (body_obligation m)
    (fun c w => w.elim0) (fun _ _ => rfl)
    (G := fun _ => iprop(emp)) (u₀ := (initOf (Pipeline.cells cfgs Gen.launch0.cellOf_inj) (Pipeline.launchToks cfgs Gen.launch0.cellOf_inj), 1))
    (hu₀ := by
      iintro Hu
      ihave H := (ownU_pair _ _) $$ Hu
      icases H with ⟨HP, -⟩
      imodintro
      isplitl [HP]; · iexact HP
      iapply (show (BI.emp : sProp (MT nD τ sig Unit (Elt F) ℕ (UC sig nD τ) ℕ)) ⊢ bigSep Finset.univ (fun _ : Dev nD => (BI.emp : sProp (MT nD τ sig Unit (Elt F) ℕ (UC sig nD τ) ℕ))) from by rw [BI.bigSep_emp_const])
      iempintro)
    (V := Gen.V m) (hmain := Pipeline.hmain_prefix cfgs 0 defs₀ Variants.none m main Gen.hostOps0 Gen.hostOps0_sub Gen.hostOps0_fresh Gen.main_chain)
    (hA := fun c w => w.elim0)
    (X := fun c => iprop(routed R0 c (Gen.V m c) ∗ ownSems0 osem c ∗ ∃ r, prngReg c r))
    (Y := fun c => iprop((∃ W, ⌜After m c W⌝ ∗ routed R0 c W) ∗ ∃ r, prngReg c r))
    (Z := fun c => iprop(emp))
    (hX := fun c => by
      iintro ⟨HR, Hos, -, Hp, -⟩; imodintro
      isplitl
      · isplitl [HR]; · unfold Pipeline.unscopedRest routed; iexact HR
        isplitl [Hos]; · iexact Hos
        iexists _; iexact Hp
      · iempintro)
    (hin := fun c => by
      rw [show (dats m 0 c).Φ 0 = Ends cfg0.spec osem R0 c (Gen.V m c) from rfl]
      unfold Ends
      iintro ⟨⟨HR, Hos, Hp⟩, Hr⟩
      isplitl [HR]; · iexact HR
      isplitl [Hos]; · iexact Hos
      isplitl [Hr] <;> iassumption)
    (hout := fun c => by
      rw [show (dats m 0 c).Φ (Fin.last (cfgs 0).N) = Out m c from rfl]
      unfold Out
      iintro ⟨HR, Hos, Hr, Hp⟩
      isplitl [HR Hp]
      · isplitl [HR] <;> iassumption
      isplitl [Hos] <;> iassumption)
    (QY := fun c s => ∃ W, After m c W ∧ ∀ b ∈ R0, s.mem ((c.tc : Thread nD τ).loc b) = W b)
    (hY := fun c s' => by
      unfold routed
      iintro ⟨⟨⟨%W, %hW, HR⟩, -⟩, -, HSI⟩
      ihave H := (pointsTo_read_all R0 (fun b => (c.tc : Thread nD τ).loc b) W s') $$ [HR HSI]
      · isplitl [HR] <;> iassumption
      icases H with ⟨%hR', HSI⟩
      imodintro
      isplitr; · ipureintro; exact ⟨W, hW, hR'⟩
      iexact HSI)
    (hQ := fun _ h hz => ⟨fun c => by
      obtain ⟨W, ⟨σ, hσ, rfl⟩, hW⟩ := (h c).2
      exact ⟨σ, hσ, hW⟩, hz⟩)

/-! ## The arguments -/

/-- A buffer that no transfer and no store writes. -/
structure Kept (b : Ref sig .tc) : Prop where
  dst : ∀ k, b ≠ dstR k
  n : b ≠ nM.view.ref
  hf : b ≠ hfM.view.ref
  a : b ≠ aM.view.ref
  a8 : b ≠ a8M.view.ref
  sb : b ≠ sbM.view.ref
  s : b ≠ sM.view.ref
  st : b ≠ stM.view.ref
  wq : b ≠ wqM.view.ref
  y : b ≠ yM.view.ref
  dy : b ≠ dyM.view.ref
  kl : b ≠ klM.view.ref
  dh : b ≠ dhM.view.ref
  dg : b ≠ dgM.view.ref
  db : b ≠ dbM.view.ref

/-- A buffer is kept when no transfer's destination and no store is it. -/
theorem kept_iff (b : Ref sig .tc) : Kept b ↔ (∀ k, b ≠ dstR k) ∧ b ≠ nM.view.ref ∧ b ≠ hfM.view.ref ∧ b ≠ aM.view.ref ∧ b ≠ a8M.view.ref ∧ b ≠ sbM.view.ref ∧ b ≠ sM.view.ref ∧ b ≠ stM.view.ref ∧ b ≠ wqM.view.ref ∧ b ≠ yM.view.ref ∧ b ≠ dyM.view.ref ∧ b ≠ klM.view.ref ∧ b ≠ dhM.view.ref ∧ b ≠ dgM.view.ref ∧ b ≠ dbM.view.ref :=
  ⟨fun ⟨h0, h1, h2, h3, h4, h5, h6, h7, h8, h9, h10, h11, h12, h13, h14⟩ => ⟨h0, h1, h2, h3, h4, h5, h6, h7, h8, h9, h10, h11, h12, h13, h14⟩,
    fun ⟨h0, h1, h2, h3, h4, h5, h6, h7, h8, h9, h10, h11, h12, h13, h14⟩ => ⟨h0, h1, h2, h3, h4, h5, h6, h7, h8, h9, h10, h11, h12, h13, h14⟩⟩

instance (b : Ref sig .tc) : Decidable (Kept b) := decidable_of_iff' _ (kept_iff b)

/-- A store changes no other buffer. -/
theorem wt_ne {c : Dev nD} (σ : S F c) {s : Shape} {e : EltTy} (m : Memref sig .tc .vmem s e) (r : Rect s) (w : r.shape.Idx → Elt F e) {b : Ref sig .tc}
    (h : b ≠ m.view.ref) : (wt σ m r w).mem b = σ.mem b := St.put_ne _ _ _ h
/-- A transfer changes its destination only. -/
theorem go_ne {c : Dev nD} (σ : S F c) (k : Fin 26) {b : Ref sig .tc} (h : b ≠ dstR k) : (go σ k).mem b = σ.mem b := St.put_ne _ _ _ h

/-- A part keeps the buffers that nothing writes. -/
theorem next_kept {c : Dev nD} {b : Ref sig .tc} (h : Kept b) (s : Step) (σ : S F c) : (s.next σ).mem b = σ.mem b := by
  cases s with
  | start k => exact go_ne σ k (h.dst k)
  | wait k => rfl
  | ln i => exact (wt_ne _ _ _ _ h.sb).trans <| (wt_ne _ _ _ _ h.a8).trans <| (wt_ne _ _ _ _ h.a).trans <| (wt_ne _ _ _ _ h.hf).trans (wt_ne _ _ _ _ h.n)
  | row i => exact wt_ne _ _ _ _ h.s
  | yf0 j => exact (wt_ne _ _ _ _ h.st).trans <| (wt_ne _ _ _ _ h.st).trans (wt_ne _ _ _ _ h.st)
  | yf t j => exact (wt_ne _ _ _ _ h.st).trans (wt_ne _ _ _ _ h.st)
  | deq j g => exact (wt_ne _ _ _ _ h.wq).trans (wt_ne _ _ _ _ h.wq)
  | q j =>
    exact (wt_ne _ _ _ _ h.dy).trans <| (wt_ne _ _ _ _ h.dy).trans <| (wt_ne _ _ _ _ h.dy).trans <| (wt_ne _ _ _ _ h.kl).trans <|
      (wt_ne _ _ _ _ h.y).trans <| (wt_ne _ _ _ _ h.y).trans (wt_ne _ _ _ _ h.y)

/-- A list of parts keeps the buffers that nothing writes. -/
theorem nexts_kept {c : Dev nD} {b : Ref sig .tc} (h : Kept b) (l : List Step) (σ : S F c) : (nexts l σ).mem b = σ.mem b := by
  induction l generalizing σ with
  | nil => rfl
  | cons s l ih => exact (ih (s.next σ)).trans (next_kept h s σ)

/-- The kernel keeps the buffers that nothing writes. -/
theorem endS_kept {c : Dev nD} {b : Ref sig .tc} (h : Kept b) (σ : S F c) : (endS σ).mem b = σ.mem b := by
  unfold endS tailS midS
  refine (nexts_kept h _ _).trans ?_
  refine Eq.trans ?_ ((nexts_kept h steps2 _).trans ((nexts_kept h steps1 _).trans (nexts_kept h stIn σ)))
  exact (wt_ne _ _ _ _ h.db).trans <| (wt_ne _ _ _ _ h.dg).trans <| (wt_ne _ _ _ _ h.db).trans <| (wt_ne _ _ _ _ h.dg).trans <| (go_ne _ _ (h.dst _)).trans <|
    (wt_ne _ _ _ _ h.dh).trans <| (wt_ne _ _ _ _ h.dh).trans <| (go_ne _ _ (h.dst _)).trans <|
    (wt_ne _ _ _ _ h.dh).trans <| (wt_ne _ _ _ _ h.dh).trans <| (go_ne _ _ (h.dst _)).trans <| (wt_ne _ _ _ _ h.dh).trans (wt_ne _ _ _ _ h.dh)

/-- A buffer in main memory that nothing writes ends as the kernel is entered with it. -/
theorem kept_of {c : Dev nD} {mem : (ℓ : Loc nD τ sig) → Buf (Elt F) ℓ} (b : Ref sig .tc) (hb : b ∈ R0) (hk : Kept b)
    (h : ∃ σ : S F c, Init m c σ ∧ ∀ b ∈ R0, mem ((c.tc : Thread nD τ).loc b) = (endS σ).mem b) : mem ((c.tc : Thread nD τ).loc b) = Gen.V m c b := by
  obtain ⟨σ, hσ, h⟩ := h
  rw [h b hb, endS_kept hk, hσ.2 b hb]

/-- The arguments end as they were. -/
theorem args_kept {c : Dev nD} {mem : (ℓ : Loc nD τ sig) → Buf (Elt F) ℓ}
    (h : ∃ σ : S F c, Init m c σ ∧ ∀ b ∈ R0, mem ((c.tc : Thread nD τ).loc b) = (endS σ).mem b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7) :=
  ⟨(kept_of m main_arg0 (Pipeline.mem_restRefs_of _ (by decide) (by decide)) (by decide +kernel) h).trans (Gen.V_main_arg0 m c),
    (kept_of m main_arg1 (Pipeline.mem_restRefs_of _ (by decide) (by decide)) (by decide +kernel) h).trans (Gen.V_main_arg1 m c),
    (kept_of m main_arg2 (Pipeline.mem_restRefs_of _ (by decide) (by decide)) (by decide +kernel) h).trans (Gen.V_main_arg2 m c),
    (kept_of m main_arg3 (Pipeline.mem_restRefs_of _ (by decide) (by decide)) (by decide +kernel) h).trans (Gen.V_main_arg3 m c),
    (kept_of m main_arg4 (Pipeline.mem_restRefs_of _ (by decide) (by decide)) (by decide +kernel) h).trans (Gen.V_main_arg4 m c),
    (kept_of m main_arg5 (Pipeline.mem_restRefs_of _ (by decide) (by decide)) (by decide +kernel) h).trans (Gen.V_main_arg5 m c),
    (kept_of m main_arg6 (Pipeline.mem_restRefs_of _ (by decide) (by decide)) (by decide +kernel) h).trans (Gen.V_main_arg6 m c),
    (kept_of m main_arg7 (Pipeline.mem_restRefs_of _ (by decide) (by decide)) (by decide +kernel) h).trans (Gen.V_main_arg7 m c)⟩

end Cert.Kernel.Tweak
-- ==== Proof.Spec.lean ====
/-
  Hand-written, untrusted. The mathematics of the layer, element by element, over the extended reals.

  Both the kernel's parts and the reference's whole arrays are read as these functions.
-/
module

public import Idealize.ShloMosaic.Lib.Pointwise

@[expose] public section

noncomputable section

namespace Cert.Spec

open Idealize.ShloMosaic

/-- A constant of the program. -/
abbrev cb (b : BitVec 32) : EReal := Ideal.ofBits .f32 b

/-- The mean of a row of 1024. -/
def rowMean (v : Fin 1024 → EReal) : EReal := Ideal.div (∑ k, v k) (cb 0x44800000#32)

/-- A row less its mean. -/
def cen (v : Fin 1024 → EReal) (l : Fin 1024) : EReal := v l - rowMean v

/-- A row normalised. -/
def nrm (v : Fin 1024 → EReal) (l : Fin 1024) : EReal :=
  cen v l * Ideal.rsqrt (rowMean (fun k => cen v k * cen v k) + cb 0x358637BD#32)

/-- The affine map of a norm. -/
def aff (v g b : Fin 1024 → EReal) (l : Fin 1024) : EReal := nrm v l * g l + b l

/-- The largest magnitude of a row. -/
def amax (h : Fin 1024 → EReal) : EReal := Finset.univ.fold max (cb 0xFF800000#32) fun l => max (h l) (-(h l))

/-- The scale that a largest magnitude gives. -/
def scl (a : EReal) : EReal := if cb 0x00000000#32 < a then Ideal.div a (cb 0x42FE0000#32) else cb 0x3F800000#32

/-- The whole number that an extended real is. -/
abbrev ofInt (z : ℤ) : EReal := ((z : ℝ) : EReal)

/-- A row quantised. -/
def qz (h : Fin 1024 → EReal) (l : Fin 1024) : EReal :=
  min (ofInt 127) (max (ofInt (-127)) (Ideal.liftRound Ideal.roundHalfEven (Ideal.div (h l) (scl (amax h)))))

/-- A nibble as a two's complement number. -/
def sgn (f : BitVec 32) : EReal := ofInt (Scalar.select (IntOp.cmpi .sge f 8#32) (f - 16#32) f).toInt

/-- The lower and the upper nibble of a byte, as numbers. -/
def nlo (v : BitVec 8) : EReal := sgn (v.setWidth 32 &&& 15#32)
def nhi (v : BitVec 8) : EReal := sgn (IntOp.shrsi .vector (v.setWidth 32) 4#32)

/-- The mean of a column of 1536. -/
def colMean (v : Fin 1536 → EReal) : EReal := Ideal.div (∑ r, v r) (cb 0x44C00000#32)

/-- The variance of a column of 1536. -/
def colVar (v : Fin 1536 → EReal) : EReal := colMean fun r => (v r - colMean v) * (v r - colMean v)

/-- The divergence of two normal distributions, from their means and variances. -/
def kl (muf vf muq vq : EReal) : EReal :=
  cb 0x3F000000#32 * Ideal.log (Ideal.div vq vf)
    + Ideal.div (vf + (muf - muq) * (muf - muq)) (cb 0x40000000#32 * vq) - cb 0x3F000000#32

/-- Its derivative by the quantised mean. -/
def gmu (muf muq vq : EReal) : EReal := Ideal.div (Ideal.div (muq - muf) vq) (cb 0x45300000#32)

/-- Its derivative by the quantised variance. -/
def gv (muf vf muq vq : EReal) : EReal :=
  Ideal.div (Ideal.div (cb 0x3F800000#32) (cb 0x40000000#32 * vq)
    - Ideal.div (vf + (muf - muq) * (muf - muq)) (cb 0x40000000#32 * vq * vq)) (cb 0x45300000#32)

/-- The arguments. -/
structure In where
  x : Fin 1536 → Fin 1024 → EReal
  g0 : Fin 1024 → EReal
  g : Fin 1024 → EReal
  b0 : Fin 1024 → EReal
  b : Fin 1024 → EReal
  wr : Fin 1024 → Fin 2816 → EReal
  wp : Fin 512 → Fin 2816 → BitVec 8
  ws : Fin 8 → Fin 2816 → EReal

namespace In
variable (I : In)

/-- The normalised tokens. -/
def n (r : Fin 1536) (l : Fin 1024) : EReal := nrm (I.x r) l
/-- The float norm's output. -/
def hf (r : Fin 1536) (l : Fin 1024) : EReal := aff (I.x r) I.g0 I.b0 l
/-- The tweaked norm's output. -/
def h (r : Fin 1536) (l : Fin 1024) : EReal := aff (I.x r) I.g I.b l
/-- Its codes, its codes as bytes, and its scales. -/
def q (r : Fin 1536) (l : Fin 1024) : EReal := qz (I.h r) l
def code (r : Fin 1536) (l : Fin 1024) : BitVec 8 := Ideal.fptosi 8 (I.q r l)
def s (r : Fin 1536) : EReal := scl (amax (I.h r))
/-- The dequantised weight: its first 512 rows are the lower nibbles, the others the upper ones. -/
def w (k : Fin 1024) (o : Fin 2816) : EReal :=
  if hk : (k : ℕ) < 512 then nlo (I.wp ⟨k, hk⟩ o) * I.ws ⟨(k : ℕ) / 128, by omega⟩ o
  else nhi (I.wp ⟨(k : ℕ) - 512, by omega⟩ o) * I.ws ⟨(k : ℕ) / 128, by omega⟩ o
/-- The float and the quantised output. -/
def yf (r : Fin 1536) (o : Fin 2816) : EReal := ∑ k, I.hf r k * I.wr k o
def yq (r : Fin 1536) (o : Fin 2816) : EReal := (∑ k, I.q r k * I.w k o) * I.s r
/-- Their moments over the tokens. -/
def muF (o : Fin 2816) : EReal := colMean fun r => I.yf r o
def vF (o : Fin 2816) : EReal := colVar fun r => I.yf r o
def muQ (o : Fin 2816) : EReal := colMean fun r => I.yq r o
def vQ (o : Fin 2816) : EReal := colVar fun r => I.yq r o
/-- The divergence. -/
def klS (o : Fin 2816) : EReal := kl (I.muF o) (I.vF o) (I.muQ o) (I.vQ o)
/-- Its derivative by the quantised output. -/
def dy (r : Fin 1536) (o : Fin 2816) : EReal :=
  Ideal.div (gmu (I.muF o) (I.muQ o) (I.vQ o)
    + cb 0x40000000#32 * (I.yq r o - I.muQ o) * gv (I.muF o) (I.vF o) (I.muQ o) (I.vQ o)) (cb 0x44C00000#32)
/-- Its derivatives by the norm's output, its weight and its bias. -/
def dh (r : Fin 1536) (l : Fin 1024) : EReal := ∑ o, I.dy r o * I.w l o
def dg (l : Fin 1024) : EReal := ∑ r, I.dh r l * I.n r l
def db (l : Fin 1024) : EReal := ∑ r, I.dh r l

end In

end Cert.Spec

end
-- ==== Proof.KerValue.lean ====
/-
  Hand-written, untrusted. The values of the kernel's parts, read at an index as the mathematics of Spec.lean.
-/
module

public import proofs.«01_k».proof.Proof.Spec
public import proofs.«01_k».proof.Proof.Tweak

@[expose] public section

set_option maxRecDepth 16384

noncomputable section
namespace Cert.KernelIdeal.Tweak
open Idealize.ShloMosaic Cert.Spec Cert.KernelIdeal
open Facts₀ Facts

/-- A row mean, read at an index. -/
theorem meanR_at (v : FVec Ideal S32x1024 .f32) (r : Fin 32) (z : Fin 1) : meanR v (ix2 r z) = rowMean fun k => v (ix2 r k) := by
  pointwise [meanR, rowMean, cst]
/-- The centred rows. -/
theorem lnXc_at (x : Vec Ideal S32x1024 .bf16) (r : Fin 32) (l : Fin 1024) : lnXc x (ix2 r l) = cen (fun k => x (ix2 r k)) l := by
  pointwise [lnXc, cen]
  rw [meanR_at]
  try rfl
/-- The normalised rows. -/
theorem lnN_at (x : Vec Ideal S32x1024 .bf16) (r : Fin 32) (l : Fin 1024) : lnN x (ix2 r l) = nrm (fun k => x (ix2 r k)) l := by
  pointwise [lnN, nrm, cst]
  rw [meanR_at, lnXc_at]
  simp only [Idealize.ShloMosaic.mulf, lnXc_at]
  rfl
/-- The affine map. -/
theorem lnAff_at (n : FVec Ideal S32x1024 .f32) (g b : Vec Ideal S1x1024 .f32) (r : Fin 32) (l : Fin 1024) :
    lnAff n g b (ix2 r l) = n (ix2 r l) * g (ix2 0 l) + b (ix2 0 l) := by
  pointwise [lnAff]
/-- The largest magnitudes. -/
theorem lnAmax_at (h : FVec Ideal S32x1024 .f32) (r : Fin 32) (z : Fin 1) : lnAmax h (ix2 r z) = amax fun k => h (ix2 r k) := by
  pointwise [lnAmax, amax]
  rfl
/-- The scales. -/
theorem lnScale_at (h : FVec Ideal S32x1024 .f32) (r : Fin 32) (z : Fin 1) : lnScale h (ix2 r z) = scl (amax fun k => h (ix2 r k)) := by
  pointwise [lnScale, scl, cst]
  rw [lnAmax_at]
/-- The codes, as floats. -/
theorem lnQ_at (h : FVec Ideal S32x1024 .f32) (r : Fin 32) (l : Fin 1024) : lnQ h (ix2 r l) = qz (fun k => h (ix2 r k)) l := by
  pointwise [lnQ, qz]
  rw [lnScale_at]
  rfl
/-- The diagonal read as a row is the diagonal. -/
theorem rowV_at (sb : Vec Ideal S128x128 .f32) (z : Fin 1) (l : Fin 128) : rowV sb (ix2 z l) = sb (ix2 l l) := by
  pointwise [rowV, eye, cst]
  rw [Finset.sum_eq_single l]
  · simp [Scalar.select, IntOp.cmpi]
  · intro k _ hk
    have : ¬ (BitVec.ofNat 32 (k : ℕ) = BitVec.ofNat 32 (l : ℕ)) := by
      intro e
      have := congrArg BitVec.toNat e
      simp only [BitVec.toNat_ofNat] at this
      exact hk (Fin.ext (by omega))
    have e : (BitVec.ofNat 32 (k : ℕ) == BitVec.ofNat 32 (l : ℕ)) = false := by simpa using this
    simp [Scalar.select, IntOp.cmpi, e]
  · simp
section Width
variable {w : ℕ} (W : Wd w) (hw : w = 512 ∨ w = 256)
include hw
/-- A tile of the float output. -/
theorem yfV_at (hf : Vec Ideal S256x1024 .bf16) (wr : Vec Ideal ⟨2, ![1024, w]⟩ .bf16) (r : Fin 256) (o : Fin w) :
    yfV W hf wr (ix2 r o) = ∑ k : Fin 1024, hf (ix2 r k) * wr (ix2 k o) := by
  rcases hw with rfl | rfl <;> pointwise [yfV, dotF]
/-- A partial sum of 256 rows is over every eighth row. -/
theorem fold256_at (y : FVec Ideal ⟨2, ![256, w]⟩ .f32) (r : Fin 8) (o : Fin w) :
    fold256 W y (ix2 r o) = ∑ k : Fin 32, y (ix2 ⟨(k : ℕ) * 8 + r, by omega⟩ o) := by
  rcases hw with rfl | rfl <;> pointwise [fold256]
/-- A partial sum of 512 rows is over every eighth row. -/
theorem fold512_at (y : FVec Ideal ⟨2, ![512, w]⟩ .f32) (r : Fin 8) (o : Fin w) :
    fold512 W y (ix2 r o) = ∑ k : Fin 64, y (ix2 ⟨(k : ℕ) * 8 + r, by omega⟩ o) := by
  rcases hw with rfl | rfl <;> pointwise [fold512]
/-- The sum of the eight partial sums. -/
theorem sum8_at (t : FVec Ideal ⟨2, ![8, w]⟩ .f32) (z : Fin 1) (o : Fin w) :
    sum8 W t (ix2 z o) = ∑ k : Fin 8, t (ix2 k o) := by
  rcases hw with rfl | rfl <;> pointwise [sum8]
/-- The weight of the lower nibbles. -/
theorem deqLo_at (v : Vec Ideal ⟨2, ![128, w]⟩ .i8) (sc : Vec Ideal ⟨2, ![1, w]⟩ .f32) (r : Fin 128) (o : Fin w) :
    deqV W (nibLo v) sc (ix2 r o) = nlo (v (ix2 r o)) * sc (ix2 0 o) := by
  rcases hw with rfl | rfl <;> pointwise [deqV, nibLo, nlo, sgn] <;> rfl
/-- The weight of the upper nibbles. -/
theorem deqHi_at (v : Vec Ideal ⟨2, ![128, w]⟩ .i8) (sc : Vec Ideal ⟨2, ![1, w]⟩ .f32) (r : Fin 128) (o : Fin w) :
    deqV W (nibHi v) sc (ix2 r o) = nhi (v (ix2 r o)) * sc (ix2 0 o) := by
  rcases hw with rfl | rfl <;> pointwise [deqV, nibHi, nhi, sgn] <;> rfl
/-- The quantised output less its mean. -/
theorem ycV_at (y : Vec Ideal ⟨3, ![1, 512, w]⟩ .f32) (mu : FVec Ideal ⟨2, ![1, w]⟩ .f32) (r : Fin 512) (o : Fin w) :
    ycV W y mu (ix2 r o) = y (ix3 0 r o) - mu (ix2 0 o) := by
  rcases hw with rfl | rfl <;> pointwise [ycV]
/-- The derivative by the quantised output. -/
theorem dyV_at (y : Vec Ideal ⟨3, ![1, 512, w]⟩ .f32) (mu p q : FVec Ideal ⟨2, ![1, w]⟩ .f32) (r : Fin 512) (o : Fin w) :
    dyV W y mu p q (ix2 r o) = p (ix2 0 o) + (y (ix3 0 r o) - mu (ix2 0 o)) * q (ix2 0 o) := by
  rcases hw with rfl | rfl
  all_goals
    pointwise [dyV]
    rw [ycV_at _ (by decide)]
/-- A tile less a row. -/
theorem less_at (y : FVec Ideal ⟨2, ![256, w]⟩ .f32) (p : FVec Ideal ⟨2, ![1, w]⟩ .f32) (r : Fin 256) (o : Fin w) :
    less W y p (ix2 r o) = y (ix2 r o) - p (ix2 0 o) := by
  rcases hw with rfl | rfl <;> pointwise [less]
/-- A row repeated eight times. -/
theorem bc8_at (p : FVec Ideal ⟨2, ![1, w]⟩ .f32) (r : Fin 8) (o : Fin w) :
    shapeCast ⟨2, ![8, w]⟩ (broadcastTo ⟨2, ![8, w]⟩ (shapeCast ⟨2, ![1, w]⟩ p W.id1) W.bc8) W.id8 (ix2 r o) = p (ix2 0 o) := by
  rcases hw with rfl | rfl <;> pointwise
/-- A tile written to a slot. -/
theorem to3_at (p : FVec Ideal ⟨2, ![512, w]⟩ .f32) (r : Fin 512) (o : Fin w) :
    shapeCast ⟨3, ![1, 512, w]⟩ p W.to3 (ix3 0 r o) = p (ix2 r o) := by
  rcases hw with rfl | rfl <;> pointwise
/-- A cast of a row to its own shape. -/
theorem id1_at (p : FVec Ideal ⟨2, ![1, w]⟩ .f32) : shapeCast ⟨2, ![1, w]⟩ p W.id1 = p := by
  funext i; rcases hw with rfl | rfl <;> pointwise
/-- A tile of the quantised output. -/
theorem yqV_at (sb : Vec Ideal S512x128 .f32) (a : Vec Ideal S512x1024 .bf16) (wq : Vec Ideal ⟨2, ![1024, w]⟩ .bf16) (r : Fin 512) (o : Fin w) :
    yqV W sb a wq (ix2 r o) = (∑ k : Fin 1024, a (ix2 r k) * wq (ix2 k o)) * sb (ix2 r ⟨(o : ℕ) % 128, by omega⟩) := by
  rcases hw with rfl | rfl
  all_goals
    pointwise [yqV, dotQ]
    congr 1
    simp only [List.replicate]
    pointwise
    split_ifs <;> exact congrArg sb (congrArg (ix2 r) (Fin.ext (by show _ = (o : ℕ) % 128; simp only []; omega)))
/-- The pilot of a tile. -/
theorem pilot_at (y : FVec Ideal ⟨2, ![256, w]⟩ .f32) (z : Fin 1) (o : Fin w) :
    pilot W y (ix2 z o) = (∑ r : Fin 8, ∑ k : Fin 32, y (ix2 ⟨(k : ℕ) * 8 + r, by omega⟩ o)) * cb 0x3B800000#32 := by
  rw [pilot]
  show sum8 W (fold256 W y) (ix2 z o) * _ = _
  rw [sum8_at W hw]
  simp only [fold256_at W hw]
  rfl
/-- Three tiles' partial sums. -/
theorem tot3_at (a b c : FVec Ideal ⟨2, ![8, w]⟩ .f32) (r : Fin 8) (o : Fin w) :
    tot3 a b c (ix2 r o) = a (ix2 r o) + b (ix2 r o) + c (ix2 r o) := by
  rcases hw with rfl | rfl <;> pointwise [tot3, cst] <;> simp
/-- The partial sums of the squared deviations. -/
theorem sqV_at (y : Vec Ideal ⟨3, ![1, 512, w]⟩ .f32) (mu : FVec Ideal ⟨2, ![1, w]⟩ .f32) (r : Fin 8) (o : Fin w) :
    sqV W y mu (ix2 r o) = ∑ k : Fin 64, (y (ix3 0 ⟨(k : ℕ) * 8 + r, by omega⟩ o) - mu (ix2 0 o)) * (y (ix3 0 ⟨(k : ℕ) * 8 + r, by omega⟩ o) - mu (ix2 0 o)) := by
  rw [sqV, fold512_at W hw]
  refine Finset.sum_congr rfl fun k _ => ?_
  show ycV W y mu _ * ycV W y mu _ = _
  rw [ycV_at W hw]
omit hw
/-- The named constant is 1/1536. -/
theorem inv_tok : (Named.named κ "inv_tok" 0x3A2AAAAB#32 : Ideal .f32) = ((1/1536 : ℝ) : EReal) := by
  simp [Named.named, κ]
/-- The mean over all rows. -/
theorem meanT_at (hw : w = 512 ∨ w = 256) (t : FVec Ideal ⟨2, ![8, w]⟩ .f32) (z : Fin 1) (o : Fin w) :
    meanT W t (ix2 z o) = (∑ r : Fin 8, t (ix2 r o)) * ((1/1536 : ℝ) : EReal) := by
  rw [meanT]
  show sum8 W t (ix2 z o) * _ = _
  rw [sum8_at W hw]
  exact congrArg _ inv_tok
/-- The divergence. -/
theorem klV_at (muf vf muq vq : FVec Ideal ⟨2, ![1, w]⟩ .f32) (z : Fin 1) (o : Fin w) :
    klV muf vf muq vq (ix2 z o) = kl (muf (ix2 z o)) (vf (ix2 z o)) (muq (ix2 z o)) (vq (ix2 z o)) := by
  pointwise [klV, kl, dmu2, cst]
/-- The first coefficient of the derivative. -/
theorem pV_at (muf vf muq vq : FVec Ideal ⟨2, ![1, w]⟩ .f32) (z : Fin 1) (o : Fin w) :
    pV muf vf muq vq (ix2 z o) = gmu (muf (ix2 z o)) (muq (ix2 z o)) (vq (ix2 z o)) * ((1/1536 : ℝ) : EReal) := by
  pointwise [pV, gmu, cst, invTok]
  rw [inv_tok]
/-- The second coefficient of the derivative. -/
theorem qV_at (muf vf muq vq : FVec Ideal ⟨2, ![1, w]⟩ .f32) (z : Fin 1) (o : Fin w) :
    qV muf vf muq vq (ix2 z o) = cb 0x40000000#32 * gv (muf (ix2 z o)) (vf (ix2 z o)) (muq (ix2 z o)) (vq (ix2 z o)) * ((1/1536 : ℝ) : EReal) := by
  pointwise [qV, gv, dmu2, cst, invTok]
  rw [inv_tok]
end Width
/-- The derivative by the norm's output. -/
theorem dhV_at (dy wq : Vec Ideal S512x2816 .bf16) (r l : Fin 512) : dhV dy wq (ix2 r l) = ∑ o : Fin 2816, dy (ix2 r o) * wq (ix2 l o) := by
  pointwise [dhV]
end Cert.KernelIdeal.Tweak
end
-- ==== Proof.Algebra.lean ====
/-
  Hand-written, untrusted. The laws that the two programs' formulas differ by.
-/
module

public import proofs.«01_k».proof.Proof.Spec

@[expose] public section

set_option maxRecDepth 16384

noncomputable section

namespace Cert.Spec

open Idealize.ShloMosaic

/-! ## The constants -/

/-- The constant is 1024. -/
theorem c1024 : cb 0x44800000#32 = ((1024 : ℝ) : EReal) := by simp [Ideal.ofBits, Ideal.ieee, -EReal.coe_mul]; norm_num
/-- The constant is 1536. -/
theorem c1536 : cb 0x44C00000#32 = ((1536 : ℝ) : EReal) := by simp [Ideal.ofBits, Ideal.ieee, -EReal.coe_mul]; norm_num
/-- The constant is 2. -/
theorem c2 : cb 0x40000000#32 = ((2 : ℝ) : EReal) := by simp [Ideal.ofBits, Ideal.ieee, -EReal.coe_mul]; norm_num
/-- The constant is 1 / 256. -/
theorem cP : cb 0x3B800000#32 = ((1 / 256 : ℝ) : EReal) := by simp [Ideal.ofBits, Ideal.ieee, -EReal.coe_mul]; norm_num
/-- The constant under the root is a positive number. -/
theorem cEps : ∃ e : ℝ, 0 < e ∧ cb 0x358637BD#32 = (e : EReal) := by
  refine ⟨(8796093 : ℝ) / 8796093022208, by norm_num, ?_⟩
  simp [Ideal.ofBits, Ideal.ieee, -EReal.coe_mul]; norm_num

/-! ## The codes -/

/-- A number rounded and clamped is a whole number of eight bits. -/
theorem clamp_int (z : EReal) : ∃ n : ℤ, -127 ≤ n ∧ n ≤ 127 ∧
    min (ofInt 127) (max (ofInt (-127)) (Ideal.liftRound Ideal.roundHalfEven z)) = ofInt n := by
  induction z with
  | bot => exact ⟨-127, by norm_num, by norm_num, by
      rw [Ideal.liftRound_bot, max_eq_left bot_le]
      exact min_eq_right (EReal.coe_le_coe_iff.2 (by norm_num))⟩
  | top => exact ⟨127, by norm_num, by norm_num, by simp [ofInt]⟩
  | coe r =>
    refine ⟨min 127 (max (-127) (Ideal.roundHalfEven r)), by omega, by omega, ?_⟩
    rw [Ideal.liftRound_coe]
    simp only [ofInt]
    rw [Int.cast_min, Int.cast_max]
    rw [EReal.coe_strictMono.monotone.map_min, EReal.coe_strictMono.monotone.map_max]

/-- The byte of a whole number of eight bits. -/
theorem fptosi_int (n : ℤ) (h : -127 ≤ n) (h' : n ≤ 127) : (Ideal.fptosi 8 (ofInt n)).toInt = n := by
  unfold Ideal.fptosi
  have : Ideal.toIntClamped (-(2 ^ (8 - 1) : ℕ)) ((2 ^ (8 - 1) : ℕ) - 1) (ofInt n) = n := by
    simp only [ofInt, Ideal.toIntClamped_coe, Int.floor_intCast, Int.ceil_intCast, ite_self]
    norm_num
    omega
  rw [this]
  rw [BitVec.toInt_ofInt]
  simp [Int.bmod]
  split <;> omega

/-- The codes as bytes are the codes. -/
theorem In.code_q (I : In) (r : Fin 1536) (l : Fin 1024) : ofInt (I.code r l).toInt = I.q r l := by
  obtain ⟨n, h1, h2, h⟩ := clamp_int (Ideal.div (I.h r l) (scl (amax (I.h r))))
  have hq : I.q r l = ofInt n := h
  rw [In.code, hq, fptosi_int n h1 h2]

/-! ## Sums -/

/-- A sum of 1024 in two halves. -/
theorem sum_halves (f : Fin 1024 → EReal) :
    (∑ k : Fin 512, f ⟨k, by omega⟩) + ∑ k : Fin 512, f ⟨(k : ℕ) + 512, by omega⟩ = ∑ k, f k := by
  rw [Fin.sum_univ_add (a := 512) (b := 512) f]
  congr 1

/-- A sum over blocks of `b` is the sum over all. -/
theorem sum_blocks {a b : ℕ} (f : ℕ → EReal) : ∑ i : Fin a, ∑ k : Fin b, f (i * b + k) = ∑ r : Fin (a * b), f r := by
  rw [← Fintype.sum_prod_type']
  refine Fintype.sum_equiv finProdFinEquiv _ _ fun x => ?_
  simp [finProdFinEquiv, mul_comm, add_comm]

/-- The partial sums of three tiles of 512 add up to the sum of all. -/
theorem sum_512 (f : ℕ → EReal) : ∑ r : Fin 8, ((∑ k : Fin 64, f ((k : ℕ) * 8 + r)) + (∑ k : Fin 64, f (512 + ((k : ℕ) * 8 + r))) + ∑ k : Fin 64, f (1024 + ((k : ℕ) * 8 + r)))
    = ∑ i : Fin 1536, f i := by
  have h : ∀ g : ℕ → EReal, ∑ r : Fin 8, ∑ k : Fin 64, g ((k : ℕ) * 8 + r) = ∑ i : Fin 512, g i := fun g => by
    rw [Finset.sum_comm]; exact sum_blocks (a := 64) (b := 8) g
  rw [Finset.sum_add_distrib, Finset.sum_add_distrib, h f, h fun i => f (512 + i), h fun i => f (1024 + i)]
  refine Eq.trans ?_ (sum_blocks (a := 3) (b := 512) f)
  rw [Fin.sum_univ_three]
  simp

/-- The partial sums of six tiles of 256 add up to the sum of all. -/
theorem sum_256 (f : ℕ → EReal) : ∑ r : Fin 8, ∑ t ∈ Finset.range 6, ∑ k : Fin 32, f (256 * t + ((k : ℕ) * 8 + r)) = ∑ i : Fin 1536, f i := by
  rw [Finset.sum_comm, Finset.sum_range]
  refine Eq.trans ?_ (sum_blocks (a := 6) (b := 256) f)
  refine Finset.sum_congr rfl fun t _ => ?_
  rw [Finset.sum_comm]
  refine (sum_blocks (a := 32) (b := 8) fun i => f (256 * t + i)).trans ?_
  exact Finset.sum_congr rfl fun i _ => congrArg f (by omega)

/-! ## Division by the number of rows -/

/-- The mean of a column is its sum times 1 / 1536. -/
theorem mean_eq (v : Fin 1536 → EReal) : colMean v = (∑ r, v r) * ((1 / 1536 : ℝ) : EReal) := by
  rw [colMean, c1536, Ideal.div_coe (by norm_num)]

/-- The two ways of dividing the derivative by the number of rows. -/
theorem dy_eq (a y g : EReal) :
    a * ((1 / 1536 : ℝ) : EReal) + y * (cb 0x40000000#32 * g * ((1 / 1536 : ℝ) : EReal)) = Ideal.div (a + cb 0x40000000#32 * y * g) (cb 0x44C00000#32) := by
  rw [c1536, Ideal.div_coe (by norm_num), EReal.right_distrib_of_nonneg_of_ne_top (by exact_mod_cast (by norm_num : (0 : ℝ) ≤ 1 / 1536)) (EReal.coe_ne_top _)]
  congr 1
  rw [← mul_assoc, ← mul_assoc, mul_comm y]

/-! ## Finite numbers -/

/-- A finite number. -/
def Fi (x : EReal) : Prop := ∃ v : ℝ, x = v

/-- A sum of finite numbers is finite. -/
theorem Fi.add {x y : EReal} : Fi x → Fi y → Fi (x + y) := by
  rintro ⟨a, rfl⟩ ⟨b, rfl⟩; exact ⟨a + b, (EReal.coe_add a b).symm⟩
/-- A difference of finite numbers is finite. -/
theorem Fi.sub {x y : EReal} : Fi x → Fi y → Fi (x - y) := by
  rintro ⟨a, rfl⟩ ⟨b, rfl⟩; exact ⟨a - b, (EReal.coe_sub a b).symm⟩
/-- A product of finite numbers is finite. -/
theorem Fi.mul {x y : EReal} : Fi x → Fi y → Fi (x * y) := by
  rintro ⟨a, rfl⟩ ⟨b, rfl⟩; exact ⟨a * b, (EReal.coe_mul a b).symm⟩
/-- A sum of real numbers, read as extended reals, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
/-- A sum of finitely many finite numbers is finite. -/
theorem Fi.sum {ι : Type*} {s : Finset ι} {f : ι → EReal} (h : ∀ i, Fi (f i)) : Fi (∑ i ∈ s, f i) := by
  choose g hg using h
  exact ⟨∑ i ∈ s, g i, by rw [coe_sum]; exact Finset.sum_congr rfl fun i _ => hg i⟩

/-- The mean of a finite row is finite. -/
theorem Fi.rowMean {v : Fin 1024 → EReal} (h : ∀ k, Fi (v k)) : Fi (rowMean v) := by
  rw [Spec.rowMean, c1024, Ideal.div_coe (by norm_num)]
  exact (Fi.sum h).mul ⟨_, rfl⟩
/-- A finite row less its mean is finite. -/
theorem Fi.cen {v : Fin 1024 → EReal} (h : ∀ k, Fi (v k)) (l : Fin 1024) : Fi (cen v l) := (h l).sub (Fi.rowMean h)

/-- The normalised row of a finite row is finite: the root is of a positive number. -/
theorem Fi.nrm_fin {v : Fin 1024 → EReal} (h : ∀ k, Fi (v k)) (l : Fin 1024) : Fi (nrm v l) := by
  refine (Fi.cen h l).mul ?_
  choose g hg using Fi.cen h
  obtain ⟨e, he, hE⟩ := cEps
  have hm : Spec.rowMean (fun k => Spec.cen v k * Spec.cen v k) = (((∑ k, g k * g k) * (1 / 1024) : ℝ) : EReal) := by
    rw [Spec.rowMean, c1024, Ideal.div_coe (by norm_num), EReal.coe_mul, coe_sum]
    congr 1
    exact Finset.sum_congr rfl fun k _ => by rw [hg k, EReal.coe_mul]
  have hs : 0 ≤ ∑ k, g k * g k := Finset.sum_nonneg fun k _ => mul_self_nonneg _
  rw [hm, hE, ← EReal.coe_add, Ideal.rsqrt_coe]
  have : 0 < (∑ k, g k * g k) * (1 / 1024) + e := by positivity
  rw [if_neg (not_lt.2 this.le), if_neg this.ne']
  exact ⟨_, rfl⟩

/-- A number that is not finite is one of the infinities. -/
theorem not_fi {x : EReal} (h : ¬Fi x) : x = ⊤ ∨ x = ⊥ := by
  induction x with
  | bot => exact Or.inr rfl
  | top => exact Or.inl rfl
  | coe a => exact absurd ⟨a, rfl⟩ h

/-- The infinities are not finite. -/
theorem not_fi_top : ¬Fi ⊤ := fun ⟨_, h⟩ => EReal.coe_ne_top _ h.symm
/-- Minus infinity is not finite. -/
theorem not_fi_bot : ¬Fi ⊥ := fun ⟨_, h⟩ => EReal.coe_ne_bot _ h.symm

/-- A finite sum has finite summands. -/
theorem Fi.of_add {x y : EReal} (h : Fi (x + y)) : Fi x ∧ Fi y := by
  induction x with
  | bot => exact absurd (by simpa using h) not_fi_bot
  | top =>
    induction y with
    | bot => exact absurd (by simpa using h) not_fi_bot
    | top => exact absurd (by simpa using h) not_fi_top
    | coe b => exact absurd (by simpa using h) not_fi_top
  | coe a =>
    induction y with
    | bot => exact absurd (by simpa using h) not_fi_bot
    | top => exact absurd (by simpa using h) not_fi_top
    | coe b => exact ⟨⟨a, rfl⟩, ⟨b, rfl⟩⟩

/-- A finite sum over a set has finite summands. -/
theorem Fi.of_sum {ι : Type*} {s : Finset ι} {f : ι → EReal} (h : Fi (∑ i ∈ s, f i)) : ∀ i ∈ s, Fi (f i) := by
  classical
  induction s using Finset.induction_on with
  | empty => simp
  | insert a s ha ih =>
    rw [Finset.sum_insert ha] at h
    intro i hi
    rcases Finset.mem_insert.1 hi with rfl | hi
    exacts [h.of_add.1, ih h.of_add.2 i hi]

/-- A positive multiple of an infinity is that infinity. -/
theorem rowMean_top {v : Fin 1024 → EReal} (h : ∑ k, v k = ⊤) : Spec.rowMean v = ⊤ := by
  rw [Spec.rowMean, c1024, Ideal.div_coe (by norm_num), h]
  exact EReal.top_mul_coe_of_pos (by norm_num)

/-- A row with an infinity in it has no finite mean. -/
theorem rowMean_inf {v : Fin 1024 → EReal} (h : ¬∀ k, Fi (v k)) : ¬Fi (Spec.rowMean v) := by
  have hs : ¬Fi (∑ k, v k) := fun hs => h fun k => hs.of_sum k (Finset.mem_univ k)
  rcases not_fi hs with e | e
  · rw [rowMean_top e]; exact not_fi_top
  · rw [Spec.rowMean, c1024, Ideal.div_coe (by norm_num), e, EReal.bot_mul_coe_of_pos (by norm_num)]
    exact not_fi_bot

/-- A normalised row is finite whatever the row: an infinity in it makes it zero. -/
theorem Fi.nrm (v : Fin 1024 → EReal) (l : Fin 1024) : Fi (nrm v l) := by
  by_cases h : ∀ k, Fi (v k)
  · exact Fi.nrm_fin h l
  have hc : ∀ k, Spec.cen v k * Spec.cen v k = ⊤ := fun k => by
    have hn : ¬Fi (Spec.cen v k) := fun hf => by
      have h2 := (Fi.of_add (x := v k) (y := -Spec.rowMean v) (by simpa only [Spec.cen, sub_eq_add_neg] using hf)).2
      obtain ⟨a, ha⟩ := h2
      exact rowMean_inf h ⟨-a, by rw [EReal.coe_neg, ← ha, neg_neg]⟩
    rcases not_fi hn with e | e <;> rw [e]
    · exact EReal.top_mul_top
    · exact EReal.bot_mul_bot
  have hs : ∑ k, Spec.cen v k * Spec.cen v k = ⊤ := by
    refine top_le_iff.1 ((hc 0).symm.le.trans ?_)
    exact Finset.single_le_sum (f := fun k => Spec.cen v k * Spec.cen v k) (fun k _ => by rw [hc k]; exact le_top) (Finset.mem_univ 0)
  obtain ⟨e, -, hE⟩ := cEps
  rw [Spec.nrm, rowMean_top hs, hE, EReal.top_add_coe, show Ideal.rsqrt ⊤ = 0 from rfl, mul_zero]
  exact ⟨0, rfl⟩

/-- The arguments that make the float output finite, whatever the tokens. -/
structure In.Finite (I : In) : Prop where
  g0 : ∀ k, Fi (I.g0 k)
  b0 : ∀ k, Fi (I.b0 k)
  wr : ∀ k o, Fi (I.wr k o)

/-- The float output is finite. -/
theorem In.Finite.yf {I : In} (h : I.Finite) (r : Fin 1536) (o : Fin 2816) : Fi (I.yf r o) :=
  Fi.sum fun k => (((Fi.nrm (I.x r) k).mul (h.g0 k)).add (h.b0 k)).mul (h.wr k o)

/-! ## The moments about a pilot -/

/-- The mean from the deviations. -/
theorem mean_pilot {y : Fin 1536 → EReal} {p : EReal} (h : ∀ r, Fi (y r)) (hp : Fi p) :
    p + (∑ r, (y r - p)) * ((1 / 1536 : ℝ) : EReal) = colMean y := by
  choose g hg using h
  obtain ⟨q, rfl⟩ := hp
  obtain rfl : y = fun r => (g r : EReal) := funext hg
  rw [mean_eq]
  simp only [← EReal.coe_sub, ← coe_sum, ← EReal.coe_mul, ← EReal.coe_add]
  congr 1
  rw [Finset.sum_sub_distrib]
  simp
  ring

/-- The variance from the deviations and their squares. -/
theorem var_pilot {y : Fin 1536 → EReal} {p : EReal} (h : ∀ r, Fi (y r)) (hp : Fi p) :
    (∑ r, (y r - p) * (y r - p)) * ((1 / 1536 : ℝ) : EReal)
      - ((∑ r, (y r - p)) * ((1 / 1536 : ℝ) : EReal)) * ((∑ r, (y r - p)) * ((1 / 1536 : ℝ) : EReal)) = colVar y := by
  choose g hg using h
  obtain ⟨q, rfl⟩ := hp
  obtain rfl : y = fun r => (g r : EReal) := funext hg
  rw [colVar, mean_eq, mean_eq]
  simp only [← EReal.coe_sub, ← coe_sum, ← EReal.coe_mul, ← EReal.coe_add]
  congr 1
  have e : ∀ a : ℝ, ∑ r, (g r - a) * (g r - a) = (∑ r, g r * g r) - 2 * a * (∑ r, g r) + 1536 * (a * a) := by
    intro a
    have : ∀ r, (g r - a) * (g r - a) = g r * g r - 2 * a * g r + a * a := fun r => by ring
    simp only [this, Finset.sum_add_distrib, Finset.sum_sub_distrib, ← Finset.mul_sum]
    simp
    ring
  rw [e, e, Finset.sum_sub_distrib]
  simp
  ring

end Cert.Spec

end
-- ==== Proof.State.lean ====
/-
  Hand-written, untrusted. What a store and a transfer do to the contents of the buffers, read at an index.

  `T` is a memory that holds what each buffer shall hold in the end. `Pres T f f'` says that what agrees with it in `f` agrees with it in `f'`,
  but for the running sums and the tiles of the quantised output, which are overwritten. `Rng T f M a p b q` says that the `p` rows and `q`
  columns of `M` at row `a` and column `b` agree.
-/
module

public import proofs.«01_k».proof.Proof.Run
public import proofs.«01_k».proof.Proof.KerValue
public import proofs.«01_k».proof.Proof.Algebra

@[expose] public section

set_option maxRecDepth 16384

noncomputable section

namespace Cert.KernelIdeal.Tweak

open Idealize.ShloMosaic Idealize.ShloMosaic.TcCoe Cert.Spec Cert.KernelIdeal
open Cert.Machine
open Facts₀ Facts

variable {c : Dev nD}

/-- The contents of the buffers. -/
abbrev Mm (c : Dev nD) := (b : Ref sig .tc) → Buf (Elt Ideal) (L τ c b)

/-- A buffer read at an index. -/
def vl (f : Mm c) {sp : Space} {s : Shape} {e : EltTy} (M : Memref sig .tc sp s e) (i : s.Idx) : Elt Ideal e :=
  M.view.read (Elt Ideal) (f M.view.ref) i

/-- A rectangle's element is the buffer's element under it. -/
theorem rd_at (σ : S Ideal c) {s : Shape} {e : EltTy} (m : Memref sig .tc .vmem s e) (r : Rect s) (i : r.shape.Idx) :
    rd σ m r i = vl σ.mem m (r.emb i) := by
  unfold rd vl
  rw [View.read_apply, View.read_apply]
  rfl

/-- The place in a matrix of an element of a rectangle. -/
theorem box_emb {P Q a b p q : ℕ} (h1 : a + p ≤ P) (h2 : b + q ≤ Q) (r : Fin p) (l : Fin q) :
    (box (P := P) (Q := Q) a b p q h1 h2).emb (ix2 r l) = ix2 ⟨a + r, by omega⟩ ⟨b + l, by omega⟩ := by
  funext i
  fin_cases i
  · exact Fin.ext (by show a + 1 * (r : ℕ) = a + r; omega)
  · exact Fin.ext (by show b + 1 * (l : ℕ) = b + l; omega)

/-- What agrees with the target stays. -/
def Pres (T f f' : Mm c) : Prop := ∀ b, b ≠ stM.view.ref → b ≠ yM.view.ref → ∀ i, f b i = T b i → f' b i = T b i

/-- Memory that does not change keeps what is as it shall be. -/
theorem Pres.refl (T f : Mm c) : Pres T f f := fun _ _ _ _ h => h
/-- Two changes in turn that keep what is as it shall be. -/
theorem Pres.trans {T f g h : Mm c} (h1 : Pres T f g) (h2 : Pres T g h) : Pres T f h := fun b hs hy i e => h2 b hs hy i (h1 b hs hy i e)

/-- A rectangle agrees with the target. -/
def Rng (T f : Mm c) {sp : Space} {P Q : ℕ} {e : EltTy} (M : Memref sig .tc sp ⟨2, ![P, Q]⟩ e) (a p b q : ℕ) : Prop :=
  ∀ (r : Fin P) (l : Fin Q), a ≤ r → (r : ℕ) < a + p → b ≤ l → (l : ℕ) < b + q → vl f M (ix2 r l) = vl T M (ix2 r l)

/-- An element that is as it shall be stays so. -/
theorem Pres.vl {T f f' : Mm c} (h : Pres T f f') {sp : Space} {s : Shape} {e : EltTy} {M : Memref sig .tc sp s e}
    (hs : M.view.ref ≠ stM.view.ref) (hy : M.view.ref ≠ yM.view.ref) {i : s.Idx} (hi : vl f M i = vl T M i) : vl f' M i = vl T M i := by
  have e := View.eq_of_read_eq hi
  have := h _ hs hy _ e
  unfold Tweak.vl
  rw [View.read_apply, View.read_apply, this]

/-- A rectangle that is as it shall be stays so. -/
theorem Pres.rng {T f f' : Mm c} (h : Pres T f f') {sp : Space} {P Q : ℕ} {e : EltTy} {M : Memref sig .tc sp ⟨2, ![P, Q]⟩ e} {a p b q : ℕ}
    (hs : M.view.ref ≠ stM.view.ref) (hy : M.view.ref ≠ yM.view.ref) (hi : Rng T f M a p b q) : Rng T f' M a p b q :=
  fun r l h1 h2 h3 h4 => h.vl hs hy (hi r l h1 h2 h3 h4)

/-- A write of what the target holds. -/
theorem put_pres {T : Mm c} (σ : S Ideal c) {sp : Space} {s : Shape} {e : EltTy} (v : View sig .tc sp s e) (w : s.Idx → Elt Ideal e)
    (hw : ∀ i, w i = v.read (Elt Ideal) (T v.ref) i) : Pres T σ.mem (σ.put v.ref (v.write (Elt Ideal) (σ.mem v.ref) w Finset.univ)).mem := by
  intro b _ _ i hi
  by_cases hb : b = v.ref
  · subst hb
    rw [Machine.St.put_self]
    by_cases hx : i ∈ v.set
    · obtain ⟨x, -, rfl⟩ := Finset.mem_map.mp hx
      exact View.eq_of_read_eq (by rw [View.read_write_univ]; exact hw x)
    · exact (View.write_of_not_mem (v := v) _ _ Finset.univ (by rw [View.setOn_univ]; exact hx)).trans hi
  · rw [Machine.St.put_ne _ _ _ hb]; exact hi

/-- A store of what the target holds. -/
theorem wt_ok {T : Mm c} (σ : S Ideal c) {P Q a b p q : ℕ} {e : EltTy} (M : Memref sig .tc .vmem ⟨2, ![P, Q]⟩ e) (h1 : a + p ≤ P) (h2 : b + q ≤ Q)
    (w : (⟨2, ![p, q]⟩ : Shape).Idx → Elt Ideal e) (hw : ∀ (r : Fin p) (l : Fin q), w (ix2 r l) = vl T M (ix2 ⟨a + r, by omega⟩ ⟨b + l, by omega⟩)) :
    Pres T σ.mem (wt σ M (box a b p q h1 h2) w).mem ∧ Rng T (wt σ M (box a b p q h1 h2) w).mem M a p b q := by
  have hv : ∀ i, w i = (M.view.slice (box a b p q h1 h2)).read (Elt Ideal) (T M.view.ref) i := by
    intro i
    obtain ⟨r, l, rfl⟩ : ∃ (r : Fin p) (l : Fin q), i = ix2 r l := ⟨i 0, i 1, eq_ix2 i⟩
    rw [hw, View.read_apply]
    unfold vl
    rw [View.read_apply, ← box_emb h1 h2]
    rfl
  refine ⟨put_pres σ (M.view.slice (box a b p q h1 h2)) w hv, fun r l g1 g2 g3 g4 => ?_⟩
  have e := hw ⟨r - a, by omega⟩ ⟨l - b, by omega⟩
  have hr : (⟨a + (r - a : ℕ), by omega⟩ : Fin P) = r := Fin.ext (by show a + ((r : ℕ) - a) = r; omega)
  have hl : (⟨b + (l - b : ℕ), by omega⟩ : Fin Q) = l := Fin.ext (by show b + ((l : ℕ) - b) = l; omega)
  dsimp only at e
  rw [hr, hl] at e
  rw [← e]
  have := rd_at (wt σ M (box a b p q h1 h2) w) M (box a b p q h1 h2) (ix2 ⟨r - a, by omega⟩ ⟨l - b, by omega⟩)
  rw [box_emb h1 h2] at this
  dsimp only at this
  rw [hr, hl] at this
  rw [← this]
  unfold rd wt
  rw [Machine.St.put_self]
  exact congrFun (View.read_write_univ (v := M.view.slice (box a b p q h1 h2)) _ _) _

/-- A store read at an index, inside. -/
theorem vl_in (σ : S Ideal c) {P Q a b p q : ℕ} {e : EltTy} (M : Memref sig .tc .vmem ⟨2, ![P, Q]⟩ e) (h1 : a + p ≤ P) (h2 : b + q ≤ Q)
    (w : (⟨2, ![p, q]⟩ : Shape).Idx → Elt Ideal e) (r : Fin p) (l : Fin q) :
    vl (wt σ M (box a b p q h1 h2) w).mem M (ix2 ⟨a + r, by omega⟩ ⟨b + l, by omega⟩) = w (ix2 r l) := by
  rw [← box_emb h1 h2, ← rd_at]
  unfold rd wt
  rw [Machine.St.put_self]
  exact congrFun (View.read_write_univ (v := M.view.slice (box a b p q h1 h2)) _ _) _

/-- A store read at an index, outside. -/
theorem vl_out (σ : S Ideal c) {P Q a b p q : ℕ} {e : EltTy} (M : Memref sig .tc .vmem ⟨2, ![P, Q]⟩ e) (h1 : a + p ≤ P) (h2 : b + q ≤ Q)
    (w : (⟨2, ![p, q]⟩ : Shape).Idx → Elt Ideal e) (r : Fin P) (l : Fin Q) (h : ¬ (a ≤ r ∧ (r : ℕ) < a + p ∧ b ≤ l ∧ (l : ℕ) < b + q)) :
    vl (wt σ M (box a b p q h1 h2) w).mem M (ix2 r l) = vl σ.mem M (ix2 r l) := by
  have hx : M.view.emb (ix2 r l) ∉ (M.view.slice (box a b p q h1 h2)).set := by
    intro hm
    obtain ⟨x, hx⟩ := View.exists_of_mem_set_slice hm
    obtain ⟨r', l', rfl⟩ : ∃ (r : Fin p) (l : Fin q), x = ix2 r l := ⟨x 0, x 1, eq_ix2 x⟩
    have := M.view.emb.injective hx
    rw [box_emb] at this
    have e0 : a + (r' : ℕ) = r := congrArg Fin.val (congrFun this 0)
    have e1 : b + (l' : ℕ) = l := congrArg Fin.val (congrFun this 1)
    exact h ⟨by omega, by omega, by omega, by omega⟩
  unfold vl wt
  rw [Machine.St.put_self, View.read_apply, View.read_apply]
  exact congrArg _ (View.write_of_not_mem (v := M.view.slice (box a b p q h1 h2)) _ _ Finset.univ (by rw [View.setOn_univ]; exact hx))

/-- A store to another buffer. -/
theorem vl_other (σ : S Ideal c) {s s' : Shape} {e e' : EltTy} (M : Memref sig .tc .vmem s e) (R : Rect s) (w : R.shape.Idx → Elt Ideal e)
    {sp : Space} (M' : Memref sig .tc sp s' e') (i : s'.Idx) (h : M'.view.ref ≠ M.view.ref) : vl (wt σ M R w).mem M' i = vl σ.mem M' i := by
  unfold vl
  rw [wt_ne _ _ _ _ h]

/-- A store read back, inside and outside. -/
theorem wt_in (σ : S Ideal c) {s : Shape} {e : EltTy} (M : Memref sig .tc .vmem s e) (R : Rect s) (w : R.shape.Idx → Elt Ideal e) :
    rd (wt σ M R w) M R = w := by
  unfold rd wt
  rw [Machine.St.put_self]
  exact View.read_write_univ (v := M.view.slice R) _ _

/-- A store leaves a separate rectangle. -/
theorem wt_out (σ : S Ideal c) {s : Shape} {e : EltTy} (M : Memref sig .tc .vmem s e) (R R' : Rect s) (w : R.shape.Idx → Elt Ideal e)
    (h : Disjoint R.set R'.set) : rd (wt σ M R w) M R' = rd σ M R' := by
  unfold rd wt
  rw [Machine.St.put_self]
  exact View.read_slice_write_slice_of_disjoint (v := M.view) _ _ _ _ _ (by rw [View.setOn_univ]; exact View.disjoint_slice (v := M.view) h.symm)

/-- A store leaves another buffer. -/
theorem wt_other (σ : S Ideal c) {s s' : Shape} {e e' : EltTy} (M : Memref sig .tc .vmem s e) (R : Rect s) (w : R.shape.Idx → Elt Ideal e)
    (M' : Memref sig .tc .vmem s' e') (R' : Rect s') (h : M'.view.ref ≠ M.view.ref) : rd (wt σ M R w) M' R' = rd σ M' R' := by
  unfold rd
  rw [wt_ne _ _ _ _ h]

/-- A store to the running sums or to a tile of the quantised output. -/
theorem wt_loose {T : Mm c} (σ : S Ideal c) {s : Shape} {e : EltTy} (M : Memref sig .tc .vmem s e) (R : Rect s) (w : R.shape.Idx → Elt Ideal e)
    (h : M.view.ref = stM.view.ref ∨ M.view.ref = yM.view.ref) : Pres T σ.mem (wt σ M R w).mem := by
  intro b hs hy i hi
  rw [wt_ne _ _ _ _ (by rcases h with h | h <;> rw [h] <;> assumption)]
  exact hi

/-- A transfer of what the target holds. -/
theorem go_ok {T : Mm c} (σ : S Ideal c) (k : Fin 26)
    (h : ∀ i, vl σ.mem (X k).src i = vl T (X k).dst i) :
    Pres T σ.mem (go σ k).mem ∧ ∀ i, vl (go σ k).mem (X k).dst i = vl T (X k).dst i := by
  refine ⟨put_pres σ (X k).dst.view _ h, fun i => ?_⟩
  rw [← show _ = vl T (X k).dst i from h i]
  exact congrFun ((congrArg ((X k).dst.view.read (Elt Ideal)) (Machine.St.put_self _ _ _)).trans (View.read_write_univ (v := (X k).dst.view) _ _)) i

/-- A read of a rectangle that agrees. -/
theorem Rng.rd {T : Mm c} {σ : S Ideal c} {P Q a b p q a' b' p' q' : ℕ} {e : EltTy} {M : Memref sig .tc .vmem ⟨2, ![P, Q]⟩ e} (h : Rng T σ.mem M a' p' b' q')
    (h1 : a + p ≤ P) (h2 : b + q ≤ Q) (ha : a' ≤ a) (hp : a + p ≤ a' + p') (hb : b' ≤ b) (hq : b + q ≤ b' + q') (r : Fin p) (l : Fin q) :
    Tweak.rd σ M (box a b p q h1 h2) (ix2 r l) = vl T M (ix2 ⟨a + r, by omega⟩ ⟨b + l, by omega⟩) := by
  rw [rd_at, box_emb h1 h2]
  exact h _ _ (by show a' ≤ a + (r : ℕ); omega) (by show a + (r : ℕ) < _; omega) (by show b' ≤ b + (l : ℕ); omega) (by show b + (l : ℕ) < _; omega)

/-! ## What the buffers shall hold -/

/-- The target holds the mathematics. -/
structure Tgt (I : In) (T : Mm c) : Prop where
  x : ∀ r l, vl T xM (ix2 r l) = I.x r l
  g0 : ∀ z l, vl T g0M (ix2 z l) = I.g0 l
  g : ∀ z l, vl T gM (ix2 z l) = I.g l
  b0 : ∀ z l, vl T b0M (ix2 z l) = I.b0 l
  b : ∀ z l, vl T bM (ix2 z l) = I.b l
  wr : ∀ k o, vl T wrM (ix2 k o) = I.wr k o
  wp : ∀ k o, vl T wpM (ix2 k o) = I.wp k o
  ws : ∀ k o, vl T wsM (ix2 k o) = I.ws k o
  n : ∀ r l, vl T nM (ix2 r l) = I.n r l
  hf : ∀ r l, vl T hfM (ix2 r l) = I.hf r l
  a : ∀ r l, vl T aM (ix2 r l) = I.q r l
  a8 : ∀ r l, vl T a8M (ix2 r l) = I.code r l
  sb : ∀ r l, vl T sbM (ix2 r l) = I.s r
  s : ∀ (p : Fin 4) (q : Fin 384), vl T sM (ix2 p q) = I.s ⟨(p : ℕ) * 384 + q, by omega⟩
  wq : ∀ k o, vl T wqM (ix2 k o) = I.w k o
  kl : ∀ z o, vl T klM (ix2 z o) = I.klS o
  dy : ∀ r o, vl T dyM (ix2 r o) = I.dy r o
  dh : ∀ r l, vl T dhM (ix2 r l) = I.dh r l
  dg : ∀ z l, vl T dgM (ix2 z l) = I.dg l
  db : ∀ z l, vl T dbM (ix2 z l) = I.db l
  cp : ∀ k i, vl T (X k).src i = vl T (X k).dst i

end Cert.KernelIdeal.Tweak

end
-- ==== Proof.Steps.lean ====
/-
  Hand-written, untrusted. Each part of the program stores what its buffers shall hold, where what it reads is as it shall be.
-/
module

public import proofs.«01_k».proof.Proof.State

@[expose] public section

set_option maxRecDepth 16384

noncomputable section

namespace Cert.KernelIdeal.Tweak

open Idealize.ShloMosaic Idealize.ShloMosaic.TcCoe Cert.Spec Cert.KernelIdeal
open Cert.Machine
open Facts₀ Facts

variable {c : Dev nD} {I : In} {T : Mm c}

/-! ## The norms -/

/-- What the norms of 32 rows leave. -/
def LnOk (T f : Mm c) (i : Fin 48) : Prop :=
  Rng T f nM (32 * (i : ℕ)) 32 0 1024 ∧ Rng T f hfM (32 * (i : ℕ)) 32 0 1024 ∧ Rng T f aM (32 * (i : ℕ)) 32 0 1024
    ∧ Rng T f a8M (32 * (i : ℕ)) 32 0 1024 ∧ Rng T f sbM (32 * (i : ℕ)) 32 0 128

/-- The outputs of the norms stay as they shall be. -/
theorem LnOk.mono {f f' : Mm c} {i : Fin 48} (hp : Pres T f f') (h : LnOk T f i) : LnOk T f' i :=
  ⟨hp.rng (by decide) (by decide) h.1, hp.rng (by decide) (by decide) h.2.1, hp.rng (by decide) (by decide) h.2.2.1,
    hp.rng (by decide) (by decide) h.2.2.2.1, hp.rng (by decide) (by decide) h.2.2.2.2⟩

/-- A row vector that agrees. -/
theorem rd_row {σ : S Ideal c} {M : Memref sig .tc .vmem S1x1024 .f32} (h : Rng T σ.mem M 0 1 0 1024) (l : Fin 1024) :
    rd σ M rowsAll (ix2 0 l) = vl T M (ix2 0 l) := by
  refine (h.rd _ _ (by omega) (by omega) (by omega) (by omega) 0 l).trans ?_
  exact congrArg (vl T M) (congrArg₂ ix2 (Fin.ext (by simp)) (Fin.ext (by simp)))

/-- The norms of 32 tokens leave what they shall. -/
theorem ln_ok (hT : Tgt I T) (i : Fin 48) (σ : S Ideal c) (hx : Rng T σ.mem xM (32 * (i : ℕ)) 32 0 1024) (h0 : Rng T σ.mem g0M 0 1 0 1024)
    (h1 : Rng T σ.mem gM 0 1 0 1024) (h2 : Rng T σ.mem b0M 0 1 0 1024) (h3 : Rng T σ.mem bM 0 1 0 1024) :
    Pres T σ.mem (lnS i σ).mem ∧ LnOk T (lnS i σ).mem i := by
  have hrow : ∀ r : Fin 32, 32 * (i : ℕ) + r < 1536 := fun r => by omega
  have xr : ∀ r : Fin 32, (fun k => rd σ xM (rows i) (ix2 r k)) = I.x ⟨32 * (i : ℕ) + r, hrow r⟩ := fun r => funext fun k => by
    rw [hx.rd _ _ (by omega) (by omega) (by omega) (by omega) r k, hT.x]
    exact congrArg (I.x _) (Fin.ext (by simp))
  have nr : ∀ (r : Fin 32) (l : Fin 1024), lnN (rd σ xM (rows i)) (ix2 r l) = I.n ⟨32 * (i : ℕ) + r, hrow r⟩ l := fun r l => by
    rw [lnN_at, xr]; rfl
  unfold lnS
  extract_lets x σ1 g0 b0 σ2 g b σ3 σ4
  obtain ⟨p1, q1⟩ : Pres T σ.mem σ1.mem ∧ Rng T σ1.mem nM (32 * (i : ℕ)) 32 0 1024 := wt_ok σ nM _ _ _ fun r l => by
    rw [shapeCast_self, nr, hT.n]; simp only [Nat.zero_add, Fin.eta]
  have hg0 : ∀ l : Fin 1024, g0 (ix2 0 l) = I.g0 l := fun l => (rd_row (p1.rng (by decide) (by decide) h0) l).trans (hT.g0 0 l)
  have hb0 : ∀ l : Fin 1024, b0 (ix2 0 l) = I.b0 l := fun l => (rd_row (p1.rng (by decide) (by decide) h2) l).trans (hT.b0 0 l)
  obtain ⟨p2, q2⟩ : Pres T σ1.mem σ2.mem ∧ Rng T σ2.mem hfM (32 * (i : ℕ)) 32 0 1024 := wt_ok σ1 hfM _ _ _ fun r l => by
    rw [shapeCast_self, hT.hf]; simp only [Nat.zero_add, Fin.eta]
    show lnAff (lnN x) g0 b0 (ix2 r l) = _
    rw [lnAff_at, nr, hg0, hb0]; rfl
  have hg : ∀ l : Fin 1024, g (ix2 0 l) = I.g l := fun l => (rd_row ((p1.trans p2).rng (by decide) (by decide) h1) l).trans (hT.g 0 l)
  have hb : ∀ l : Fin 1024, b (ix2 0 l) = I.b l := fun l => (rd_row ((p1.trans p2).rng (by decide) (by decide) h3) l).trans (hT.b 0 l)
  have hr : ∀ r : Fin 32, (fun k => lnAff (lnN x) g b (ix2 r k)) = I.h ⟨32 * (i : ℕ) + r, hrow r⟩ := fun r => funext fun l => by
    rw [lnAff_at, nr, hg, hb]; rfl
  obtain ⟨p3, q3⟩ : Pres T σ2.mem σ3.mem ∧ Rng T σ3.mem aM (32 * (i : ℕ)) 32 0 1024 := wt_ok σ2 aM _ _ _ fun r l => by
    rw [shapeCast_self, hT.a]; simp only [Nat.zero_add, Fin.eta]
    show lnQ (lnAff (lnN x) g b) (ix2 r l) = _
    rw [lnQ_at, hr]; rfl
  obtain ⟨p4, q4⟩ : Pres T σ3.mem σ4.mem ∧ Rng T σ4.mem a8M (32 * (i : ℕ)) 32 0 1024 := wt_ok σ3 a8M _ _ _ fun r l => by
    rw [shapeCast_self, hT.a8]; simp only [Nat.zero_add, Fin.eta]
    show Ideal.fptosi 8 (lnQ (lnAff (lnN x) g b) (ix2 r l)) = _
    rw [lnQ_at, hr]; rfl
  obtain ⟨p5, q5⟩ : Pres T σ4.mem _ ∧ Rng T _ sbM (32 * (i : ℕ)) 32 0 128 := wt_ok σ4 sbM (by omega) (le_refl _)
      (shapeCast S32x128 (broadcastTo S32x128 (shapeCast S32x1 (lnScale (lnAff (lnN x) g b)) shapeCasts_S32x1_S32x1) broadcasts_S32x1_S32x128) shapeCasts_S32x128_S32x128)
      fun r l => by
    rw [hT.sb]
    pointwise
    rw [lnScale_at, hr]; rfl
  exact ⟨p1.trans <| p2.trans <| p3.trans <| p4.trans p5,
    (p2.trans <| p3.trans <| p4.trans p5).rng (by decide) (by decide) q1, (p3.trans <| p4.trans p5).rng (by decide) (by decide) q2,
    (p4.trans p5).rng (by decide) (by decide) q3, p5.rng (by decide) (by decide) q4, q5⟩

/-- 128 scales as a row. -/
theorem row_ok (hT : Tgt I T) (i : Fin 12) (σ : S Ideal c) (h : Rng T σ.mem sbM (128 * (i : ℕ)) 128 0 128) :
    Pres T σ.mem (rowS i σ).mem ∧ Rng T (rowS i σ).mem sM ((i : ℕ) / 3) 1 (128 * ((i : ℕ) % 3)) 128 := by
  unfold rowS
  exact wt_ok σ sM (by omega) (by omega) (shapeCast S1x128 (rowV (rd σ sbM (sbD i))) shapeCasts_S1x128_S1x128) fun r l => by
    rw [shapeCast_self, rowV_at, h.rd _ _ (by omega) (by omega) (by omega) (by omega) l l, hT.sb, hT.s]
    exact congrArg I.s (Fin.ext (by show 128 * (i : ℕ) + (l : ℕ) = ((i : ℕ) / 3 + (r : ℕ)) * 384 + (128 * ((i : ℕ) % 3) + l); omega))

/-! ## The weight and the float output -/

/-- A column block has 512 or 256 columns. -/
theorem blk_w : ∀ j : Fin 6, (blk j).w = 512 ∨ (blk j).w = 256 := by decide

/-- The pilot of a column: the mean of its first tile. -/
def pil (I : In) (o : Fin 2816) : EReal :=
  (∑ r : Fin 8, ∑ k : Fin 32, I.yf ⟨(k : ℕ) * 8 + r, by omega⟩ o) * cb 0x3B800000#32

/-- A deviation from the pilot. -/
def dvn (I : In) (o : Fin 2816) (i : ℕ) : EReal := if h : i < 1536 then I.yf ⟨i, h⟩ o - pil I o else 0

/-- The running sums of a block of columns after `t` tiles. -/
def StAt (I : In) (t w co : ℕ) (f : Mm c) : Prop :=
  t = 0 ∨ ∀ o : Fin 2816, co ≤ o → (o : ℕ) < co + w → vl f stM (ix2 0 o) = pil I o
    ∧ ∀ r : Fin 8, vl f stM (ix2 ⟨8 + r, by omega⟩ o) = ∑ t' ∈ Finset.range t, ∑ k : Fin 32, dvn I o (256 * t' + ((k : ℕ) * 8 + r))
      ∧ vl f stM (ix2 ⟨16 + r, by omega⟩ o)
        = ∑ t' ∈ Finset.range t, ∑ k : Fin 32, dvn I o (256 * t' + ((k : ℕ) * 8 + r)) * dvn I o (256 * t' + ((k : ℕ) * 8 + r))

/-- They stay where the block's columns do. -/
theorem StAt.mono {t w co : ℕ} {f f' : Mm c} (h : StAt I t w co f)
    (hk : ∀ (r : Fin 24) (o : Fin 2816), co ≤ o → (o : ℕ) < co + w → vl f' stM (ix2 r o) = vl f stM (ix2 r o)) : StAt I t w co f' := by
  rcases h with h | h
  · exact .inl h
  · refine .inr fun o h1 h2 => ⟨(hk _ o h1 h2).trans (h o h1 h2).1, fun r => ⟨(hk _ o h1 h2).trans ((h o h1 h2).2 r).1, (hk _ o h1 h2).trans ((h o h1 h2).2 r).2⟩⟩

/-- The deviation from the pilot by a token's number, for a number in range. -/
theorem dvn_eq (o : Fin 2816) (i : ℕ) (h : i < 1536) : dvn I o i = I.yf ⟨i, h⟩ o - pil I o := dif_pos h

/-- A column in a block, by its number there. -/
theorem col_of {w co : ℕ} (hc : co + w ≤ 2816) (o : Fin 2816) (h1 : co ≤ o) (h2 : (o : ℕ) < co + w) : ∃ (o' : Fin w) (h : co + (o' : ℕ) < 2816), o = ⟨co + o', h⟩ :=
  ⟨⟨o - co, by omega⟩, by show co + ((o : ℕ) - co) < 2816; omega, Fin.ext (by show (o : ℕ) = co + (o - co); omega)⟩

section Width
variable {w : ℕ} (W : Wd w) (hw : w = 512 ∨ w = 256) (co : ℕ) (hc : co + w ≤ 2816)

include hw in
/-- The weight of a group of bytes. -/
theorem deq_ok (hT : Tgt I T) (g : Fin 4) (σ : S Ideal c) (hp : Rng T σ.mem wpM 0 512 0 2816) (hs : Rng T σ.mem wsM 0 8 0 2816) :
    Pres T σ.mem (deqS W co hc g σ).mem ∧ Rng T (deqS W co hc g σ).mem wqM (128 * (g : ℕ)) 128 co w
      ∧ Rng T (deqS W co hc g σ).mem wqM (128 * ((g : ℕ) + 4)) 128 co w := by
  unfold deqS
  extract_lets v σ1
  have hv : ∀ (r : Fin 128) (o : Fin w), v (ix2 r o) = I.wp ⟨128 * (g : ℕ) + r, by omega⟩ ⟨co + o, by omega⟩ := fun r o =>
    (hp.rd _ _ (by omega) (by omega) (by omega) (by omega) r o).trans (hT.wp _ _)
  obtain ⟨p1, q1⟩ : Pres T σ.mem σ1.mem ∧ Rng T σ1.mem wqM (128 * (g : ℕ)) 128 co w := wt_ok σ wqM _ _ _ fun r o => by
    rw [shapeCast_self, deqLo_at W hw, hv, hs.rd _ _ (by omega) (by omega) (by omega) (by omega) 0 o,
      hT.ws, hT.wq, In.w, dif_pos (by show 128 * (g : ℕ) + (r : ℕ) < 512; omega)]
    refine congrArg₂ (· * ·) rfl (congrArg (fun k => I.ws k _) (Fin.ext ?_))
    show (g : ℕ) + 0 = (128 * (g : ℕ) + (r : ℕ)) / 128
    omega
  have hs' := p1.rng (by decide) (by decide) hs
  obtain ⟨p2, q2⟩ := wt_ok (T := T) σ1 wqM (a := 128 * ((g : ℕ) + 4)) (b := co) (by omega) hc
      (shapeCast ⟨2, ![128, w]⟩ (deqV W (nibHi v) (rd σ1 wsM (wsR co hc (up g)))) W.id128) fun r o => by
    rw [shapeCast_self, deqHi_at W hw, hv, hs'.rd _ _ (by omega) (by omega) (by omega) (by omega) 0 o,
      hT.ws, hT.wq, In.w, dif_neg (by show ¬ 128 * ((g : ℕ) + 4) + (r : ℕ) < 512; omega)]
    refine congrArg₂ (· * ·) (congrArg (fun k => nhi (I.wp k _)) (Fin.ext ?_)) (congrArg (fun k => I.ws k _) (Fin.ext ?_))
    · show 128 * (g : ℕ) + (r : ℕ) = 128 * ((g : ℕ) + 4) + (r : ℕ) - 512
      omega
    · show (g : ℕ) + 4 + 0 = (128 * ((g : ℕ) + 4) + (r : ℕ)) / 128
      omega
  exact ⟨p1.trans p2, p2.rng (by decide) (by decide) q1, q2⟩

include hw in
/-- A tile of the float output. -/
theorem yf_tile (hT : Tgt I T) (t : Fin 6) (σ : S Ideal c) (hh : Rng T σ.mem hfM (256 * (t : ℕ)) 256 0 1024) (hr : Rng T σ.mem wrM 0 1024 co w)
    (r : Fin 256) (o : Fin w) :
    yfV W (rd σ hfM (hfR t)) (rd σ wrM (wrR co hc)) (ix2 r o) = I.yf ⟨256 * (t : ℕ) + r, by omega⟩ ⟨co + o, by omega⟩ := by
  rw [yfV_at W hw, In.yf]
  refine Finset.sum_congr rfl fun k _ => ?_
  rw [hh.rd _ _ (by omega) (by omega) (by omega) (by omega) r k, hr.rd _ _ (by omega) (by omega) (by omega) (by omega) k o, hT.hf, hT.wr]
  simp only [Nat.zero_add, Fin.eta]

include hw in
/-- The first tile of a block of columns. -/
theorem yf0_ok (hT : Tgt I T) (σ : S Ideal c) (hh : Rng T σ.mem hfM 0 256 0 1024) (hr : Rng T σ.mem wrM 0 1024 co w) :
    StAt I 1 w co (yf0S W co hc σ).mem := by
  have hy := yf_tile W hw co hc hT 0 σ hh hr
  have hp : ∀ (z : Fin 1) (o : Fin w), pilot W (yfV W (rd σ hfM (hfR 0)) (rd σ wrM (wrR co hc))) (ix2 z o) = pil I ⟨co + o, by omega⟩ := fun z o => by
    rw [pilot_at W hw, pil]
    simp only [hy]
    simp
  have hd : ∀ (r : Fin 256) (o : Fin w), less W (yfV W (rd σ hfM (hfR 0)) (rd σ wrM (wrR co hc))) (pilot W (yfV W (rd σ hfM (hfR 0)) (rd σ wrM (wrR co hc)))) (ix2 r o)
      = dvn I ⟨co + o, by omega⟩ r := fun r o => by
    rw [less_at W hw, hy, hp, dvn_eq _ _ (by omega)]
    simp
  unfold yf0S
  extract_lets y σ1 σ2
  refine .inr fun o h1 h2 => ?_
  obtain ⟨o', ho, rfl⟩ := col_of hc o h1 h2
  refine ⟨?_, fun r => ⟨?_, ?_⟩⟩
  · rw [vl_out _ _ _ _ _ _ _ (by show ¬ (16 ≤ 0 ∧ _); omega), vl_out _ _ _ _ _ _ _ (by show ¬ (8 ≤ 0 ∧ _); omega)]
    refine (vl_in σ stM _ _ _ 0 o').trans ?_
    rw [bc8_at W hw, hp]
  · rw [vl_out _ _ _ _ _ _ _ (by show ¬ (16 ≤ 8 + (r : ℕ) ∧ _); omega)]
    refine (vl_in σ1 stM _ _ _ r o').trans ?_
    rw [shapeCast_self, fold256_at W hw, Finset.sum_range_one]
    refine Finset.sum_congr rfl fun k _ => (hd _ _).trans ?_
    simp
  · refine (vl_in σ2 stM _ _ _ r o').trans ?_
    rw [shapeCast_self, fold256_at W hw, Finset.sum_range_one]
    refine Finset.sum_congr rfl fun k _ => ?_
    show less W _ _ _ * less W _ _ _ = _
    rw [hd]
    simp

include hw in
/-- A later tile. -/
theorem yf_ok (hT : Tgt I T) (t : Fin 6) (σ : S Ideal c) (hh : Rng T σ.mem hfM (256 * (t : ℕ)) 256 0 1024) (hr : Rng T σ.mem wrM 0 1024 co w)
    (ht : (t : ℕ) ≠ 0) (hs : StAt I t w co σ.mem) : StAt I ((t : ℕ) + 1) w co (yfS W co hc t σ).mem := by
  have hs := hs.resolve_left ht
  have hy := yf_tile W hw co hc hT t σ hh hr
  have hp : ∀ o : Fin w, rd σ stM (st0 co hc) (ix2 0 o) = pil I ⟨co + o, by omega⟩ := fun o => by
    rw [rd_at, box_emb]
    exact (hs ⟨co + o, by omega⟩ (by simp) (by simp)).1
  have hd : ∀ (r : Fin 256) (o : Fin w), less W (yfV W (rd σ hfM (hfR t)) (rd σ wrM (wrR co hc))) (rd σ stM (st0 co hc)) (ix2 r o)
      = dvn I ⟨co + o, by omega⟩ (256 * (t : ℕ) + r) := fun r o => by
    rw [less_at W hw, hy, hp, dvn_eq _ _ (by omega)]
  unfold yfS
  extract_lets y p σ1
  refine .inr fun o h1 h2 => ?_
  obtain ⟨o', ho, rfl⟩ := col_of hc o h1 h2
  have hs := hs _ h1 h2
  refine ⟨?_, fun r => ⟨?_, ?_⟩⟩
  · rw [vl_out _ _ _ _ _ _ _ (by show ¬ (16 ≤ 0 ∧ _); omega), vl_out _ _ _ _ _ _ _ (by show ¬ (8 ≤ 0 ∧ _); omega)]
    exact hs.1
  · rw [vl_out _ _ _ _ _ _ _ (by show ¬ (16 ≤ 8 + (r : ℕ) ∧ _); omega)]
    refine (vl_in σ stM _ _ _ r o').trans ?_
    refine (congrFun (shapeCast_self _ _) _).trans ?_
    rw [Finset.sum_range_succ]
    show rd σ stM (stR co hc 8 (by decide)) (ix2 r o') + fold256 W (less W y p) (ix2 r o') = _
    rw [rd_at, box_emb, (hs.2 r).1, fold256_at W hw]
    exact congrArg₂ (· + ·) rfl (Finset.sum_congr rfl fun k _ => hd _ _)
  · refine (vl_in σ1 stM _ _ _ r o').trans ?_
    refine (congrFun (shapeCast_self _ _) _).trans ?_
    rw [Finset.sum_range_succ]
    show rd σ1 stM (stR co hc 16 (by decide)) (ix2 r o') + fold256 W (mulf (less W y p) (less W y p)) (ix2 r o') = _
    rw [rd_at, box_emb, vl_out _ _ _ _ _ _ _ (by show ¬ (8 ≤ 16 + (r : ℕ) ∧ 16 + (r : ℕ) < 8 + 8 ∧ _); omega), (hs.2 r).2, fold256_at W hw]
    refine congrArg₂ (· + ·) rfl (Finset.sum_congr rfl fun k _ => ?_)
    show less W _ _ _ * less W _ _ _ = _
    rw [hd]

end Width

end Cert.KernelIdeal.Tweak

end
-- ==== Proof.StepQ.lean ====
/-
  Hand-written, untrusted. The quantised output of a block of columns: the divergence and its derivative are stored where what is read is as it shall be.
-/
module

public import proofs.«01_k».proof.Proof.Steps

@[expose] public section

set_option maxRecDepth 16384

noncomputable section

namespace Cert.KernelIdeal.Tweak

open Idealize.ShloMosaic Idealize.ShloMosaic.TcCoe Cert.Spec Cert.KernelIdeal
open Cert.Machine
open Facts₀ Facts

variable {c : Dev nD} {I : In} {T : Mm c}

/-- What the quantised output of a block reads. -/
structure QIn (T f : Mm c) (w co : ℕ) : Prop where
  sb : Rng T f sbM 0 1536 0 128
  a : Rng T f aM 0 1536 0 1024
  wq : Rng T f wqM 0 1024 co w

/-- What a block of the quantised output relies on stays as it shall be. -/
theorem QIn.mono {f f' : Mm c} {w co : ℕ} (h : QIn T f w co) (hp : Pres T f f') : QIn T f' w co :=
  ⟨hp.rng (by decide) (by decide) h.sb, hp.rng (by decide) (by decide) h.a, hp.rng (by decide) (by decide) h.wq⟩

/-- The quantised output by its row's number. -/
def yqn (I : In) (o : Fin 2816) (i : ℕ) : EReal := if h : i < 1536 then I.yq ⟨i, h⟩ o else 0

/-- The quantised output by a token's number, for a number in range. -/
theorem yqn_eq (o : Fin 2816) (i : ℕ) (h : i < 1536) : yqn I o i = I.yq ⟨i, h⟩ o := dif_pos h
/-- The quantised output by a token. -/
theorem yqn_fin (o : Fin 2816) (i : Fin 1536) : yqn I o i = I.yq i o := dif_pos i.isLt

/-- Tiles of a slot are apart. -/
theorem yT_sep {w : ℕ} (hw : w ≤ 512) (k : Fin 2) {m m' : Fin 3} (h : m ≠ m') : Disjoint (yT hw k m).set (yT hw k m').set :=
  Rect.unit_disjoint (s := S2x1536x512) 1 (by
    have : (m : ℕ) ≠ m' := fun e => h (Fin.ext e)
    show 512 * (m : ℕ) + 512 ≤ 512 * (m' : ℕ) ∨ 512 * (m' : ℕ) + 512 ≤ 512 * (m : ℕ)
    omega)

section Width
variable {w : ℕ} (W : Wd w) (hw : w = 512 ∨ w = 256) (co : ℕ) (hc : co + w ≤ 2816)

include hw in
/-- A tile of the quantised output. -/
theorem yq_tile (hT : Tgt I T) (m : Fin 3) (σ : S Ideal c) (h : QIn T σ.mem w co) (r : Fin 512) (o : Fin w) :
    yqOf W co hc m σ (ix2 r o) = yqn I ⟨co + o, by omega⟩ (512 * (m : ℕ) + r) := by
  rw [yqOf, yqV_at W hw, yqn_eq _ _ (by omega), In.yq]
  refine congrArg₂ (· * ·) (Finset.sum_congr rfl fun k _ => ?_) ?_
  · rw [h.a.rd _ _ (by omega) (by omega) (by omega) (by omega) r k, h.wq.rd _ _ (by omega) (by omega) (by omega) (by omega) k o, hT.a, hT.wq]
    simp only [Nat.zero_add, Fin.eta]
  · rw [h.sb.rd _ _ (by omega) (by omega) (by omega) (by omega) r _, hT.sb]

include hw in
/-- A tile kept in a slot and read back. -/
theorem y_slot (k : Fin 2) (m : Fin 3) (σ : S Ideal c) (r : Fin 512) (o : Fin w) :
    rd (yqS W co hc k m σ) yM (yT W.slot k m) (ix3 0 r o) = yqOf W co hc m σ (ix2 r o) := by
  rw [yqS, wt_in]
  exact to3_at W hw _ r o

include hw in
/-- A block of columns of the quantised output. -/
theorem q_ok (hT : Tgt I T) (hF : I.Finite) (k : Fin 2) (σ : S Ideal c) (h : QIn T σ.mem w co) (hs : StAt I 6 w co σ.mem) :
    Pres T σ.mem (qS W co hc k σ).mem ∧ Rng T (qS W co hc k σ).mem klM 0 1 co w ∧ Rng T (qS W co hc k σ).mem dyM 0 1536 co w := by
  have hs := hs.resolve_left (by decide)
  unfold qS
  extract_lets σ1 σ2 σ3 muq vq s1 s2 p0 muf vf σ4 σ5 σ6
  have p1 : Pres T σ.mem σ1.mem := wt_loose σ yM _ _ (.inr rfl)
  have p2 : Pres T σ1.mem σ2.mem := wt_loose σ1 yM _ _ (.inr rfl)
  have p3 : Pres T σ2.mem σ3.mem := wt_loose σ2 yM _ _ (.inr rfl)
  have h1 := h.mono p1
  have h2 := h1.mono p2
  -- the three tiles
  have y0 : ∀ (r : Fin 512) (o : Fin w), rd σ3 yM (yT W.slot k 0) (ix3 0 r o) = yqn I ⟨co + o, by omega⟩ (0 + r) := fun r o => by
    have e : rd σ3 yM (yT W.slot k 0) = rd σ1 yM (yT W.slot k 0) :=
      (wt_out σ2 yM _ _ _ (yT_sep W.slot k (by decide))).trans (wt_out σ1 yM _ _ _ (yT_sep W.slot k (by decide)))
    rw [e]
    exact (y_slot W hw co hc k 0 σ r o).trans (yq_tile W hw co hc hT 0 σ h r o)
  have y1 : ∀ (r : Fin 512) (o : Fin w), rd σ3 yM (yT W.slot k 1) (ix3 0 r o) = yqn I ⟨co + o, by omega⟩ (512 + r) := fun r o => by
    have e : rd σ3 yM (yT W.slot k 1) = rd σ2 yM (yT W.slot k 1) := wt_out σ2 yM _ _ _ (yT_sep W.slot k (by decide))
    rw [e]
    exact (y_slot W hw co hc k 1 σ1 r o).trans (yq_tile W hw co hc hT 1 σ1 h1 r o)
  have y2 : ∀ (r : Fin 512) (o : Fin w), rd σ3 yM (yT W.slot k 2) (ix3 0 r o) = yqn I ⟨co + o, by omega⟩ (1024 + r) := fun r o =>
    (y_slot W hw co hc k 2 σ2 r o).trans (yq_tile W hw co hc hT 2 σ2 h2 r o)
  -- the moments
  have hmuq : ∀ (z : Fin 1) (o : Fin w), muq (ix2 z o) = I.muQ ⟨co + o, by omega⟩ := fun z o => by
    refine (meanT_at W hw _ z o).trans ?_
    rw [In.muQ, mean_eq]
    congr 1
    simp only [← yqn_fin]
    rw [← sum_512]
    refine Finset.sum_congr rfl fun r _ => ?_
    rw [tot3_at hw, fold512_at W hw, fold512_at W hw, fold512_at W hw]
    refine congrArg₂ (· + ·) (congrArg₂ (· + ·) (Finset.sum_congr rfl fun k _ => ?_) (Finset.sum_congr rfl fun k _ => ?_)) (Finset.sum_congr rfl fun k _ => ?_)
    · exact (yq_tile W hw co hc hT 0 σ h _ o).trans (congrArg _ (by simp))
    · exact yq_tile W hw co hc hT 1 σ1 h1 _ o
    · exact yq_tile W hw co hc hT 2 σ2 h2 _ o
  have hvq : ∀ (z : Fin 1) (o : Fin w), vq (ix2 z o) = I.vQ ⟨co + o, by omega⟩ := fun z o => by
    refine (meanT_at W hw _ z o).trans ?_
    rw [In.vQ, colVar, mean_eq]
    congr 1
    show _ = ∑ r : Fin 1536, (I.yq r _ - I.muQ _) * (I.yq r _ - I.muQ _)
    simp only [← yqn_fin]
    rw [← sum_512 fun i => (yqn I ⟨co + o, by omega⟩ i - I.muQ ⟨co + o, by omega⟩) * (yqn I ⟨co + o, by omega⟩ i - I.muQ ⟨co + o, by omega⟩)]
    refine Finset.sum_congr rfl fun r _ => ?_
    rw [tot3_at hw, sqV_at W hw, sqV_at W hw, sqV_at W hw]
    refine congrArg₂ (· + ·) (congrArg₂ (· + ·) (Finset.sum_congr rfl fun k _ => ?_) (Finset.sum_congr rfl fun k _ => ?_)) (Finset.sum_congr rfl fun k _ => ?_)
    · rw [y0, hmuq]; simp only [Nat.zero_add]
    · rw [y1, hmuq]
    · rw [y2, hmuq]
  have st : ∀ (R : Rect S24x2816), rd σ3 stM R = rd σ stM R := fun R =>
    (wt_other σ2 yM _ _ stM R (by decide)).trans <| (wt_other σ1 yM _ _ stM R (by decide)).trans (wt_other σ yM _ _ stM R (by decide))
  have hp0 : ∀ (z : Fin 1) (o : Fin w), p0 (ix2 z o) = pil I ⟨co + o, by omega⟩ := fun z o => by
    refine (congrFun (st _) _).trans ?_
    rw [rd_at, box_emb]
    obtain rfl : z = 0 := Subsingleton.elim _ _
    exact (hs ⟨co + o, by omega⟩ (by simp) (by simp)).1
  have hd1 : ∀ (z : Fin 1) (o : Fin w), (meanT W s1 : FVec Ideal ⟨2, ![1, w]⟩ .f32) (ix2 z o) = (∑ r : Fin 1536, (I.yf r ⟨co + o, by omega⟩ - pil I ⟨co + o, by omega⟩)) * ((1 / 1536 : ℝ) : EReal) := fun z o => by
    rw [meanT_at W hw]
    congr 1
    have : ∀ i : Fin 1536, I.yf i ⟨co + o, by omega⟩ - pil I ⟨co + o, by omega⟩ = dvn I ⟨co + o, by omega⟩ i := fun i => (dvn_eq _ _ i.isLt).symm
    simp only [this]
    rw [← sum_256]
    refine Finset.sum_congr rfl fun r _ => ?_
    refine (congrFun (st _) _).trans ?_
    rw [rd_at, box_emb]
    exact ((hs ⟨co + o, by omega⟩ (by simp) (by simp)).2 r).1
  have hd2 : ∀ (z : Fin 1) (o : Fin w), (meanT W s2 : FVec Ideal ⟨2, ![1, w]⟩ .f32) (ix2 z o)
      = (∑ r : Fin 1536, (I.yf r ⟨co + o, by omega⟩ - pil I ⟨co + o, by omega⟩) * (I.yf r ⟨co + o, by omega⟩ - pil I ⟨co + o, by omega⟩)) * ((1 / 1536 : ℝ) : EReal) := fun z o => by
    rw [meanT_at W hw]
    congr 1
    have : ∀ i : Fin 1536, I.yf i ⟨co + o, by omega⟩ - pil I ⟨co + o, by omega⟩ = dvn I ⟨co + o, by omega⟩ i := fun i => (dvn_eq _ _ i.isLt).symm
    simp only [this]
    rw [← sum_256 fun i => dvn I ⟨co + o, by omega⟩ i * dvn I ⟨co + o, by omega⟩ i]
    refine Finset.sum_congr rfl fun r _ => ?_
    refine (congrFun (st _) _).trans ?_
    rw [rd_at, box_emb]
    exact ((hs ⟨co + o, by omega⟩ (by simp) (by simp)).2 r).2
  have hpil : ∀ o, Fi (pil I o) := fun o => (Fi.sum fun _ => Fi.sum fun _ => hF.yf _ _).mul ⟨_, cP⟩
  have hmuf : ∀ (z : Fin 1) (o : Fin w), muf (ix2 z o) = I.muF ⟨co + o, by omega⟩ := fun z o => by
    show p0 (ix2 z o) + (meanT W s1 : FVec Ideal ⟨2, ![1, w]⟩ .f32) (ix2 z o) = _
    rw [hp0, hd1]
    exact mean_pilot (fun r => hF.yf r _) (hpil _)
  have hvf : ∀ (z : Fin 1) (o : Fin w), vf (ix2 z o) = I.vF ⟨co + o, by omega⟩ := fun z o => by
    show (meanT W s2 : FVec Ideal ⟨2, ![1, w]⟩ .f32) (ix2 z o)
      - (meanT W s1 : FVec Ideal ⟨2, ![1, w]⟩ .f32) (ix2 z o) * (meanT W s1 : FVec Ideal ⟨2, ![1, w]⟩ .f32) (ix2 z o) = _
    rw [hd1, hd2]
    exact var_pilot (fun r => hF.yf r _) (hpil _)
  -- the divergence
  obtain ⟨p4, q4⟩ : Pres T σ3.mem σ4.mem ∧ Rng T σ4.mem klM 0 1 co w := wt_ok σ3 klM _ _ _ fun z o => by
    rw [id1_at W hw, klV_at, hmuf, hvf, hmuq, hvq, hT.kl]; rfl
  -- its derivative
  have yk : ∀ m : Fin 3, rd σ4 yM (yT W.slot k m) = rd σ3 yM (yT W.slot k m) := fun m => wt_other σ3 klM _ _ yM _ (by decide)
  have tile : ∀ (m : Fin 3) (σ' : S Ideal c), (∀ (r : Fin 512) (o : Fin w), rd σ' yM (yT W.slot k m) (ix3 0 r o) = yqn I ⟨co + o, by omega⟩ (512 * (m : ℕ) + r)) →
      Pres T σ'.mem (dyS W co hc k m muq (pV muf vf muq vq) (qV muf vf muq vq) σ').mem
        ∧ Rng T (dyS W co hc k m muq (pV muf vf muq vq) (qV muf vf muq vq) σ').mem dyM (512 * (m : ℕ)) 512 co w := fun m σ' hy =>
    wt_ok σ' dyM _ _ _ fun r o => by
      rw [shapeCast_self, dyV_at W hw, hy, pV_at, qV_at, hmuf, hvf, hmuq, hvq, dy_eq, yqn_eq _ _ (by omega), hT.dy]; rfl
  obtain ⟨p5, q5⟩ : Pres T σ4.mem σ5.mem ∧ Rng T σ5.mem dyM (512 * 0) 512 co w := tile 0 σ4 fun r o => by rw [yk]; exact (y0 r o).trans (congrArg _ (by simp))
  have yk5 : ∀ m : Fin 3, rd σ5 yM (yT W.slot k m) = rd σ3 yM (yT W.slot k m) := fun m => (wt_other σ4 dyM _ _ yM _ (by decide)).trans (yk m)
  obtain ⟨p6, q6⟩ : Pres T σ5.mem σ6.mem ∧ Rng T σ6.mem dyM (512 * 1) 512 co w := tile 1 σ5 fun r o => by rw [yk5]; exact y1 r o
  have yk6 : ∀ m : Fin 3, rd σ6 yM (yT W.slot k m) = rd σ3 yM (yT W.slot k m) := fun m => (wt_other σ5 dyM _ _ yM _ (by decide)).trans (yk5 m)
  obtain ⟨p7, q7⟩ := tile 2 σ6 fun r o => by rw [yk6]; exact y2 r o
  refine ⟨p1.trans <| p2.trans <| p3.trans <| p4.trans <| p5.trans <| p6.trans p7, (p5.trans <| p6.trans p7).rng (by decide) (by decide) q4, fun r o g1 g2 g3 g4 => ?_⟩
  have q5' := (p6.trans p7).rng (by decide) (by decide) q5
  have q6' := p7.rng (by decide) (by decide) q6
  by_cases h0 : (r : ℕ) < 512
  · exact q5' r o (by omega) (by omega) g3 g4
  · by_cases h1 : (r : ℕ) < 1024
    · exact q6' r o (by omega) (by omega) g3 g4
    · exact q7 r o (by show 512 * 2 ≤ (r : ℕ); omega) (by show (r : ℕ) < 512 * 2 + 512; omega) g3 g4

end Width

end Cert.KernelIdeal.Tweak

end
-- ==== Proof.Inv.lean ====
/-
  Hand-written, untrusted. The parts in sequence: each finds what it reads as it shall be, since the parts that store it have run before.

  `Step.pre` lists the parts that a part relies on, and `chkL` checks a sequence against it. `Inv` says of the parts that have run that what they
  store is as it shall be. `inv_nexts` carries it along a checked sequence, and `inv_mid` gives it after the norms and the outputs.
-/
module

public import proofs.«01_k».proof.Proof.StepQ

@[expose] public section

set_option maxRecDepth 16384

noncomputable section

namespace Cert.KernelIdeal.Tweak

open Idealize.ShloMosaic Idealize.ShloMosaic.TcCoe Cert.Spec Cert.KernelIdeal
open Cert.Machine
open Facts₀ Facts

variable {c : Dev nD} {I : In} {T : Mm c}

deriving instance DecidableEq for Step

/-! ## Rectangles that agree -/

/-- A part of a rectangle that is as it shall be is as it shall be. -/
theorem Rng.sub {f : Mm c} {sp : Space} {P Q : ℕ} {e : EltTy} {M : Memref sig .tc sp ⟨2, ![P, Q]⟩ e} {a p b q a' p' b' q' : ℕ} (h : Rng T f M a' p' b' q')
    (h1 : a' ≤ a) (h2 : a + p ≤ a' + p') (h3 : b' ≤ b) (h4 : b + q ≤ b' + q') : Rng T f M a p b q :=
  fun r l g1 g2 g3 g4 => h r l (by omega) (by omega) (by omega) (by omega)

/-- A whole buffer that agrees. -/
theorem rng_all {f : Mm c} {sp : Space} {P Q : ℕ} {e : EltTy} {M : Memref sig .tc sp ⟨2, ![P, Q]⟩ e} (h : ∀ i, vl f M i = vl T M i) (a p b q : ℕ) :
    Rng T f M a p b q := fun r l _ _ _ _ => h _

/-- A matrix whose full rectangle is as it shall be is as it shall be. -/
theorem all_rng {f : Mm c} {sp : Space} {P Q : ℕ} {e : EltTy} {M : Memref sig .tc sp ⟨2, ![P, Q]⟩ e} (h : Rng T f M 0 P 0 Q) : ∀ i, vl f M i = vl T M i := by
  intro i
  obtain ⟨r, l, rfl⟩ : ∃ (r : Fin P) (l : Fin Q), i = ix2 r l := ⟨i 0, i 1, eq_ix2 i⟩
  exact h r l (Nat.zero_le _) (by omega) (Nat.zero_le _) (by omega)

/-- A slice read at an index. -/
theorem vl_slice (f : Mm c) {sp : Space} {s : Shape} {e : EltTy} (M : Memref sig .tc sp s e) (R : Rect s) (h : ∀ a, R.stride a = 1) (i : R.shape.Idx) :
    vl f (M.slice R h) i = vl f M (R.emb i) := by
  unfold vl
  rw [View.read_apply, View.read_apply]
  rfl

/-- Groups of 32 rows that agree. -/
theorem rows_32 {f : Mm c} {Q b q : ℕ} {e : EltTy} {M : Memref sig .tc .vmem ⟨2, ![1536, Q]⟩ e} (a n : ℕ)
    (h : ∀ i : Fin 48, a ≤ i → (i : ℕ) < a + n → Rng T f M (32 * (i : ℕ)) 32 b q) : Rng T f M (32 * a) (32 * n) b q :=
  fun r l g1 g2 g3 g4 => h ⟨(r : ℕ) / 32, by omega⟩ (by show a ≤ (r : ℕ) / 32; omega) (by show (r : ℕ) / 32 < _; omega) r l
    (by show 32 * ((r : ℕ) / 32) ≤ r; omega) (by show (r : ℕ) < 32 * ((r : ℕ) / 32) + 32; omega) g3 g4

/-! ## What the parts leave -/

/-- What a part leaves. -/
def DoneP (T f : Mm c) : Step → Prop
  | .start k => ∀ i, vl f (X k).dst i = vl T (X k).dst i
  | .ln i => LnOk T f i
  | .row i => Rng T f sM ((i : ℕ) / 3) 1 (128 * ((i : ℕ) % 3)) 128
  | .deq j g => Rng T f wqM (128 * (g : ℕ)) 128 (blk j).co (blk j).w ∧ Rng T f wqM (128 * ((g : ℕ) + 4)) 128 (blk j).co (blk j).w
  | .q j => Rng T f klM 0 1 (blk j).co (blk j).w ∧ Rng T f dyM 0 1536 (blk j).co (blk j).w
  | _ => True

/-- No transfer writes a buffer of intermediate values. -/
theorem dst_loose : ∀ k, dstR k ≠ stM.view.ref ∧ dstR k ≠ yM.view.ref := by decide +kernel
/-- No transfer reads a buffer of intermediate values. -/
theorem src_loose : ∀ k, srcR k ≠ stM.view.ref ∧ srcR k ≠ yM.view.ref := by decide +kernel

/-- What a part has left stays as it shall be. -/
theorem DoneP.mono {f f' : Mm c} (hp : Pres T f f') {s : Step} (h : DoneP T f s) : DoneP T f' s := by
  cases s with
  | start k => exact fun i => hp.vl (dst_loose k).1 (dst_loose k).2 (h i)
  | wait k => trivial
  | ln i => exact LnOk.mono hp h
  | row i => exact hp.rng (by decide) (by decide) h
  | yf0 j => trivial
  | yf t j => trivial
  | deq j g => exact ⟨hp.rng (by decide) (by decide) h.1, hp.rng (by decide) (by decide) h.2⟩
  | q j => exact ⟨hp.rng (by decide) (by decide) h.1, hp.rng (by decide) (by decide) h.2⟩

/-- Whether a part adds a tile to the sums of a block. -/
def Step.cnt (j : Fin 6) : Step → ℕ
  | .yf0 j' => if j' = j then 1 else 0
  | .yf _ j' => if j' = j then 1 else 0
  | _ => 0

/-- How many tiles the sums of a block are over. -/
def cntL (j : Fin 6) (L : List Step) : ℕ := (L.map (Step.cnt j)).sum

/-- The parts that a part relies on. -/
def Step.pre : Step → List Step
  | .start k => if k = 18 then (List.finRange 48).map .ln else if k = 19 then (List.finRange 12).map .row else if k = 20 then (List.finRange 6).map .q else []
  | .wait _ => []
  | .ln i => [.start 0, .start 1, .start 2, .start 3, .start ⟨5 + (tileOf i : ℕ), by omega⟩]
  | .row i => (List.finRange 4).map fun u : Fin 4 => .ln ⟨4 * (i : ℕ) + u, by omega⟩
  | .yf0 j => .start ⟨11 + (j : ℕ), by omega⟩ :: (List.finRange 8).map fun u : Fin 8 => .ln ⟨u, by omega⟩
  | .yf t j => .start ⟨11 + (j : ℕ), by omega⟩ :: (List.finRange 8).map fun u : Fin 8 => .ln ⟨8 * (t : ℕ) + u, by omega⟩
  | .deq _ _ => [.start 17, .start 4]
  | .q j => (List.finRange 48).map .ln ++ (List.finRange 4).map (.deq j)

/-- The number of tiles that a part relies on. -/
def Step.num (L : List Step) : Step → Bool
  | .start k => decide ((k : ℕ) ≤ 20)
  | .yf0 j => decide (cntL j L = 0)
  | .yf t j => decide (cntL j L = (t : ℕ)) && decide ((t : ℕ) ≠ 0)
  | .q j => decide (cntL j L = 6)
  | _ => true

/-- Whether each of the parts finds what it relies on. -/
def chkL : List Step → List Step → Bool
  | _, [] => true
  | L, s :: l => (s.pre.all fun s' => decide (s' ∈ L)) && s.num L && chkL (s :: L) l

/-- Every part comes after those it relies on. -/
theorem chk_all : chkL [] (stIn ++ (steps1 ++ steps2)) = true := by decide +kernel

/-- The norms rely on the transfers of their rows and of the norms' weights and biases. -/
theorem pre_ln (i : Fin 48) : Step.pre (.ln i) = [.start 0, .start 1, .start 2, .start 3, .start ⟨5 + (tileOf i : ℕ), by omega⟩] := rfl
/-- The scales in a row rely on the norms of their tokens. -/
theorem pre_row (i : Fin 12) : Step.pre (.row i) = (List.finRange 4).map fun u : Fin 4 => .ln ⟨4 * (i : ℕ) + u, by omega⟩ := rfl
/-- The first tile of the float output relies on its weight and the norms of its tokens. -/
theorem pre_yf0 (j : Fin 6) : Step.pre (.yf0 j) = .start ⟨11 + (j : ℕ), by omega⟩ :: (List.finRange 8).map fun u : Fin 8 => .ln ⟨u, by omega⟩ := rfl
/-- A tile of the float output relies on its weight and the norms of its tokens. -/
theorem pre_yf (t j : Fin 6) : Step.pre (.yf t j) = .start ⟨11 + (j : ℕ), by omega⟩ :: (List.finRange 8).map fun u : Fin 8 => .ln ⟨8 * (t : ℕ) + u, by omega⟩ := rfl
/-- The dequantisation relies on the packed weight and its scales. -/
theorem pre_deq (j : Fin 6) (g : Fin 4) : Step.pre (.deq j g) = [.start 17, .start 4] := rfl
/-- A block of the quantised output relies on all norms and on its weight. -/
theorem pre_q (j : Fin 6) : Step.pre (.q j) = (List.finRange 48).map .ln ++ (List.finRange 4).map (.deq j) := rfl
/-- The transfer of the codes relies on all norms. -/
theorem pre_18 : Step.pre (.start 18) = (List.finRange 48).map .ln := rfl
/-- The transfer of the scales relies on all rows of scales. -/
theorem pre_19 : Step.pre (.start 19) = (List.finRange 12).map .row := rfl
/-- The transfer of the divergence relies on all its column blocks. -/
theorem pre_20 : Step.pre (.start 20) = (List.finRange 6).map .q := rfl
/-- The check of a list of parts, by its head. -/
theorem chk_cons (L : List Step) (s : Step) (l : List Step) :
    chkL L (s :: l) = ((s.pre.all fun s' => decide (s' ∈ L)) && s.num L && chkL (s :: L) l) := rfl
/-- The first tile counts for its column block. -/
theorem cnt_yf0 (j j' : Fin 6) : Step.cnt j (.yf0 j') = if j' = j then 1 else 0 := rfl
/-- A further tile counts for its column block. -/
theorem cnt_yf (j t j' : Fin 6) : Step.cnt j (.yf t j') = if j' = j then 1 else 0 := rfl

/-- What holds once the parts `L` have run. -/
structure Inv (I : In) (T : Mm c) (L : List Step) (f : Mm c) : Prop where
  done : ∀ s ∈ L, DoneP T f s
  st : ∀ j, StAt I (cntL j L) (blk j).w (blk j).co f
  src : ∀ k : Fin 26, (k : ℕ) < 18 → ∀ i, vl f (X k).src i = vl T (X k).src i

/-- The running sums of a block stay in a part that adds to no block's. -/
theorem st_kept {s : Step} (hs : ∀ j, s.cnt j = 0) (σ : S Ideal c) : (s.next σ).mem stM.view.ref = σ.mem stM.view.ref := by
  cases s with
  | start k => exact go_ne σ k (dst_loose k).1.symm
  | wait k => rfl
  | ln i =>
    exact (wt_ne _ _ _ _ (by decide)).trans <| (wt_ne _ _ _ _ (by decide)).trans <| (wt_ne _ _ _ _ (by decide)).trans <|
      (wt_ne _ _ _ _ (by decide)).trans (wt_ne _ _ _ _ (by decide))
  | row i => exact wt_ne _ _ _ _ (by decide)
  | yf0 j => exact absurd (hs j) (by simp [cnt_yf0])
  | yf t j => exact absurd (hs j) (by simp [cnt_yf])
  | deq j g => exact (wt_ne _ _ _ _ (by decide)).trans (wt_ne _ _ _ _ (by decide))
  | q j =>
    exact (wt_ne _ _ _ _ (by decide)).trans <| (wt_ne _ _ _ _ (by decide)).trans <| (wt_ne _ _ _ _ (by decide)).trans <| (wt_ne _ _ _ _ (by decide)).trans <|
      (wt_ne _ _ _ _ (by decide)).trans <| (wt_ne _ _ _ _ (by decide)).trans (wt_ne _ _ _ _ (by decide))

/-- The sums of another block of columns stay. -/
theorem st_other {j j' : Fin 6} (h : j ≠ j') {σ : S Ideal c} {t : ℕ} (hs : StAt I t (blk j').w (blk j').co σ.mem) (s : Step)
    (hs' : s = .yf0 j ∨ ∃ u, s = .yf u j) : StAt I t (blk j').w (blk j').co (s.next σ).mem := by
  have sep := blk_sep j j' h
  rcases hs' with rfl | ⟨u, rfl⟩
  · refine hs.mono fun r o h1 h2 => ?_
    show vl (yf0S _ _ _ σ).mem stM (ix2 r o) = _
    unfold yf0S
    rw [vl_out _ _ _ _ _ _ _ (by rintro ⟨_, _, _, _⟩; omega), vl_out _ _ _ _ _ _ _ (by rintro ⟨_, _, _, _⟩; omega),
      vl_out _ _ _ _ _ _ _ (by rintro ⟨_, _, _, _⟩; omega)]
  · refine hs.mono fun r o h1 h2 => ?_
    show vl (yfS _ _ _ u σ).mem stM (ix2 r o) = _
    unfold yfS
    rw [vl_out _ _ _ _ _ _ _ (by rintro ⟨_, _, _, _⟩; omega), vl_out _ _ _ _ _ _ _ (by rintro ⟨_, _, _, _⟩; omega)]

section Reads
variable {L : List Step} {f : Mm c}

/-- A tile of the tokens. -/
theorem Inv.x (h : Inv I T L f) (t : Fin 6) (hm : Step.start ⟨5 + (t : ℕ), by omega⟩ ∈ L) : Rng T f xM (256 * (t : ℕ)) 256 0 1024 := by
  have hk : 5 + (t : ℕ) < 26 := by omega
  have : ∀ i, vl f (X ⟨5 + (t : ℕ), hk⟩).dst i = vl T (X ⟨5 + (t : ℕ), hk⟩).dst i := h.done _ hm
  rw [X_x] at this
  intro r l g1 g2 g3 g4
  have hi : (hfR t).emb (ix2 ⟨(r : ℕ) - 256 * (t : ℕ), by omega⟩ l) = ix2 r l := by
    refine (box_emb _ _ _ _).trans (congrArg₂ ix2 (Fin.ext ?_) (Fin.ext ?_))
    · show 256 * (t : ℕ) + ((r : ℕ) - 256 * (t : ℕ)) = r
      omega
    · show 0 + (l : ℕ) = l
      omega
  have e := (vl_slice f xM (hfR t) (fun _ => rfl) _).symm.trans ((this (ix2 ⟨(r : ℕ) - 256 * (t : ℕ), by omega⟩ l)).trans (vl_slice T xM (hfR t) (fun _ => rfl) _))
  rw [hi] at e
  exact e

/-- A block of columns of the float weight. -/
theorem Inv.w (h : Inv I T L f) (j : Fin 6) (hm : Step.start ⟨11 + (j : ℕ), by omega⟩ ∈ L) : Rng T f wrM 0 1024 (blk j).co (blk j).w := by
  have hk : 11 + (j : ℕ) < 26 := by omega
  have : ∀ i, vl f (X ⟨11 + (j : ℕ), hk⟩).dst i = vl T (X ⟨11 + (j : ℕ), hk⟩).dst i := h.done _ hm
  rw [X_w] at this
  intro r l g1 g2 g3 g4
  obtain ⟨l', hl, rfl⟩ := col_of (blk j).hc l g3 g4
  have hi : (wrR (blk j).co (blk j).hc).emb (ix2 r l') = ix2 r ⟨(blk j).co + (l' : ℕ), hl⟩ := by
    refine (box_emb _ _ _ _).trans (congrArg₂ ix2 (Fin.ext ?_) rfl)
    show 0 + (r : ℕ) = r
    omega
  have e := (vl_slice f wrM (wrR (blk j).co (blk j).hc) (fun _ => rfl) _).symm.trans
    ((this (ix2 r l')).trans (vl_slice T wrM (wrR (blk j).co (blk j).hc) (fun _ => rfl) _))
  rw [hi] at e
  exact e

/-- The norms of `n` groups of rows. -/
theorem Inv.ln (h : Inv I T L f) {a n : ℕ} (hm : ∀ i : Fin 48, a ≤ i → (i : ℕ) < a + n → Step.ln i ∈ L) :
    Rng T f nM (32 * a) (32 * n) 0 1024 ∧ Rng T f hfM (32 * a) (32 * n) 0 1024 ∧ Rng T f aM (32 * a) (32 * n) 0 1024
      ∧ Rng T f a8M (32 * a) (32 * n) 0 1024 ∧ Rng T f sbM (32 * a) (32 * n) 0 128 := by
  have g : ∀ i : Fin 48, a ≤ i → (i : ℕ) < a + n → LnOk T f i := fun i h1 h2 => h.done _ (hm i h1 h2)
  exact ⟨rows_32 a n fun i h1 h2 => (g i h1 h2).1, rows_32 a n fun i h1 h2 => (g i h1 h2).2.1, rows_32 a n fun i h1 h2 => (g i h1 h2).2.2.1,
    rows_32 a n fun i h1 h2 => (g i h1 h2).2.2.2.1, rows_32 a n fun i h1 h2 => (g i h1 h2).2.2.2.2⟩

/-- A block of columns of the dequantised weight. -/
theorem Inv.wq (h : Inv I T L f) (j : Fin 6) (hm : ∀ g, Step.deq j g ∈ L) : Rng T f wqM 0 1024 (blk j).co (blk j).w := by
  intro r o g1 g2 g3 g4
  by_cases hr : (r : ℕ) < 512
  · exact (h.done _ (hm ⟨(r : ℕ) / 128, by omega⟩)).1 r o (by show 128 * ((r : ℕ) / 128) ≤ r; omega) (by show (r : ℕ) < 128 * ((r : ℕ) / 128) + 128; omega) g3 g4
  · exact (h.done _ (hm ⟨(r : ℕ) / 128 - 4, by omega⟩)).2 r o (by show 128 * ((r : ℕ) / 128 - 4 + 4) ≤ r; omega)
      (by show (r : ℕ) < 128 * ((r : ℕ) / 128 - 4 + 4) + 128; omega) g3 g4

end Reads

/-- The blocks but the last are 512 wide. -/
theorem blk_eq : ∀ i : Fin 5, (blk ⟨(i : ℕ), by omega⟩).co = 512 * (i : ℕ) ∧ (blk ⟨(i : ℕ), by omega⟩).w = 512 := by decide

/-- The block that a column lies in. -/
theorem blk_of (o : Fin 2816) : ∃ j : Fin 6, (blk j).co ≤ o ∧ (o : ℕ) < (blk j).co + (blk j).w := by
  by_cases h : (o : ℕ) < 2560
  · have : (o : ℕ) / 512 < 5 := by omega
    refine ⟨⟨(o : ℕ) / 512, by omega⟩, ?_⟩
    have := blk_eq ⟨(o : ℕ) / 512, this⟩
    dsimp only at this
    rw [this.1, this.2]
    omega
  · refine ⟨5, ?_⟩
    show 2560 ≤ (o : ℕ) ∧ (o : ℕ) < 2560 + 256
    omega

/-- Rows and columns of all blocks. -/
theorem rng_blk {f : Mm c} {sp : Space} {P : ℕ} {e : EltTy} {M : Memref sig .tc sp ⟨2, ![P, 2816]⟩ e} {a p : ℕ}
    (h : ∀ j, Rng T f M a p (blk j).co (blk j).w) : Rng T f M a p 0 2816 := fun r o g1 g2 _ _ => by
  obtain ⟨j, h1, h2⟩ := blk_of o
  exact h j r o g1 g2 h1 h2

/-- A part that finds what it relies on leaves what it shall. -/
theorem step_ok (hT : Tgt I T) (hF : I.Finite) {L : List Step} (s : Step) (σ : S Ideal c) (h : Inv I T L σ.mem)
    (hp : ∀ s' ∈ s.pre, s' ∈ L) (hn : s.num L = true) :
    Pres T σ.mem (s.next σ).mem ∧ DoneP T (s.next σ).mem s ∧ ∀ j, StAt I (s.cnt j + cntL j L) (blk j).w (blk j).co (s.next σ).mem := by
  have keep : (∀ j, s.cnt j = 0) → ∀ j, StAt I (s.cnt j + cntL j L) (blk j).w (blk j).co (s.next σ).mem := fun hs j => by
    rw [hs j, Nat.zero_add]
    refine (h.st j).mono fun r o _ _ => ?_
    unfold vl
    rw [st_kept hs σ]
  have add : ∀ j₀, (s = .yf0 j₀ ∨ ∃ u, s = .yf u j₀) → StAt I (1 + cntL j₀ L) (blk j₀).w (blk j₀).co (s.next σ).mem →
      ∀ j, StAt I (s.cnt j + cntL j L) (blk j).w (blk j).co (s.next σ).mem := fun j₀ hs h₀ j => by
    by_cases hj : j₀ = j
    · subst hj
      rcases hs with rfl | ⟨u, rfl⟩ <;> simpa [cnt_yf0, cnt_yf] using h₀
    · have : s.cnt j = 0 := by rcases hs with rfl | ⟨u, rfl⟩ <;> simp [cnt_yf0, cnt_yf, hj]
      rw [this, Nat.zero_add]
      exact st_other hj (h.st j) s hs
  cases s with
  | start k =>
    have : ∀ i, vl σ.mem (X k).src i = vl T (X k).src i := by
      by_cases hk : (k : ℕ) < 18
      · exact h.src k hk
      · have hk' : (k : ℕ) ≤ 20 := of_decide_eq_true hn
        have : k = 18 ∨ k = 19 ∨ k = 20 := by
          rcases (by omega : (k : ℕ) = 18 ∨ (k : ℕ) = 19 ∨ (k : ℕ) = 20) with e | e | e
          exacts [.inl (Fin.ext e), .inr (.inl (Fin.ext e)), .inr (.inr (Fin.ext e))]
        rcases this with rfl | rfl | rfl
        · have := h.ln (a := 0) (n := 48) fun i _ _ => hp _ (by simp [pre_18, pre_19, pre_20])
          exact all_rng this.2.2.2.1
        · have hr : ∀ i : Fin 12, DoneP T σ.mem (.row i) := fun i => h.done _ (hp _ (by simp [pre_18, pre_19, pre_20]))
          refine all_rng (M := sM) fun r l _ _ _ _ => ?_
          exact hr ⟨3 * (r : ℕ) + (l : ℕ) / 128, by omega⟩ r l (by show (3 * (r : ℕ) + (l : ℕ) / 128) / 3 ≤ r; omega)
            (by show (r : ℕ) < (3 * (r : ℕ) + (l : ℕ) / 128) / 3 + 1; omega) (by show 128 * ((3 * (r : ℕ) + (l : ℕ) / 128) % 3) ≤ l; omega)
            (by show (l : ℕ) < 128 * ((3 * (r : ℕ) + (l : ℕ) / 128) % 3) + 128; omega)
        · have hr : ∀ i : Fin 6, DoneP T σ.mem (.q i) := fun i => h.done _ (hp _ (by simp [pre_18, pre_19, pre_20]))
          exact all_rng (M := klM) (rng_blk fun j => (hr j).1)
    have g := go_ok (T := T) σ k fun i => (this i).trans (hT.cp k i)
    exact ⟨g.1, g.2, keep fun _ => rfl⟩
  | wait k => exact ⟨Pres.refl _ _, trivial, keep fun _ => rfl⟩
  | ln i =>
    have hx := h.x (tileOf i) (hp _ (by simp [pre_ln]))
    have r0 : Rng T σ.mem g0M 0 1 0 1024 := rng_all (h.done (.start 0) (hp _ (by simp [pre_ln]))) _ _ _ _
    have r1 : Rng T σ.mem gM 0 1 0 1024 := rng_all (h.done (.start 1) (hp _ (by simp [pre_ln]))) _ _ _ _
    have r2 : Rng T σ.mem b0M 0 1 0 1024 := rng_all (h.done (.start 2) (hp _ (by simp [pre_ln]))) _ _ _ _
    have r3 : Rng T σ.mem bM 0 1 0 1024 := rng_all (h.done (.start 3) (hp _ (by simp [pre_ln]))) _ _ _ _
    have g := ln_ok hT i σ (hx.sub (by show 256 * ((i : ℕ) / 8) ≤ _; omega) (by show _ ≤ 256 * ((i : ℕ) / 8) + _; omega) (le_refl _) (le_refl _)) r0 r1 r2 r3
    exact ⟨g.1, g.2, keep fun _ => rfl⟩
  | row i =>
    have := h.ln (a := 4 * (i : ℕ)) (n := 4) fun u h1 h2 => hp _ (by
      simp only [pre_row, List.mem_map, List.mem_finRange, true_and]
      exact ⟨⟨u - 4 * (i : ℕ), by omega⟩, congrArg Step.ln (Fin.ext (by show 4 * (i : ℕ) + ((u : ℕ) - 4 * (i : ℕ)) = u; omega))⟩)
    have g := row_ok hT i σ (this.2.2.2.2.sub (by omega) (by omega) (le_refl _) (le_refl _))
    exact ⟨g.1, g.2, keep fun _ => rfl⟩
  | yf0 j =>
    have := h.ln (a := 0) (n := 8) fun u h1 h2 => hp _ (by
      simp only [pre_yf0, List.mem_cons, List.mem_map, List.mem_finRange, true_and]
      exact .inr ⟨⟨u, by omega⟩, rfl⟩)
    have hw := h.w j (hp _ (by simp [pre_yf0]))
    have h0 : cntL j L = 0 := of_decide_eq_true hn
    have g := yf0_ok (blk j).W (blk_w j) (blk j).co (blk j).hc hT σ this.2.1 hw
    exact ⟨(wt_loose σ stM _ _ (.inl rfl)).trans <| (wt_loose _ stM _ _ (.inl rfl)).trans (wt_loose _ stM _ _ (.inl rfl)), trivial,
      add j (.inl rfl) (by rw [h0]; exact g)⟩
  | yf t j =>
    have := h.ln (a := 8 * (t : ℕ)) (n := 8) fun u h1 h2 => hp _ (by
      simp only [pre_yf, List.mem_cons, List.mem_map, List.mem_finRange, true_and]
      exact .inr ⟨⟨u - 8 * (t : ℕ), by omega⟩, congrArg Step.ln (Fin.ext (by show 8 * (t : ℕ) + ((u : ℕ) - 8 * (t : ℕ)) = u; omega))⟩)
    have hw := h.w j (hp _ (by simp [pre_yf]))
    have hn : cntL j L = (t : ℕ) ∧ (t : ℕ) ≠ 0 := by
      have := (Bool.and_eq_true _ _).mp hn
      exact ⟨of_decide_eq_true this.1, of_decide_eq_true this.2⟩
    have hst := h.st j
    rw [hn.1] at hst
    have g := yf_ok (blk j).W (blk_w j) (blk j).co (blk j).hc hT t σ (this.2.1.sub (by omega) (by omega) (le_refl _) (le_refl _)) hw hn.2 hst
    exact ⟨(wt_loose _ stM _ _ (.inl rfl)).trans (wt_loose _ stM _ _ (.inl rfl)), trivial,
      add j (.inr ⟨t, rfl⟩) (by rw [hn.1, Nat.add_comm]; exact g)⟩
  | deq j g =>
    have r0 : Rng T σ.mem wpM 0 512 0 2816 := rng_all (h.done (.start 17) (hp _ (by simp [pre_deq]))) _ _ _ _
    have r1 : Rng T σ.mem wsM 0 8 0 2816 := rng_all (h.done (.start 4) (hp _ (by simp [pre_deq]))) _ _ _ _
    have g := deq_ok (blk j).W (blk_w j) (blk j).co (blk j).hc hT g σ r0 r1
    exact ⟨g.1, g.2, keep fun _ => rfl⟩
  | q j =>
    have hl := h.ln (a := 0) (n := 48) fun i _ _ => hp _ (by simp [pre_q])
    have hq := h.wq j fun g => hp _ (by simp [pre_q])
    have hn : cntL j L = 6 := of_decide_eq_true hn
    have hst := h.st j
    rw [hn] at hst
    have g := q_ok (blk j).W (blk_w j) (blk j).co (blk j).hc hT hF ⟨(j : ℕ) % 2, Nat.mod_lt _ (by decide)⟩ σ ⟨hl.2.2.2.2, hl.2.2.1, hq⟩ hst
    exact ⟨g.1, g.2, keep fun _ => rfl⟩

/-- Along a checked sequence. -/
theorem inv_nexts (hT : Tgt I T) (hF : I.Finite) (l : List Step) {L : List Step} {σ : S Ideal c} (h : Inv I T L σ.mem) (hc : chkL L l = true) :
    Inv I T (l.reverse ++ L) (nexts l σ).mem := by
  induction l generalizing L σ with
  | nil => exact h
  | cons s l ih =>
    simp only [chk_cons, Bool.and_eq_true, List.all_eq_true, decide_eq_true_eq] at hc
    obtain ⟨hp, hd, hs⟩ := step_ok hT hF s σ h hc.1.1 hc.1.2
    have : Inv I T (s :: L) (s.next σ).mem := by
      refine ⟨fun s' hs' => ?_, fun j => ?_, fun k hk i => hp.vl (src_loose k).1 (src_loose k).2 (h.src k hk i)⟩
      · rcases List.mem_cons.1 hs' with rfl | hm
        · exact hd
        · exact DoneP.mono hp (h.done _ hm)
      · simpa [cntL] using hs j
    have := ih this hc.2
    rw [List.reverse_cons, List.append_assoc]
    exact this

/-- After the norms and the outputs. -/
theorem inv_mid (hT : Tgt I T) (hF : I.Finite) {σ : S Ideal c} (h : ∀ k : Fin 26, (k : ℕ) < 18 → ∀ i, vl σ.mem (X k).src i = vl T (X k).src i) :
    Inv I T ((stIn ++ (steps1 ++ steps2)).reverse ++ []) (midS σ).mem := by
  have : midS σ = nexts (stIn ++ (steps1 ++ steps2)) σ := by
    unfold midS nexts
    rw [List.foldl_append, List.foldl_append]
  rw [this]
  exact inv_nexts hT hF _ ⟨fun s hs => absurd hs (by simp), fun j => .inl rfl, h⟩ chk_all

end Cert.KernelIdeal.Tweak

end
-- ==== Proof.Target.lean ====
/-
  Hand-written, untrusted. Memory as it shall be, built from a memory that the kernel is entered with.
-/
module

public import proofs.«01_k».proof.Proof.Inv

@[expose] public section

set_option maxRecDepth 16384

noncomputable section

namespace Cert.KernelIdeal.Tweak

open Idealize.ShloMosaic Idealize.ShloMosaic.TcCoe Cert.Spec Cert.KernelIdeal
open Cert.Machine

variable {c : Dev nD}

/-- A memory with a buffer's contents replaced. -/
def setM (f : Mm c) {sp : Space} {s : Shape} {e : EltTy} (M : Memref sig .tc sp s e) (w : s.Idx → Elt Ideal e) : Mm c :=
  Function.update f M.view.ref (M.view.write (Elt Ideal) (f M.view.ref) w Finset.univ)

/-- A buffer that is replaced has the new contents. -/
theorem vl_set (f : Mm c) {sp : Space} {s : Shape} {e : EltTy} (M : Memref sig .tc sp s e) (w : s.Idx → Elt Ideal e) (i : s.Idx) : vl (setM f M w) M i = w i := by
  unfold vl setM
  rw [Function.update_self]
  exact congrFun (View.read_write_univ (v := M.view) _ _) i

/-- A buffer that is not replaced has its contents. -/
theorem vl_set_ne (f : Mm c) {sp sp' : Space} {s s' : Shape} {e e' : EltTy} (M : Memref sig .tc sp s e) (w : s.Idx → Elt Ideal e) (M' : Memref sig .tc sp' s' e')
    (i : s'.Idx) (h : M'.view.ref ≠ M.view.ref) : vl (setM f M w) M' i = vl f M' i := by
  unfold vl setM
  rw [Function.update_of_ne h]

/-! ## The buffers in the main memory -/

abbrev a0H : Memref sig .tc .hbm S1536x1024 .bf16 := Memref.whole main_v0
abbrev a1H : Memref sig .tc .hbm S1x1024 .f32 := Memref.whole main_v1
abbrev a2H : Memref sig .tc .hbm S1x1024 .f32 := Memref.whole main_v2
abbrev a3H : Memref sig .tc .hbm S1x1024 .f32 := Memref.whole main_v3
abbrev a4H : Memref sig .tc .hbm S1x1024 .f32 := Memref.whole main_v4
abbrev a5H : Memref sig .tc .hbm S1024x2816 .bf16 := Memref.whole main_arg5
abbrev a6H : Memref sig .tc .hbm S512x2816 .i8 := Memref.whole main_arg6
abbrev a7H : Memref sig .tc .hbm S8x2816 .f32 := Memref.whole main_arg7
abbrev o0H : Memref sig .tc .hbm S1x2816 .f32 := Memref.whole main_v5_0
abbrev o1H : Memref sig .tc .hbm S1x1024 .f32 := Memref.whole main_v5_1
abbrev o2H : Memref sig .tc .hbm S1x1024 .f32 := Memref.whole main_v5_2
abbrev o3H : Memref sig .tc .hbm S1536x1024 .f32 := Memref.whole main_v5_3
abbrev o4H : Memref sig .tc .hbm S1536x1024 .i8 := Memref.whole main_v5_4
abbrev o5H : Memref sig .tc .hbm S4x384 .f32 := Memref.whole main_v5_5

/-- The arguments in a memory. -/
def argsOf (f : Mm c) : In where
  x r l := vl f a0H (ix2 r l)
  g0 l := vl f a1H (ix2 0 l)
  g l := vl f a2H (ix2 0 l)
  b0 l := vl f a3H (ix2 0 l)
  b l := vl f a4H (ix2 0 l)
  wr k o := vl f a5H (ix2 k o)
  wp k o := vl f a6H (ix2 k o)
  ws k o := vl f a7H (ix2 k o)

/-- A function of a row and a column as an array. -/
abbrev arr {p q : ℕ} {α : Type} (g : Fin p → Fin q → α) : (⟨2, ![p, q]⟩ : Shape).Idx → α := fun i => g (i 0) (i 1)

/-- Memory as it shall be: the results, -/
def tgtO (I : In) (f : Mm c) : Mm c :=
  setM (setM (setM (setM (setM (setM f
    o0H (arr fun _ o => I.klS o)) o1H (arr fun _ l => I.dg l)) o2H (arr fun _ l => I.db l)) o3H (arr fun r l => I.dh r l)) o4H (arr fun r l => I.code r l))
    o5H (arr fun (p : Fin 4) (q : Fin 384) => I.s ⟨(p : ℕ) * 384 + q, by omega⟩)
/-- the copies of the arguments, -/
def tgtA (I : In) (f : Mm c) : Mm c :=
  setM (setM (setM (setM (setM (setM (setM (setM (tgtO I f)
    xM (vl f a0H)) g0M (vl f a1H)) gM (vl f a2H)) b0M (vl f a3H)) bM (vl f a4H)) wrM (vl f a5H)) wpM (vl f a6H)) wsM (vl f a7H)
/-- and what is computed. -/
def tgt (I : In) (f : Mm c) : Mm c :=
  setM (setM (setM (setM (setM (setM (setM (setM (setM (setM (setM (setM (tgtA I f)
    nM (arr fun r l => I.n r l)) hfM (arr fun r l => I.hf r l)) aM (arr fun r l => I.q r l)) a8M (arr fun r l => I.code r l)) sbM (arr fun r _ => I.s r))
    sM (arr fun (p : Fin 4) (q : Fin 384) => I.s ⟨(p : ℕ) * 384 + q, by omega⟩)) wqM (arr fun k o => I.w k o)) klM (arr fun _ o => I.klS o))
    dyM (arr fun r o => I.dy r o)) dhM (arr fun r l => I.dh r l)) dgM (arr fun _ l => I.dg l)) dbM (arr fun _ l => I.db l)

/-- A row's index is zero. -/
theorem row0 {q : ℕ} (z : Fin 1) (l : Fin q) : ix2 z l = ix2 0 l := by rw [Subsingleton.elim z 0]

/-- The buffers that no part computes and that are not results stay, for instance the arguments. -/
theorem tgt_arg (I : In) (f : Mm c) {sp : Space} {s : Shape} {e : EltTy} (M : Memref sig .tc sp s e)
    (h : M.view.ref ∉ [o0H.view.ref, o1H.view.ref, o2H.view.ref, o3H.view.ref, o4H.view.ref, o5H.view.ref, xM.view.ref, g0M.view.ref, gM.view.ref,
      b0M.view.ref, bM.view.ref, wrM.view.ref, wpM.view.ref, wsM.view.ref, nM.view.ref, hfM.view.ref, aM.view.ref, a8M.view.ref, sbM.view.ref, sM.view.ref,
      wqM.view.ref, klM.view.ref, dyM.view.ref, dhM.view.ref, dgM.view.ref, dbM.view.ref]) (i : s.Idx) : vl (tgt I f) M i = vl f M i := by
  simp only [List.mem_cons, not_or] at h
  obtain ⟨h1, h2, h3, h4, h5, h6, h7, h8, h9, h10, h11, h12, h13, h14, h15, h16, h17, h18, h19, h20, h21, h22, h23, h24, h25, h26, -⟩ := h
  unfold tgt tgtA tgtO
  rw [vl_set_ne _ _ _ _ _ h26, vl_set_ne _ _ _ _ _ h25, vl_set_ne _ _ _ _ _ h24, vl_set_ne _ _ _ _ _ h23, vl_set_ne _ _ _ _ _ h22, vl_set_ne _ _ _ _ _ h21,
    vl_set_ne _ _ _ _ _ h20, vl_set_ne _ _ _ _ _ h19, vl_set_ne _ _ _ _ _ h18, vl_set_ne _ _ _ _ _ h17, vl_set_ne _ _ _ _ _ h16, vl_set_ne _ _ _ _ _ h15,
    vl_set_ne _ _ _ _ _ h14, vl_set_ne _ _ _ _ _ h13, vl_set_ne _ _ _ _ _ h12, vl_set_ne _ _ _ _ _ h11, vl_set_ne _ _ _ _ _ h10, vl_set_ne _ _ _ _ _ h9,
    vl_set_ne _ _ _ _ _ h8, vl_set_ne _ _ _ _ _ h7, vl_set_ne _ _ _ _ _ h6, vl_set_ne _ _ _ _ _ h5, vl_set_ne _ _ _ _ _ h4, vl_set_ne _ _ _ _ _ h3,
    vl_set_ne _ _ _ _ _ h2, vl_set_ne _ _ _ _ _ h1]

section Reads
variable (I : In) (f : Mm c)

/-- The buffer of the tokens as it shall be. -/
theorem tg_x (i) : vl (tgt I f) xM i = vl f a0H i := by unfold tgt tgtA; simp (discharger := decide) only [vl_set, vl_set_ne]
/-- The buffer of the float norm's weight as it shall be. -/
theorem tg_g0 (i) : vl (tgt I f) g0M i = vl f a1H i := by unfold tgt tgtA; simp (discharger := decide) only [vl_set, vl_set_ne]
/-- The buffer of the tweaked norm's weight as it shall be. -/
theorem tg_g (i) : vl (tgt I f) gM i = vl f a2H i := by unfold tgt tgtA; simp (discharger := decide) only [vl_set, vl_set_ne]
/-- The buffer of the float norm's bias as it shall be. -/
theorem tg_b0 (i) : vl (tgt I f) b0M i = vl f a3H i := by unfold tgt tgtA; simp (discharger := decide) only [vl_set, vl_set_ne]
/-- The buffer of the tweaked norm's bias as it shall be. -/
theorem tg_b (i) : vl (tgt I f) bM i = vl f a4H i := by unfold tgt tgtA; simp (discharger := decide) only [vl_set, vl_set_ne]
/-- The buffer of the float weight as it shall be. -/
theorem tg_wr (i) : vl (tgt I f) wrM i = vl f a5H i := by unfold tgt tgtA; simp (discharger := decide) only [vl_set, vl_set_ne]
/-- The buffer of the packed weight as it shall be. -/
theorem tg_wp (i) : vl (tgt I f) wpM i = vl f a6H i := by unfold tgt tgtA; simp (discharger := decide) only [vl_set, vl_set_ne]
/-- The buffer of the weight's scales as it shall be. -/
theorem tg_ws (i) : vl (tgt I f) wsM i = vl f a7H i := by unfold tgt tgtA; simp (discharger := decide) only [vl_set, vl_set_ne]
/-- The buffer of the normalised tokens as it shall be. -/
theorem tg_n (i) : vl (tgt I f) nM i = I.n (i 0) (i 1) := by unfold tgt; simp (discharger := decide) only [vl_set, vl_set_ne]
/-- The buffer of the float norm's output as it shall be. -/
theorem tg_hf (i) : vl (tgt I f) hfM i = I.hf (i 0) (i 1) := by unfold tgt; simp (discharger := decide) only [vl_set, vl_set_ne]
/-- The buffer of the codes as numbers as it shall be. -/
theorem tg_a (i) : vl (tgt I f) aM i = I.q (i 0) (i 1) := by unfold tgt; simp (discharger := decide) only [vl_set, vl_set_ne]
/-- The buffer of the codes as bytes as it shall be. -/
theorem tg_a8 (i) : vl (tgt I f) a8M i = I.code (i 0) (i 1) := by unfold tgt; simp (discharger := decide) only [vl_set, vl_set_ne]
/-- The buffer of the scales' rows as it shall be. -/
theorem tg_sb (i) : vl (tgt I f) sbM i = I.s (i 0) := by unfold tgt; simp (discharger := decide) only [vl_set, vl_set_ne]
/-- The buffer of the scales as it shall be. -/
theorem tg_s (i) : vl (tgt I f) sM i = arr (fun (p : Fin 4) (q : Fin 384) => I.s ⟨(p : ℕ) * 384 + q, by omega⟩) i := by
  unfold tgt; simp (discharger := decide) only [vl_set, vl_set_ne]
/-- The buffer of the dequantised weight as it shall be. -/
theorem tg_wq (i) : vl (tgt I f) wqM i = I.w (i 0) (i 1) := by unfold tgt; simp (discharger := decide) only [vl_set, vl_set_ne]
/-- The buffer of the divergence as it shall be. -/
theorem tg_kl (i) : vl (tgt I f) klM i = I.klS (i 1) := by unfold tgt; simp (discharger := decide) only [vl_set, vl_set_ne]
/-- The buffer of the derivative by the output as it shall be. -/
theorem tg_dy (i) : vl (tgt I f) dyM i = I.dy (i 0) (i 1) := by unfold tgt; simp (discharger := decide) only [vl_set, vl_set_ne]
/-- The buffer of the token derivative as it shall be. -/
theorem tg_dh (i) : vl (tgt I f) dhM i = I.dh (i 0) (i 1) := by unfold tgt; simp (discharger := decide) only [vl_set, vl_set_ne]
/-- The buffer of the derivative by the norm's weight as it shall be. -/
theorem tg_dg (i) : vl (tgt I f) dgM i = I.dg (i 1) := by unfold tgt; simp (discharger := decide) only [vl_set, vl_set_ne]
/-- The buffer of the derivative by the norm's bias as it shall be. -/
theorem tg_db (i) : vl (tgt I f) dbM i = I.db (i 1) := by unfold tgt; simp (discharger := decide) only [vl_set, vl_set_ne]
/-- The result of the divergence as it shall be. -/
theorem tg_o0 (i) : vl (tgt I f) o0H i = I.klS (i 1) := by unfold tgt tgtA tgtO; simp (discharger := decide) only [vl_set, vl_set_ne]
/-- The result of the derivative by the norm's weight as it shall be. -/
theorem tg_o1 (i) : vl (tgt I f) o1H i = I.dg (i 1) := by unfold tgt tgtA tgtO; simp (discharger := decide) only [vl_set, vl_set_ne]
/-- The result of the derivative by the norm's bias as it shall be. -/
theorem tg_o2 (i) : vl (tgt I f) o2H i = I.db (i 1) := by unfold tgt tgtA tgtO; simp (discharger := decide) only [vl_set, vl_set_ne]
/-- The result of the token derivative as it shall be. -/
theorem tg_o3 (i) : vl (tgt I f) o3H i = I.dh (i 0) (i 1) := by unfold tgt tgtA tgtO; simp (discharger := decide) only [vl_set, vl_set_ne]
/-- The result of the codes as it shall be. -/
theorem tg_o4 (i) : vl (tgt I f) o4H i = I.code (i 0) (i 1) := by unfold tgt tgtA tgtO; simp (discharger := decide) only [vl_set, vl_set_ne]
/-- The result of the scales as it shall be. -/
theorem tg_o5 (i) : vl (tgt I f) o5H i = arr (fun (p : Fin 4) (q : Fin 384) => I.s ⟨(p : ℕ) * 384 + q, by omega⟩) i := by
  unfold tgt tgtA tgtO; simp (discharger := decide) only [vl_set, vl_set_ne]

end Reads

/-- What a transfer reads, among the arguments, is as it was. -/
theorem tgt_src (I : In) (f : Mm c) : ∀ k : Fin 26, (k : ℕ) < 18 → ∀ i, vl f (X k).src i = vl (tgt I f) (X k).src i := by
  have h : ∀ k : Fin 26, (k : ℕ) < 18 → srcR k ∉ [o0H.view.ref, o1H.view.ref, o2H.view.ref, o3H.view.ref, o4H.view.ref, o5H.view.ref, xM.view.ref, g0M.view.ref,
      gM.view.ref, b0M.view.ref, bM.view.ref, wrM.view.ref, wpM.view.ref, wsM.view.ref, nM.view.ref, hfM.view.ref, aM.view.ref, a8M.view.ref, sbM.view.ref,
      sM.view.ref, wqM.view.ref, klM.view.ref, dyM.view.ref, dhM.view.ref, dgM.view.ref, dbM.view.ref] := by decide +kernel
  exact fun k hk i => (tgt_arg I f (X k).src (h k hk) i).symm

/-- A transfer's two ends agree. -/
theorem tgt_cp (I : In) (f : Mm c) : ∀ k i, vl (tgt I f) (X k).src i = vl (tgt I f) (X k).dst i := by
  have hx : ∀ t : Fin 6, ∀ i, vl (tgt I f) (xX t).src i = vl (tgt I f) (xX t).dst i := fun t i => by
    refine (vl_slice (tgt I f) a0H (hfR t) (fun _ => rfl) i).trans (Eq.trans ?_ (vl_slice (tgt I f) xM (hfR t) (fun _ => rfl) i).symm)
    rw [tg_x, tgt_arg I f a0H (by decide)]
  have hw : ∀ {w : ℕ} (j : Fin 6) (co : ℕ) (hc : co + w ≤ 2816), ∀ i, vl (tgt I f) (xW j co hc).src i = vl (tgt I f) (xW j co hc).dst i := fun j co hc i => by
    refine (vl_slice (tgt I f) a5H (wrR co hc) (fun _ => rfl) i).trans (Eq.trans ?_ (vl_slice (tgt I f) wrM (wrR co hc) (fun _ => rfl) i).symm)
    rw [tg_wr, tgt_arg I f a5H (by decide)]
  have ho : ∀ m : Fin 3, ∀ i, vl (tgt I f) (xO m).src i = vl (tgt I f) (xO m).dst i := fun m i => by
    refine (vl_slice (tgt I f) dhM (aT m) (fun _ => rfl) i).trans (Eq.trans ?_ (vl_slice (tgt I f) o3H (aT m) (fun _ => rfl) i).symm)
    rw [tg_dh, tg_o3]
  intro k
  fin_cases k
  · exact fun i => (tgt_arg I f a1H (by decide) i).trans (tg_g0 I f i).symm
  · exact fun i => (tgt_arg I f a2H (by decide) i).trans (tg_g I f i).symm
  · exact fun i => (tgt_arg I f a3H (by decide) i).trans (tg_b0 I f i).symm
  · exact fun i => (tgt_arg I f a4H (by decide) i).trans (tg_b I f i).symm
  · exact fun i => (tgt_arg I f a7H (by decide) i).trans (tg_ws I f i).symm
  · exact hx 0
  · exact hx 1
  · exact hx 2
  · exact hx 3
  · exact hx 4
  · exact hx 5
  · exact hw (w := 512) 0 0 (by decide)
  · exact hw (w := 512) 1 512 (by decide)
  · exact hw (w := 512) 2 1024 (by decide)
  · exact hw (w := 512) 3 1536 (by decide)
  · exact hw (w := 512) 4 2048 (by decide)
  · exact hw (w := 256) 5 2560 (by decide)
  · exact fun i => (tgt_arg I f a6H (by decide) i).trans (tg_wp I f i).symm
  · exact fun i => (tg_a8 I f i).trans (tg_o4 I f i).symm
  · exact fun i => (tg_s I f i).trans (tg_o5 I f i).symm
  · exact fun i => (tg_kl I f i).trans (tg_o0 I f i).symm
  · exact ho 0
  · exact ho 1
  · exact ho 2
  · exact fun i => (tg_dg I f i).trans (tg_o1 I f i).symm
  · exact fun i => (tg_db I f i).trans (tg_o2 I f i).symm

/-- The memory built so is as it shall be. -/
theorem tgt_ok (f : Mm c) : Tgt (argsOf f) (tgt (argsOf f) f) where
  x r l := tg_x _ f _
  g0 z l := by rw [row0]; exact tg_g0 _ f _
  g z l := by rw [row0]; exact tg_g _ f _
  b0 z l := by rw [row0]; exact tg_b0 _ f _
  b z l := by rw [row0]; exact tg_b _ f _
  wr k o := tg_wr _ f _
  wp k o := tg_wp _ f _
  ws k o := tg_ws _ f _
  n r l := tg_n _ f _
  hf r l := tg_hf _ f _
  a r l := tg_a _ f _
  a8 r l := tg_a8 _ f _
  sb r l := tg_sb _ f _
  s p q := tg_s _ f _
  wq k o := tg_wq _ f _
  kl z o := tg_kl _ f _
  dy r o := tg_dy _ f _
  dh r l := tg_dh _ f _
  dg z l := tg_dg _ f _
  db z l := tg_db _ f _
  cp := tgt_cp _ f

end Cert.KernelIdeal.Tweak

end
-- ==== Proof.Tail.lean ====
/-
  Hand-written, untrusted. The last part: the derivative by the norm's output, and the sums over the tokens.
-/
module

public import proofs.«01_k».proof.Proof.Inv

@[expose] public section

set_option maxRecDepth 16384

noncomputable section

namespace Cert.KernelIdeal.Tweak

open Idealize.ShloMosaic Idealize.ShloMosaic.TcCoe Cert.Spec Cert.KernelIdeal
open Cert.Machine
open Facts₀ Facts

variable {c : Dev nD} {I : In} {T : Mm c}

/-- What the last part relies on. -/
structure Before (T f : Mm c) : Prop where
  dy : Rng T f dyM 0 1536 0 2816
  wq : Rng T f wqM 0 1024 0 2816
  n : Rng T f nM 0 1536 0 1024

/-- What the last part relies on stays as it shall be. -/
theorem Before.mono {f f' : Mm c} (hp : Pres T f f') (h : Before T f) : Before T f' :=
  ⟨hp.rng (by decide) (by decide) h.dy, hp.rng (by decide) (by decide) h.wq, hp.rng (by decide) (by decide) h.n⟩

/-- A block of the derivative. -/
theorem dhOf_at (hT : Tgt I T) (m : Fin 3) (cc : Fin 2) (σ : S Ideal c) (h : Before T σ.mem) (r l : Fin 512) :
    dhOf m cc σ (ix2 r l) = I.dh ⟨512 * (m : ℕ) + r, by omega⟩ ⟨512 * (cc : ℕ) + l, by omega⟩ := by
  have h1 : ∀ (r : Fin 512) (o : Fin 2816), rd σ dyM (dyR m) (ix2 r o) = I.dy ⟨512 * (m : ℕ) + r, by omega⟩ o := fun r o =>
    (h.dy.rd _ _ (Nat.zero_le _) (by omega) (le_refl _) (le_refl _) r o).trans ((hT.dy _ _).trans (congrArg (I.dy _) (Fin.ext (Nat.zero_add _))))
  have h2 : ∀ (r : Fin 512) (o : Fin 2816), rd σ wqM (wqH cc) (ix2 r o) = I.w ⟨512 * (cc : ℕ) + r, by omega⟩ o := fun r o =>
    (h.wq.rd _ _ (Nat.zero_le _) (by omega) (le_refl _) (le_refl _) r o).trans ((hT.wq _ _).trans (congrArg (I.w _) (Fin.ext (Nat.zero_add _))))
  unfold dhOf
  refine (dhV_at _ _ r l).trans ?_
  unfold In.dh
  exact Finset.sum_congr rfl fun o _ => congrArg₂ (· * ·) (h1 r o) (h2 l o)

/-- A block of the normalised rows. -/
theorem nOf_at (hT : Tgt I T) (m : Fin 3) (cc : Fin 2) (σ : S Ideal c) (h : Before T σ.mem) (r l : Fin 512) :
    rd σ nM (dhR m cc) (ix2 r l) = I.n ⟨512 * (m : ℕ) + r, by omega⟩ ⟨512 * (cc : ℕ) + l, by omega⟩ :=
  (h.n.rd _ _ (Nat.zero_le _) (by omega) (Nat.zero_le _) (by omega) r l).trans (hT.n _ _)

/-- A block of the derivative stored. -/
theorem dhS_ok (hT : Tgt I T) (m : Fin 3) (cc : Fin 2) (σ : S Ideal c) (h : Before T σ.mem) :
    Pres T σ.mem (dhS m cc σ).mem ∧ Rng T (dhS m cc σ).mem dhM (512 * (m : ℕ)) 512 (512 * (cc : ℕ)) 512 := by
  unfold dhS
  exact wt_ok σ dhM _ _ _ fun r l => (congrFun (shapeCast_self _ _) _).trans ((dhOf_at hT m cc σ h r l).trans (hT.dh _ _).symm)

/-- 512 rows of the derivative copied out. -/
theorem go_dh (hT : Tgt I T) (m : Fin 3) (k : Fin 26) (hk : X k = xO m) (σ : S Ideal c) (h0 : Rng T σ.mem dhM (512 * (m : ℕ)) 512 (512 * ((0 : Fin 2) : ℕ)) 512)
    (h1 : Rng T σ.mem dhM (512 * (m : ℕ)) 512 (512 * ((1 : Fin 2) : ℕ)) 512) :
    Pres T σ.mem (go σ k).mem ∧ ∀ i, vl (go σ k).mem (X k).dst i = vl T (X k).dst i := by
  refine go_ok σ k fun i => ?_
  have : ∀ i, vl σ.mem (X k).src i = vl T (X k).src i := by
    rw [hk]
    suffices key : ∀ i : (⟨2, ![512, 1024]⟩ : Shape).Idx, vl σ.mem (dhM.slice (aT m) (fun _ => rfl)) i = vl T (dhM.slice (aT m) (fun _ => rfl)) i from key
    intro i
    obtain ⟨r, l, rfl⟩ : ∃ (r : Fin 512) (l : Fin 1024), i = ix2 r l := ⟨i 0, i 1, eq_ix2 i⟩
    refine (vl_slice σ.mem dhM (aT m) (fun _ => rfl) _).trans (Eq.trans ?_ (vl_slice T dhM (aT m) (fun _ => rfl) _).symm)
    rw [box_emb]
    have e0 : ((0 : Fin 2) : ℕ) = 0 := rfl
    have e1 : ((1 : Fin 2) : ℕ) = 1 := rfl
    rw [e0] at h0
    rw [e1] at h1
    by_cases hl : (l : ℕ) < 512
    · exact h0 _ _ (by show 512 * (m : ℕ) ≤ 512 * (m : ℕ) + r; omega) (by show 512 * (m : ℕ) + (r : ℕ) < _; omega) (by show _ ≤ 0 + (l : ℕ); omega)
        (by show 0 + (l : ℕ) < _; omega)
    · exact h1 _ _ (by show 512 * (m : ℕ) ≤ 512 * (m : ℕ) + r; omega) (by show 512 * (m : ℕ) + (r : ℕ) < _; omega) (by show _ ≤ 0 + (l : ℕ); omega)
        (by show 0 + (l : ℕ) < _; omega)
  exact (this i).trans (hT.cp k i)

/-- The sum over the tokens from the folds of its three blocks. -/
theorem tot_sum (f : ℕ → EReal) (l : Fin 512) (a b d : FVec Ideal ⟨2, ![512, 512]⟩ .f32) (ha : ∀ r, a (ix2 r l) = f r) (hb : ∀ r : Fin 512, b (ix2 r l) = f (512 + r))
    (hd : ∀ r : Fin 512, d (ix2 r l) = f (1024 + r)) (z : Fin 1) :
    sum8 w512 (tot3 (fold512 w512 a) (fold512 w512 b) (fold512 w512 d)) (ix2 z l) = ∑ i : Fin 1536, f i := by
  rw [sum8_at w512 (.inl rfl), ← sum_512]
  refine Finset.sum_congr rfl fun k _ => ?_
  rw [tot3_at (.inl rfl), fold512_at w512 (.inl rfl), fold512_at w512 (.inl rfl), fold512_at w512 (.inl rfl)]
  exact congrArg₂ (· + ·) (congrArg₂ (· + ·) (Finset.sum_congr rfl fun j _ => ha _) (Finset.sum_congr rfl fun j _ => hb _)) (Finset.sum_congr rfl fun j _ => hd _)

/-- A row of 512 sums stored. -/
theorem dgS_ok (M : Memref sig .tc .vmem S1x1024 .f32) (cc : Fin 2) (t : FVec Ideal S8x512 .f32) (σ : S Ideal c)
    (h : ∀ (z : Fin 1) (l : Fin 512), sum8 w512 t (ix2 z l) = vl T M (ix2 z ⟨512 * (cc : ℕ) + l, by omega⟩)) :
    Pres T σ.mem (dgS M cc t σ).mem ∧ Rng T (dgS M cc t σ).mem M 0 1 (512 * (cc : ℕ)) 512 := by
  unfold dgS
  exact wt_ok σ M _ _ _ fun z l => (congrFun (shapeCast_self _ _) _).trans ((h z l).trans (by
    congr 2
    exact Fin.ext (by show (z : ℕ) = 0 + (z : ℕ); omega)))

/-- A natural number as a token. -/
def tok (f : Fin 1536 → EReal) (i : ℕ) : EReal := if h : i < 1536 then f ⟨i, h⟩ else 0
/-- A value by a token's number, for a number in range. -/
theorem tok_lt (f : Fin 1536 → EReal) {i : ℕ} (h : i < 1536) : tok f i = f ⟨i, h⟩ := dif_pos h
/-- The sum by the tokens' numbers is the sum over the tokens. -/
theorem sum_tok (f : Fin 1536 → EReal) : ∑ i : Fin 1536, tok f i = ∑ i, f i := Finset.sum_congr rfl fun i _ => tok_lt f i.2

/-- A row of sums of which both halves agree. -/
theorem half {f : Mm c} {M : Memref sig .tc .vmem S1x1024 .f32} (h0 : Rng T f M 0 1 (512 * ((0 : Fin 2) : ℕ)) 512)
    (h1 : Rng T f M 0 1 (512 * ((1 : Fin 2) : ℕ)) 512) : ∀ i, vl f M i = vl T M i := by
  have e0 : ((0 : Fin 2) : ℕ) = 0 := rfl
  have e1 : ((1 : Fin 2) : ℕ) = 1 := rfl
  rw [e0] at h0
  rw [e1] at h1
  refine all_rng fun r l g1 g2 g3 g4 => ?_
  by_cases hl : (l : ℕ) < 512
  · exact h0 r l (by omega) (by omega) (by omega) (by omega)
  · exact h1 r l (by omega) (by omega) (by omega) (by omega)

/-- The last part stores and copies out what it shall, and nothing that agrees is lost. -/
theorem tail_ok (hT : Tgt I T) (σ : S Ideal c) (h : Before T σ.mem) :
    Pres T σ.mem (tailS σ).mem ∧ ∀ k : Fin 26, 21 ≤ (k : ℕ) → ∀ i, vl (tailS σ).mem (X k).dst i = vl T (X k).dst i := by
  obtain ⟨p00, q00⟩ := dhS_ok hT 0 0 σ h
  have b00 : Before T (e00 σ).mem := h.mono p00
  obtain ⟨p01, q01⟩ := dhS_ok hT 0 1 (e00 σ) b00
  have b01 : Before T (e01 σ).mem := b00.mono p01
  obtain ⟨g0, k0⟩ := go_dh hT 0 21 rfl (e01 σ) (p01.rng (by decide) (by decide) q00) q01
  have c0 : Before T (go (e01 σ) 21).mem := b01.mono g0
  obtain ⟨p10, q10⟩ := dhS_ok hT 1 0 (go (e01 σ) 21) c0
  have b10 : Before T (e10 σ).mem := c0.mono p10
  obtain ⟨p11, q11⟩ := dhS_ok hT 1 1 (e10 σ) b10
  have b11 : Before T (e11 σ).mem := b10.mono p11
  obtain ⟨g1, k1⟩ := go_dh hT 1 22 rfl (e11 σ) (p11.rng (by decide) (by decide) q10) q11
  have c1 : Before T (go (e11 σ) 22).mem := b11.mono g1
  obtain ⟨p20, q20⟩ := dhS_ok hT 2 0 (go (e11 σ) 22) c1
  have b20 : Before T (e20 σ).mem := c1.mono p20
  obtain ⟨p21, q21⟩ := dhS_ok hT 2 1 (e20 σ) b20
  have b21 : Before T (e21 σ).mem := b20.mono p21
  obtain ⟨g2, k2⟩ := go_dh hT 2 23 rfl (e21 σ) (p21.rng (by decide) (by decide) q20) q21
  -- the blocks of the derivative and of its product with the normalised rows
  have db : ∀ (cc : Fin 2) (l : Fin 512) (m : Fin 3) (s : S Ideal c), Before T s.mem → ∀ r : Fin 512,
      dhOf m cc s (ix2 r l) = tok (fun i => I.dh i ⟨512 * (cc : ℕ) + l, by omega⟩) (512 * (m : ℕ) + r) := fun cc l m s hs r => by
    rw [tok_lt _ (by omega)]
    exact dhOf_at hT m cc s hs r l
  have dg : ∀ (cc : Fin 2) (l : Fin 512) (m : Fin 3) (s s' : S Ideal c), Before T s.mem → Before T s'.mem → ∀ r : Fin 512,
      mulf (dhOf m cc s) (rd s' nM (dhR m cc)) (ix2 r l)
        = tok (fun i => I.dh i ⟨512 * (cc : ℕ) + l, by omega⟩ * I.n i ⟨512 * (cc : ℕ) + l, by omega⟩) (512 * (m : ℕ) + r) := fun cc l m s s' hs hs' r => by
    rw [tok_lt _ (by omega)]
    show dhOf m cc s (ix2 r l) * rd s' nM (dhR m cc) (ix2 r l) = _
    rw [dhOf_at hT m cc s hs r l, nOf_at hT m cc s' hs' r l]
  have z0 : ∀ (f : ℕ → EReal) (r : Fin 512), f (512 * ((0 : Fin 3) : ℕ) + r) = f r := fun f r => by
    rw [show 512 * ((0 : Fin 3) : ℕ) + (r : ℕ) = r from by show 512 * 0 + (r : ℕ) = r; omega]
  have s1 := dgS_ok (T := T) dgM 0 (tot3 (fold512 w512 (mulf (d00 σ) (n00 σ))) (fold512 w512 (mulf (d10 σ) (n10 σ))) (fold512 w512 (mulf (d20 σ) (n20 σ)))) (go (e21 σ) 23)
    fun z l => (tot_sum _ l _ _ _ (fun r => (dg 0 l 0 _ _ h b00 r).trans (z0 _ r)) (fun r => dg 0 l 1 _ _ c0 b10 r) (fun r => dg 0 l 2 _ _ c1 b20 r) z).trans ((sum_tok _).trans (hT.dg z _).symm)
  have s2 := dgS_ok (T := T) dbM 0 (tot3 (fold512 w512 (d00 σ)) (fold512 w512 (d10 σ)) (fold512 w512 (d20 σ)))
    (dgS dgM 0 (tot3 (fold512 w512 (mulf (d00 σ) (n00 σ))) (fold512 w512 (mulf (d10 σ) (n10 σ))) (fold512 w512 (mulf (d20 σ) (n20 σ)))) (go (e21 σ) 23))
    fun z l => (tot_sum _ l _ _ _ (fun r => (db 0 l 0 _ h r).trans (z0 _ r)) (fun r => db 0 l 1 _ c0 r) (fun r => db 0 l 2 _ c1 r) z).trans ((sum_tok _).trans (hT.db z _).symm)
  have s3 := dgS_ok (T := T) dgM 1 (tot3 (fold512 w512 (mulf (d01 σ) (n01 σ))) (fold512 w512 (mulf (d11 σ) (n11 σ))) (fold512 w512 (mulf (d21 σ) (n21 σ))))
    (dgS dbM 0 (tot3 (fold512 w512 (d00 σ)) (fold512 w512 (d10 σ)) (fold512 w512 (d20 σ)))
      (dgS dgM 0 (tot3 (fold512 w512 (mulf (d00 σ) (n00 σ))) (fold512 w512 (mulf (d10 σ) (n10 σ))) (fold512 w512 (mulf (d20 σ) (n20 σ)))) (go (e21 σ) 23)))
    fun z l => (tot_sum _ l _ _ _ (fun r => (dg 1 l 0 _ _ b00 b01 r).trans (z0 _ r)) (fun r => dg 1 l 1 _ _ b10 b11 r) (fun r => dg 1 l 2 _ _ b20 b21 r) z).trans ((sum_tok _).trans (hT.dg z _).symm)
  have s4 := dgS_ok (T := T) dbM 1 (tot3 (fold512 w512 (d01 σ)) (fold512 w512 (d11 σ)) (fold512 w512 (d21 σ)))
    (dgS dgM 1 (tot3 (fold512 w512 (mulf (d01 σ) (n01 σ))) (fold512 w512 (mulf (d11 σ) (n11 σ))) (fold512 w512 (mulf (d21 σ) (n21 σ))))
      (dgS dbM 0 (tot3 (fold512 w512 (d00 σ)) (fold512 w512 (d10 σ)) (fold512 w512 (d20 σ)))
        (dgS dgM 0 (tot3 (fold512 w512 (mulf (d00 σ) (n00 σ))) (fold512 w512 (mulf (d10 σ) (n10 σ))) (fold512 w512 (mulf (d20 σ) (n20 σ)))) (go (e21 σ) 23))))
    fun z l => (tot_sum _ l _ _ _ (fun r => (db 1 l 0 _ b00 r).trans (z0 _ r)) (fun r => db 1 l 1 _ b10 r) (fun r => db 1 l 2 _ b20 r) z).trans ((sum_tok _).trans (hT.db z _).symm)
  have ps : Pres T (go (e21 σ) 23).mem (sumS σ).mem := s1.1.trans (s2.1.trans (s3.1.trans s4.1))
  have rg : ∀ i, vl (sumS σ).mem dgM i = vl T dgM i :=
    half (s4.1.rng (by decide) (by decide) (s3.1.rng (by decide) (by decide) (s2.1.rng (by decide) (by decide) s1.2))) (s4.1.rng (by decide) (by decide) s3.2)
  have rb : ∀ i, vl (sumS σ).mem dbM i = vl T dbM i := half (s4.1.rng (by decide) (by decide) (s3.1.rng (by decide) (by decide) s2.2)) s4.2
  obtain ⟨g4, k4⟩ := go_ok (T := T) (sumS σ) 24 fun i => (rg i).trans (hT.cp 24 i)
  obtain ⟨g5, k5⟩ := go_ok (T := T) (go (sumS σ) 24) 25 fun i => (g4.vl (M := dbM) (by decide) (by decide) (rb i)).trans (hT.cp 25 i)
  have e : (tailS σ).mem = (go (go (sumS σ) 24) 25).mem := rfl
  rw [e]
  have pe : Pres T (go (e21 σ) 23).mem (go (go (sumS σ) 24) 25).mem := ps.trans (g4.trans g5)
  have p2 : Pres T (go (e11 σ) 22).mem (go (go (sumS σ) 24) 25).mem := p20.trans (p21.trans (g2.trans pe))
  have p1 : Pres T (go (e01 σ) 21).mem (go (go (sumS σ) 24) 25).mem := p10.trans (p11.trans (g1.trans p2))
  refine ⟨p00.trans (p01.trans (g0.trans p1)), fun k hk => ?_⟩
  have : k = 21 ∨ k = 22 ∨ k = 23 ∨ k = 24 ∨ k = 25 := by
    rcases (by omega : (k : ℕ) = 21 ∨ (k : ℕ) = 22 ∨ (k : ℕ) = 23 ∨ (k : ℕ) = 24 ∨ (k : ℕ) = 25) with e | e | e | e | e
    exacts [.inl (Fin.ext e), .inr (.inl (Fin.ext e)), .inr (.inr (.inl (Fin.ext e))), .inr (.inr (.inr (.inl (Fin.ext e)))), .inr (.inr (.inr (.inr (Fin.ext e))))]
  rcases this with rfl | rfl | rfl | rfl | rfl
  · exact fun i => p1.vl (dst_loose 21).1 (dst_loose 21).2 (k0 i)
  · exact fun i => p2.vl (dst_loose 22).1 (dst_loose 22).2 (k1 i)
  · exact fun i => pe.vl (dst_loose 23).1 (dst_loose 23).2 (k2 i)
  · exact fun i => g5.vl (dst_loose 24).1 (dst_loose 24).2 (k4 i)
  · exact k5

/-- All norms come before the last part. -/
theorem mem_ln : ∀ i, Step.ln i ∈ (stIn ++ (steps1 ++ steps2)).reverse ++ [] := by decide +kernel
/-- All of the weight is dequantised before the last part. -/
theorem mem_deq : ∀ j g, Step.deq j g ∈ (stIn ++ (steps1 ++ steps2)).reverse ++ [] := by decide +kernel
/-- All column blocks of the quantised output come before the last part. -/
theorem mem_q : ∀ j, Step.q j ∈ (stIn ++ (steps1 ++ steps2)).reverse ++ [] := by decide +kernel
/-- All transfers but the last five have been started before the last part. -/
theorem mem_start : ∀ k : Fin 26, (k : ℕ) < 21 → Step.start k ∈ (stIn ++ (steps1 ++ steps2)).reverse ++ [] := by decide +kernel

/-- Each result as it shall be. -/
theorem end_ok (hT : Tgt I T) (hF : I.Finite) {σ : S Ideal c} (h : ∀ k : Fin 26, (k : ℕ) < 18 → ∀ i, vl σ.mem (X k).src i = vl T (X k).src i) (k : Fin 26) :
    ∀ i, vl (endS σ).mem (X k).dst i = vl T (X k).dst i := by
  have hm := inv_mid hT hF h
  have hq : ∀ j, DoneP T (midS σ).mem (.q j) := fun j => hm.done _ (mem_q j)
  obtain ⟨hp, ho⟩ := tail_ok hT (midS σ) ⟨rng_blk fun j => (hq j).2, rng_blk fun j => hm.wq j (mem_deq j), (hm.ln (a := 0) (n := 48) fun i _ _ => mem_ln i).1⟩
  by_cases hk : (k : ℕ) < 21
  · exact fun i => hp.vl (dst_loose k).1 (dst_loose k).2 (hm.done _ (mem_start k hk) i)
  · exact ho k (by omega)

end Cert.KernelIdeal.Tweak

end
-- ==== Proof.RefValue.lean ====
/-
  Hand-written, untrusted. The reference's whole arrays, read at an index as the mathematics of Spec.lean.
-/
module

public import proofs.«01_k».proof.Proof.Spec
public import proofs.«01_k».proof.Proof.Gen.ReferenceIdeal.Skeleton

@[expose] public section

set_option maxRecDepth 16384

noncomputable section

namespace Cert.ReferenceIdeal.Value

open Idealize.ShloMosaic Cert.Spec Cert.ReferenceIdeal Cert.ReferenceIdeal.Gen
open Facts₀ Facts

/-- The normalised tokens, at an index. -/
theorem pay2_at (x : Vec Ideal S1536x1024 .bf16) (r : Fin 1536) (l : Fin 1024) : k0_pay2 x (ix2 r l) = nrm (fun k => x (ix2 r k)) l := by
  pointwise [k0_pay2, nrm, cen, rowMean]
/-- The affine map of a norm, at an index. -/
theorem pay4_at (x : Vec Ideal S1536x1024 .bf16) (g b : Vec Ideal S1x1024 .f32) (r : Fin 1536) (l : Fin 1024) :
    k0_pay4 x g b (ix2 r l) = aff (fun k => x (ix2 r k)) (fun k => g (ix2 0 k)) (fun k => b (ix2 0 k)) l := by
  pointwise [k0_pay4, aff]
  rw [pay2_at]
/-- The float output, at an index. -/
theorem pay3_at (x : Vec Ideal S1536x1024 .bf16) (g b : Vec Ideal S1x1024 .f32) (wr : Vec Ideal S1024x2816 .bf16) (r : Fin 1536) (o : Fin 2816) :
    k0_pay3 x g b wr (ix2 r o) = ∑ k, aff (fun k => x (ix2 r k)) (fun k => g (ix2 0 k)) (fun k => b (ix2 0 k)) k * wr (ix2 k o) := by
  pointwise [k0_pay3, aff]
  simp only [pay2_at]
/-- The largest magnitude of a row, at an index. -/
theorem pay5_at (x : Vec Ideal S1536x1024 .bf16) (g b : Vec Ideal S1x1024 .f32) (r : Fin 1536) (z : Fin 1) :
    k0_pay5 x g b (ix2 r z) = amax (aff (fun k => x (ix2 r k)) (fun k => g (ix2 0 k)) (fun k => b (ix2 0 k))) := by
  pointwise [k0_pay5, amax]
  simp only [pay4_at]
  rfl
/-- The scale of a row, at an index. -/
theorem pay6_at (a : FVec Ideal S1536x1 .f32) (r : Fin 1536) (z : Fin 1) : k0_pay6 a (ix2 r z) = scl (a (ix2 r 0)) := by
  obtain rfl : z = 0 := Subsingleton.elim _ _
  pointwise [k0_pay6, scl]
/-- The codes, at an index. -/
theorem pay7_at (h : FVec Ideal S1536x1024 .f32) (a : FVec Ideal S1536x1 .f32) (r : Fin 1536) (l : Fin 1024) :
   k0_pay7 h a (ix2 r l) = Ideal.fptosi 8 (min (ofInt 127) (max (ofInt (-127)) (Ideal.liftRound Ideal.roundHalfEven (Ideal.div (h (ix2 r l)) (scl (a (ix2 r 0))))))) := by
  pointwise [k0_pay7]
  rw [pay6_at]
  rfl
/-- The scales as an array by batch, at an index. -/
theorem pay8_at (a : FVec Ideal S1536x1 .f32) (p : Fin 4) (q : Fin 384) : k0_pay8 a (ix2 p q) = scl (a (ix2 ⟨(p : ℕ) * 384 + q, by omega⟩ 0)) := by
  pointwise [k0_pay8]
  rw [pay6_at]
/-- The scales of the weight's first half repeated over the groups, at an index. -/
theorem pay10_at (ws : Vec Ideal S8x2816 .f32) (k : Fin 512) (o : Fin 2816) : k0_pay10 ws (ix2 k o) = ws (ix2 ⟨(k : ℕ) / 128, by omega⟩ o) := by
  pointwise [k0_pay10]
/-- The scales of the weight's second half repeated over the groups, at an index. -/
theorem pay11_at (ws : Vec Ideal S8x2816 .f32) (k : Fin 512) (o : Fin 2816) : k0_pay11 ws (ix2 k o) = ws (ix2 ⟨4 + (k : ℕ) / 128, by omega⟩ o) := by
  pointwise [k0_pay11]
/-- The dequantised weight of the lower nibbles, at an index. -/
theorem pay13_at (v : Vec Ideal S512x2816 .i8) (s : FVec Ideal S512x2816 .bf16) (k : Fin 512) (o : Fin 2816) : k0_pay13 s (k0_pay12 (F := Ideal) v) (ix2 k o) = nlo (v (ix2 k o)) * s (ix2 k o) := by
  pointwise [k0_pay13, k0_pay12, k0_pay9, nlo, sgn]
  try rfl
/-- The dequantised weight of the upper nibbles, at an index. -/
theorem pay14_at (v : Vec Ideal S512x2816 .i8) (s : FVec Ideal S512x2816 .bf16) (k : Fin 512) (o : Fin 2816) : k0_pay14 (k0_pay9 (F := Ideal) v) s (ix2 k o) = nhi (v (ix2 k o)) * s (ix2 k o) := by
  pointwise [k0_pay14, k0_pay9, nhi, sgn]
  try rfl
/-- The quantised output, at an index. -/
theorem pay15_at (s : FVec Ideal S1536x1 .f32) (c : IVec S1536x1024 8) (v61 : IVec S512x2816 32) (v67 v73 : FVec Ideal S512x2816 .bf16) (v80 : IVec S512x2816 32) (r : Fin 1536) (o : Fin 2816) :
    k0_pay15 s c v61 v67 v73 v80 (ix2 r o) =
    ((∑ k : Fin 512, ofInt (c (ix2 r ⟨k, by omega⟩)).toInt * k0_pay13 v67 v80 (ix2 k o)) + ∑ k : Fin 512, ofInt (c (ix2 r ⟨(k : ℕ) + 512, by omega⟩)).toInt * k0_pay14 v61 v73 (ix2 k o)) * s (ix2 r 0) := by
  pointwise [k0_pay15]
  try rfl
/-- The mean of the float output, at an index. -/
theorem pay16_at (y : FVec Ideal S1536x2816 .f32) (z : Fin 1) (o : Fin 2816) : k0_pay16 y (ix2 z o) = colMean fun r => y (ix2 r o) := by
  pointwise [k0_pay16, colMean]
/-- The variance of the float output, at an index. -/
theorem pay17_at (y : FVec Ideal S1536x2816 .f32) (z : Fin 1) (o : Fin 2816) : k0_pay17 y (ix2 z o) = colVar fun r => y (ix2 r o) := by
  pointwise [k0_pay17, colVar, colMean]
  simp only [pay16_at]
  try rfl
section
variable (s : FVec Ideal S1536x1 .f32) (c : IVec S1536x1024 8) (v61 : IVec S512x2816 32) (v67 v73 : FVec Ideal S512x2816 .bf16) (v80 : IVec S512x2816 32)
/-- The mean of the quantised output, at an index. -/
theorem pay18_at (z : Fin 1) (o : Fin 2816) : k0_pay18 s c v61 v67 v73 v80 (ix2 z o) = colMean fun r => k0_pay15 s c v61 v67 v73 v80 (ix2 r o) := by
  pointwise [k0_pay18, colMean]
/-- The quantised output less its mean, at an index. -/
theorem pay19_at (r : Fin 1536) (o : Fin 2816) : k0_pay19 s c v61 v67 v73 v80 (ix2 r o) = k0_pay15 s c v61 v67 v73 v80 (ix2 r o) - colMean fun r => k0_pay15 s c v61 v67 v73 v80 (ix2 r o) := by
  pointwise [k0_pay19]
  rw [pay18_at]
/-- The variance of the quantised output, at an index. -/
theorem pay20_at (z : Fin 1) (o : Fin 2816) : k0_pay20 s c v61 v67 v73 v80 (ix2 z o) = colVar fun r => k0_pay15 s c v61 v67 v73 v80 (ix2 r o) := by
  pointwise [k0_pay20, colVar]
  simp only [pay19_at]
  try rfl
/-- The squared difference of the means, at an index. -/
theorem pay21_at (y : FVec Ideal S1536x2816 .f32) (z : Fin 1) (o : Fin 2816) : k0_pay21 y s c v61 v67 v73 v80 (ix2 z o) =
   ((colMean fun r => y (ix2 r o)) - (colMean fun r => k0_pay15 s c v61 v67 v73 v80 (ix2 r o))) * ((colMean fun r => y (ix2 r o)) - (colMean fun r => k0_pay15 s c v61 v67 v73 v80 (ix2 r o))) := by
  pointwise [k0_pay21]
  rw [pay16_at, pay18_at]
/-- The logarithm of the quotient of the variances, at an index. -/
theorem pay22_at (y : FVec Ideal S1536x2816 .f32) (z : Fin 1) (o : Fin 2816) : k0_pay22 y s c v61 v67 v73 v80 (ix2 z o) =
   Ideal.log (Ideal.div (colVar fun r => k0_pay15 s c v61 v67 v73 v80 (ix2 r o)) (colVar fun r => y (ix2 r o))) := by
  pointwise [k0_pay22]
  rw [pay17_at, pay20_at]
end
/-- The divergence, at an index. -/
theorem pay23_at (vf vq d l : FVec Ideal S1x2816 .f32) (z : Fin 1) (o : Fin 2816) : k0_pay23 vf vq d l (Scalar.ofBits .f32 0x3F000000#32) (ix2 z o) =
   cb 0x3F000000#32 * l (ix2 z o) + Ideal.div (vf (ix2 z o) + d (ix2 z o)) (cb 0x40000000#32 * vq (ix2 z o)) - cb 0x3F000000#32 := by
  pointwise [k0_pay23]
/-- The token derivative, at an index. -/
theorem pay24_at (wl wh : FVec Ideal S512x2816 .bf16) (mf vf mq : FVec Ideal S1x2816 .f32) (yc : FVec Ideal S1536x2816 .f32) (vq d : FVec Ideal S1x2816 .f32) (r : Fin 1536) (l : Fin 1024) :
   k0_pay24 wl wh mf vf mq yc vq d (ix2 r l) = ∑ o : Fin 2816,
     Ideal.div (gmu (mf (ix2 0 o)) (mq (ix2 0 o)) (vq (ix2 0 o)) + cb 0x40000000#32 * yc (ix2 r o) *
       Ideal.div (Ideal.div (cb 0x3F800000#32) (cb 0x40000000#32 * vq (ix2 0 o)) - Ideal.div (vf (ix2 0 o) + d (ix2 0 o)) (cb 0x40000000#32 * vq (ix2 0 o) * vq (ix2 0 o))) (cb 0x45300000#32)) (cb 0x44C00000#32)
     * (if hl : (l : ℕ) < 512 then wl (ix2 ⟨l, hl⟩ o) else wh (ix2 ⟨(l : ℕ) - 512, by omega⟩ o)) := by
  pointwise [k0_pay24, gmu]
  split <;> rfl
/-- The derivative by the norm's weight, at an index. -/
theorem pay25_at (n : FVec Ideal S1536x1024 .f32) (wl wh : FVec Ideal S512x2816 .bf16) (mf vf mq : FVec Ideal S1x2816 .f32) (yc : FVec Ideal S1536x2816 .f32) (vq d : FVec Ideal S1x2816 .f32) (z : Fin 1) (l : Fin 1024) :
   k0_pay25 n wl wh mf vf mq yc vq d (ix2 z l) = ∑ r, k0_pay24 wl wh mf vf mq yc vq d (ix2 r l) * n (ix2 r l) := by
  pointwise [k0_pay25]
/-- A sum over the tokens, at an index. -/
theorem pay1_at (v : FVec Ideal S1536x1024 .f32) (z : Fin 1) (l : Fin 1024) :
   k0_pay1 v (ix2 z l) = ∑ r, v (ix2 r l) := by
  pointwise [k0_pay1]
end Cert.ReferenceIdeal.Value

end
-- ==== Proof.RefSpec.lean ====
/-
  Hand-written, untrusted. What the reference leaves in its six results is the mathematics of Spec.lean.
-/
module

public import proofs.«01_k».proof.Proof.RefValue
public import proofs.«01_k».proof.Proof.Algebra
public import proofs.«01_k».proof.Proof.Gen.ReferenceIdeal.Frame
public import Idealize.ShloMosaic.Lib.Pipeline.Value

@[expose] public section

set_option maxRecDepth 16384

noncomputable section

namespace Cert.ReferenceIdeal.Value

open Idealize.ShloMosaic Cert.Spec Cert.ReferenceIdeal Cert.ReferenceIdeal.Gen
open Facts₀ Facts

variable (x0 : Vec Ideal S1536x1024 .bf16) (x1 x2 x3 x4 : Vec Ideal S1x1024 .f32) (x5 : Vec Ideal S1024x2816 .bf16)
  (x6 : Vec Ideal S512x2816 .i8) (x7 : Vec Ideal S8x2816 .f32)

/-- The arguments as the mathematics takes them. -/
def inOf : In where
  x r k := x0 (ix2 r k)
  g0 k := x1 (ix2 0 k)
  g k := x2 (ix2 0 k)
  b0 k := x3 (ix2 0 k)
  b k := x4 (ix2 0 k)
  wr k o := x5 (ix2 k o)
  wp k o := x6 (ix2 k o)
  ws k o := x7 (ix2 k o)

/-- A load of a whole array is the array. -/
theorem ld0 (X : S1536x1024.Idx → Elt Ideal .bf16) : View.ld X r0_0 = X := View.ld_unit_zero (by decide) _ _
/-- A load of a whole row is the row. -/
theorem ld1 (X : S1x1024.Idx → Elt Ideal .f32) : View.ld X r0_1 = X := View.ld_unit_zero (by decide) _ _
/-- A load of the whole float weight is the float weight. -/
theorem ld2 (X : S1024x2816.Idx → Elt Ideal .bf16) : View.ld X r0_2 = X := View.ld_unit_zero (by decide) _ _
/-- A load of the whole packed weight is the packed weight. -/
theorem ld4 (X : S512x2816.Idx → Elt Ideal .i8) : View.ld X r0_4 = X := View.ld_unit_zero (by decide) _ _
/-- A load of all scales is the scales. -/
theorem ld5 (X : S8x2816.Idx → Elt Ideal .f32) : View.ld X r0_5 = X := View.ld_unit_zero (by decide) _ _

/-- The reference's float output. -/
theorem yf_at (r : Fin 1536) (o : Fin 2816) : k0_pay26 x0 x1 x2 x3 x4 x5 x6 x7 (ix2 r o) = (inOf x0 x1 x2 x3 x4 x5 x6 x7).yf r o := by
  simp only [k0_pay26, ld0, ld1, ld2]
  rw [pay3_at]; rfl
/-- The reference's tweaked norm. -/
theorem h_at (r : Fin 1536) (l : Fin 1024) : k0_pay27 x0 x1 x2 x3 x4 x5 x6 x7 (ix2 r l) = (inOf x0 x1 x2 x3 x4 x5 x6 x7).h r l := by
  simp only [k0_pay27, ld0, ld1]
  rw [pay4_at]; rfl
/-- Its largest magnitude in each row. -/
theorem amax_at (r : Fin 1536) (z : Fin 1) : k0_pay28 x0 x1 x2 x3 x4 x5 x6 x7 (ix2 r z) = amax ((inOf x0 x1 x2 x3 x4 x5 x6 x7).h r) := by
  simp only [k0_pay28, ld0, ld1]
  rw [pay5_at]; rfl
/-- The reference's scales. -/
theorem s_at (r : Fin 1536) (z : Fin 1) : k0_pay29 x0 x1 x2 x3 x4 x5 x6 x7 (ix2 r z) = (inOf x0 x1 x2 x3 x4 x5 x6 x7).s r := by
  simp only [k0_pay29]
  rw [pay6_at, amax_at]; rfl
/-- The reference's codes. -/
theorem code_at (r : Fin 1536) (l : Fin 1024) : k0_pay30 x0 x1 x2 x3 x4 x5 x6 x7 (ix2 r l) = (inOf x0 x1 x2 x3 x4 x5 x6 x7).code r l := by
  simp only [k0_pay30]
  rw [pay7_at, amax_at, h_at]; rfl
/-- The reference's dequantised weight, first half. -/
theorem wlo_at (k : Fin 512) (o : Fin 2816) : k0_pay13 (k0_pay32 x0 x1 x2 x3 x4 x5 x6 x7) (k0_pay34 x0 x1 x2 x3 x4 x5 x6 x7) (ix2 k o) = (inOf x0 x1 x2 x3 x4 x5 x6 x7).w ⟨k, by omega⟩ o := by
  simp only [k0_pay32, k0_pay34, ld4, ld5]
  rw [pay13_at, pay10_at, In.w, dif_pos (by show (k : ℕ) < 512; omega)]; rfl
/-- The reference's dequantised weight, second half. -/
theorem whi_at (k : Fin 512) (o : Fin 2816) : k0_pay14 (k0_pay31 x0 x1 x2 x3 x4 x5 x6 x7) (k0_pay33 x0 x1 x2 x3 x4 x5 x6 x7) (ix2 k o) = (inOf x0 x1 x2 x3 x4 x5 x6 x7).w ⟨(k : ℕ) + 512, by omega⟩ o := by
  simp only [k0_pay31, k0_pay33, ld4, ld5]
  rw [pay14_at, pay11_at, In.w, dif_neg (by show ¬ (k : ℕ) + 512 < 512; omega)]
  have e1 : (⟨(k : ℕ) + 512 - 512, by omega⟩ : Fin 512) = k := Fin.ext (by simp)
  have e2 : (⟨((k : ℕ) + 512) / 128, by omega⟩ : Fin 8) = ⟨4 + (k : ℕ) / 128, by omega⟩ := Fin.ext (by show _ / _ = 4 + _ / _; omega)
  simp only [e1, e2]
  rfl

/-- The reference's quantised output. -/
theorem yq_at (r : Fin 1536) (o : Fin 2816) : k0_pay15 (k0_pay29 x0 x1 x2 x3 x4 x5 x6 x7) (k0_pay30 x0 x1 x2 x3 x4 x5 x6 x7) (k0_pay31 x0 x1 x2 x3 x4 x5 x6 x7) (k0_pay32 x0 x1 x2 x3 x4 x5 x6 x7) (k0_pay33 x0 x1 x2 x3 x4 x5 x6 x7) (k0_pay34 x0 x1 x2 x3 x4 x5 x6 x7) (ix2 r o) = (inOf x0 x1 x2 x3 x4 x5 x6 x7).yq r o := by
  rw [pay15_at, s_at, In.yq, ← sum_halves]
  simp only [wlo_at x0 x1 x2 x3 x4 x5 x6 x7, whi_at x0 x1 x2 x3 x4 x5 x6 x7, code_at, In.code_q]

/-- Its mean of the float output. -/
theorem muF_at (z : Fin 1) (o : Fin 2816) : k0_pay37 x0 x1 x2 x3 x4 x5 x6 x7 (ix2 z o) = (inOf x0 x1 x2 x3 x4 x5 x6 x7).muF o := by
  simp only [k0_pay37]; rw [pay16_at]; simp only [yf_at]; rfl
/-- Its variance of the float output. -/
theorem vF_at (z : Fin 1) (o : Fin 2816) : k0_pay38 x0 x1 x2 x3 x4 x5 x6 x7 (ix2 z o) = (inOf x0 x1 x2 x3 x4 x5 x6 x7).vF o := by
  simp only [k0_pay38]; rw [pay17_at]; simp only [yf_at]; rfl
/-- Its mean of the quantised output. -/
theorem muQ_at (z : Fin 1) (o : Fin 2816) : k0_pay39 x0 x1 x2 x3 x4 x5 x6 x7 (ix2 z o) = (inOf x0 x1 x2 x3 x4 x5 x6 x7).muQ o := by
  simp only [k0_pay39]; rw [pay18_at]; simp only [yq_at]; rfl
/-- Its quantised output less the mean. -/
theorem yc_at (r : Fin 1536) (o : Fin 2816) : k0_pay40 x0 x1 x2 x3 x4 x5 x6 x7 (ix2 r o) = (inOf x0 x1 x2 x3 x4 x5 x6 x7).yq r o - (inOf x0 x1 x2 x3 x4 x5 x6 x7).muQ o := by
  simp only [k0_pay40]; rw [pay19_at]; simp only [yq_at]; rfl
/-- Its variance of the quantised output. -/
theorem vQ_at (z : Fin 1) (o : Fin 2816) : k0_pay41 x0 x1 x2 x3 x4 x5 x6 x7 (ix2 z o) = (inOf x0 x1 x2 x3 x4 x5 x6 x7).vQ o := by
  simp only [k0_pay41]; rw [pay20_at]; simp only [yq_at]; rfl
/-- Its squared difference of the means. -/
theorem d_at (z : Fin 1) (o : Fin 2816) : k0_pay42 x0 x1 x2 x3 x4 x5 x6 x7 (ix2 z o) = ((inOf x0 x1 x2 x3 x4 x5 x6 x7).muF o - (inOf x0 x1 x2 x3 x4 x5 x6 x7).muQ o) * ((inOf x0 x1 x2 x3 x4 x5 x6 x7).muF o - (inOf x0 x1 x2 x3 x4 x5 x6 x7).muQ o) := by
  simp only [k0_pay42]; rw [pay21_at]; simp only [yf_at, yq_at]; rfl

/-- The first result: the divergence. -/
theorem out8_at (z : Fin 1) (o : Fin 2816) : out0_8 x0 x1 x2 x3 x4 x5 x6 x7 (ix2 z o) = (inOf x0 x1 x2 x3 x4 x5 x6 x7).klS o := by
  rw [out0_8, View.canon_unit_zero (by decide)]
  rw [pay23_at, pay22_at, vF_at, vQ_at, d_at]
  simp only [yf_at, yq_at]; rfl

/-- Its token derivative. -/
theorem dh_at (r : Fin 1536) (l : Fin 1024) :
    k0_pay24 (k0_pay35 x0 x1 x2 x3 x4 x5 x6 x7) (k0_pay36 x0 x1 x2 x3 x4 x5 x6 x7) (k0_pay37 x0 x1 x2 x3 x4 x5 x6 x7) (k0_pay38 x0 x1 x2 x3 x4 x5 x6 x7)
      (k0_pay39 x0 x1 x2 x3 x4 x5 x6 x7) (k0_pay40 x0 x1 x2 x3 x4 x5 x6 x7) (k0_pay41 x0 x1 x2 x3 x4 x5 x6 x7) (k0_pay42 x0 x1 x2 x3 x4 x5 x6 x7) (ix2 r l)
      = (inOf x0 x1 x2 x3 x4 x5 x6 x7).dh r l := by
  rw [pay24_at]
  refine Finset.sum_congr rfl fun o _ => ?_
  rw [muF_at, vF_at, muQ_at, yc_at, vQ_at, d_at]
  refine congrArg₂ (· * ·) rfl ?_
  split
  · simp only [k0_pay35]; rw [wlo_at]
  · rename_i hl
    simp only [k0_pay36]; rw [whi_at]
    exact congrArg (fun k => (inOf x0 x1 x2 x3 x4 x5 x6 x7).w k o) (Fin.ext (by show (l : ℕ) - 512 + 512 = l; omega))

/-- The second: the weight's derivative. -/
theorem out9_at (z : Fin 1) (l : Fin 1024) : out0_9 x0 x1 x2 x3 x4 x5 x6 x7 (ix2 z l) = (inOf x0 x1 x2 x3 x4 x5 x6 x7).dg l := by
  rw [out0_9, View.canon_unit_zero (by decide)]
  rw [pay25_at, ld0]
  simp only [dh_at, pay2_at]; rfl
/-- The third: the bias's derivative. -/
theorem out10_at (z : Fin 1) (l : Fin 1024) : out0_10 x0 x1 x2 x3 x4 x5 x6 x7 (ix2 z l) = (inOf x0 x1 x2 x3 x4 x5 x6 x7).db l := by
  rw [out0_10, View.canon_unit_zero (by decide)]
  rw [pay1_at]
  simp only [dh_at]; rfl
/-- The fourth: the derivative by the norm's output. -/
theorem out11_at (r : Fin 1536) (l : Fin 1024) : out0_11 x0 x1 x2 x3 x4 x5 x6 x7 (ix2 r l) = (inOf x0 x1 x2 x3 x4 x5 x6 x7).dh r l := by
  rw [out0_11, View.canon_unit_zero (by decide)]
  rw [dh_at]
/-- The fifth: the codes. -/
theorem out12_at (r : Fin 1536) (l : Fin 1024) : out0_12 x0 x1 x2 x3 x4 x5 x6 x7 (ix2 r l) = (inOf x0 x1 x2 x3 x4 x5 x6 x7).code r l := by
  rw [out0_12, View.canon_unit_zero (by decide)]
  exact code_at x0 x1 x2 x3 x4 x5 x6 x7 r l
/-- The sixth: the scales. -/
theorem out13_at (p : Fin 4) (q : Fin 384) : out0_13 x0 x1 x2 x3 x4 x5 x6 x7 (ix2 p q) = (inOf x0 x1 x2 x3 x4 x5 x6 x7).s ⟨(p : ℕ) * 384 + q, by omega⟩ := by
  rw [out0_13, View.canon_unit_zero (by decide)]
  rw [pay8_at, amax_at]; rfl

end Cert.ReferenceIdeal.Value

end
-- ==== Proof.RefEnd.lean ====
/-
  Hand-written, untrusted. What the reference's run leaves in its results.
-/
module

public import proofs.«01_k».proof.Proof.RefSpec
public import Idealize.ShloMosaic.Lib.Pipeline.ValueKit
public import Idealize.ShloMosaic.Lib.Claim

@[expose] public section

set_option maxRecDepth 16384

noncomputable section

namespace Cert.ReferenceIdeal.Value

open Idealize.ShloMosaic Idealize.ShloMosaic.TcCoe Cert.Spec
open Cert.ReferenceIdeal Cert.ReferenceIdeal.Gen
open Idealize.ShloMosaic.Pipeline (Dat)

variable (m : (ℓ : Loc nD τ sig) → Buf (Elt Ideal) ℓ) (c : Dev nD)

/-! ## The one block of an argument is the whole of it -/

/-- The tokens as the reference's body reads them. -/
theorem iblk0 : iblk m c 0 t0_0 = V m c main_v0 :=
  Memref.read_access_unit_zero (Elt Ideal) main_v0 (show (fun a => (win0_0.index t0_0) a * main_v0.ty.shape.size a) = fun _ => 0 from
    funext fun a => by fin_cases a <;> decide) (fun a => by fin_cases a <;> decide) _
/-- The float norm's weight as the reference's body reads it. -/
theorem iblk1 : iblk m c 1 t0_0 = V m c main_v1 :=
  Memref.read_access_unit_zero (Elt Ideal) main_v1 (show (fun a => (win0_1.index t0_0) a * main_v1.ty.shape.size a) = fun _ => 0 from
    funext fun a => by fin_cases a <;> decide) (fun a => by fin_cases a <;> decide) _
/-- The tweaked norm's weight as the reference's body reads it. -/
theorem iblk2 : iblk m c 2 t0_0 = V m c main_v2 :=
  Memref.read_access_unit_zero (Elt Ideal) main_v2 (show (fun a => (win0_2.index t0_0) a * main_v2.ty.shape.size a) = fun _ => 0 from
    funext fun a => by fin_cases a <;> decide) (fun a => by fin_cases a <;> decide) _
/-- The float norm's bias as the reference's body reads it. -/
theorem iblk3 : iblk m c 3 t0_0 = V m c main_v3 :=
  Memref.read_access_unit_zero (Elt Ideal) main_v3 (show (fun a => (win0_3.index t0_0) a * main_v3.ty.shape.size a) = fun _ => 0 from
    funext fun a => by fin_cases a <;> decide) (fun a => by fin_cases a <;> decide) _
/-- The tweaked norm's bias as the reference's body reads it. -/
theorem iblk4 : iblk m c 4 t0_0 = V m c main_v4 :=
  Memref.read_access_unit_zero (Elt Ideal) main_v4 (show (fun a => (win0_4.index t0_0) a * main_v4.ty.shape.size a) = fun _ => 0 from
    funext fun a => by fin_cases a <;> decide) (fun a => by fin_cases a <;> decide) _
/-- The float weight as the reference's body reads it. -/
theorem iblk5 : iblk m c 5 t0_0 = V m c main_arg5 :=
  Memref.read_access_unit_zero (Elt Ideal) main_arg5 (show (fun a => (win0_5.index t0_0) a * main_arg5.ty.shape.size a) = fun _ => 0 from
    funext fun a => by fin_cases a <;> decide) (fun a => by fin_cases a <;> decide) _
/-- The packed weight as the reference's body reads it. -/
theorem iblk6 : iblk m c 6 t0_0 = V m c main_arg6 :=
  Memref.read_access_unit_zero (Elt Ideal) main_arg6 (show (fun a => (win0_6.index t0_0) a * main_arg6.ty.shape.size a) = fun _ => 0 from
    funext fun a => by fin_cases a <;> decide) (fun a => by fin_cases a <;> decide) _
/-- The weight's scales as the reference's body reads them. -/
theorem iblk7 : iblk m c 7 t0_0 = V m c main_arg7 :=
  Memref.read_access_unit_zero (Elt Ideal) main_arg7 (show (fun a => (win0_7.index t0_0) a * main_arg7.ty.shape.size a) = fun _ => 0 from
    funext fun a => by fin_cases a <;> decide) (fun a => by fin_cases a <;> decide) _

/-! ## The one block of a result is the whole of it -/

/-- The array of result 0 ends as the body leaves its block. -/
theorem left8 (G : Vec Ideal S1x2816 .f32) (h : (dats m 0 c).after 8 t0_0 = G) : (dats m 0 c).arrAt 8 cfg0.N = G := by
  refine (dats m 0 c).arrAt_eq_of_after_last 8 t0_0 (by decide +kernel) G fun j => ?_
  rw [h, cast_eq]
  exact congrArg G (funext fun a => Fin.ext rfl)
/-- The array of result 1 ends as the body leaves its block. -/
theorem left9 (G : Vec Ideal S1x1024 .f32) (h : (dats m 0 c).after 9 t0_0 = G) : (dats m 0 c).arrAt 9 cfg0.N = G := by
  refine (dats m 0 c).arrAt_eq_of_after_last 9 t0_0 (by decide +kernel) G fun j => ?_
  rw [h, cast_eq]
  exact congrArg G (funext fun a => Fin.ext rfl)
/-- The array of result 2 ends as the body leaves its block. -/
theorem left10 (G : Vec Ideal S1x1024 .f32) (h : (dats m 0 c).after 10 t0_0 = G) : (dats m 0 c).arrAt 10 cfg0.N = G := by
  refine (dats m 0 c).arrAt_eq_of_after_last 10 t0_0 (by decide +kernel) G fun j => ?_
  rw [h, cast_eq]
  exact congrArg G (funext fun a => Fin.ext rfl)
/-- The array of result 3 ends as the body leaves its block. -/
theorem left11 (G : Vec Ideal S1536x1024 .f32) (h : (dats m 0 c).after 11 t0_0 = G) : (dats m 0 c).arrAt 11 cfg0.N = G := by
  refine (dats m 0 c).arrAt_eq_of_after_last 11 t0_0 (by decide +kernel) G fun j => ?_
  rw [h, cast_eq]
  exact congrArg G (funext fun a => Fin.ext rfl)
/-- The array of result 4 ends as the body leaves its block. -/
theorem left12 (G : Vec Ideal S1536x1024 .i8) (h : (dats m 0 c).after 12 t0_0 = G) : (dats m 0 c).arrAt 12 cfg0.N = G := by
  refine (dats m 0 c).arrAt_eq_of_after_last 12 t0_0 (by decide +kernel) G fun j => ?_
  rw [h, cast_eq]
  exact congrArg G (funext fun a => Fin.ext rfl)
/-- The array of result 5 ends as the body leaves its block. -/
theorem left13 (G : Vec Ideal S4x384 .f32) (h : (dats m 0 c).after 13 t0_0 = G) : (dats m 0 c).arrAt 13 cfg0.N = G := by
  refine (dats m 0 c).arrAt_eq_of_after_last 13 t0_0 (by decide +kernel) G fun j => ?_
  rw [h, cast_eq]
  exact congrArg G (funext fun a => Fin.ext rfl)

/-- The arguments as the reference is entered with them. -/
def refIn : In := inOf (V m c main_v0) (V m c main_v1) (V m c main_v2) (V m c main_v3) (V m c main_v4) (V m c main_arg5) (V m c main_arg6) (V m c main_arg7)

/-! ## The results -/

/-- The divergence as the reference leaves it. -/
theorem final8 : (dats m 0 c).arrAt 8 cfg0.N = fun i => (refIn m c).klS (i 1) :=
  left8 m c _ (by
    rw [after0_8, iblk0, iblk1, iblk2, iblk3, iblk4, iblk5, iblk6, iblk7]
    funext i
    obtain ⟨r, l, rfl⟩ : ∃ (r : Fin 1) (l : Fin 2816), i = ix2 r l := ⟨i 0, i 1, eq_ix2 i⟩
    exact out8_at _ _ _ _ _ _ _ _ r l)
/-- The derivative by the norm's weight as the reference leaves it. -/
theorem final9 : (dats m 0 c).arrAt 9 cfg0.N = fun i => (refIn m c).dg (i 1) :=
  left9 m c _ (by
    rw [after0_9, iblk0, iblk1, iblk2, iblk3, iblk4, iblk5, iblk6, iblk7]
    funext i
    obtain ⟨r, l, rfl⟩ : ∃ (r : Fin 1) (l : Fin 1024), i = ix2 r l := ⟨i 0, i 1, eq_ix2 i⟩
    exact out9_at _ _ _ _ _ _ _ _ r l)
/-- The derivative by the norm's bias as the reference leaves it. -/
theorem final10 : (dats m 0 c).arrAt 10 cfg0.N = fun i => (refIn m c).db (i 1) :=
  left10 m c _ (by
    rw [after0_10, iblk0, iblk1, iblk2, iblk3, iblk4, iblk5, iblk6, iblk7]
    funext i
    obtain ⟨r, l, rfl⟩ : ∃ (r : Fin 1) (l : Fin 1024), i = ix2 r l := ⟨i 0, i 1, eq_ix2 i⟩
    exact out10_at _ _ _ _ _ _ _ _ r l)
/-- The token derivative as the reference leaves it. -/
theorem final11 : (dats m 0 c).arrAt 11 cfg0.N = fun i => (refIn m c).dh (i 0) (i 1) :=
  left11 m c _ (by
    rw [after0_11, iblk0, iblk1, iblk2, iblk3, iblk4, iblk5, iblk6, iblk7]
    funext i
    obtain ⟨r, l, rfl⟩ : ∃ (r : Fin 1536) (l : Fin 1024), i = ix2 r l := ⟨i 0, i 1, eq_ix2 i⟩
    exact out11_at _ _ _ _ _ _ _ _ r l)
/-- The codes as the reference leaves them. -/
theorem final12 : (dats m 0 c).arrAt 12 cfg0.N = fun i => (refIn m c).code (i 0) (i 1) :=
  left12 m c _ (by
    rw [after0_12, iblk0, iblk1, iblk2, iblk3, iblk4, iblk5, iblk6, iblk7]
    funext i
    obtain ⟨r, l, rfl⟩ : ∃ (r : Fin 1536) (l : Fin 1024), i = ix2 r l := ⟨i 0, i 1, eq_ix2 i⟩
    exact out12_at _ _ _ _ _ _ _ _ r l)
/-- The scales as the reference leaves them. -/
theorem final13 : (dats m 0 c).arrAt 13 cfg0.N
    = fun i => (fun (p : Fin 4) (q : Fin 384) => (refIn m c).s ⟨(p : ℕ) * 384 + q, by omega⟩) (i 0) (i 1) :=
  left13 m c _ (by
    rw [after0_13, iblk0, iblk1, iblk2, iblk3, iblk4, iblk5, iblk6, iblk7]
    funext i
    obtain ⟨r, l, rfl⟩ : ∃ (r : Fin 4) (l : Fin 384), i = ix2 r l := ⟨i 0, i 1, eq_ix2 i⟩
    exact out13_at _ _ _ _ _ _ _ _ r l)

variable (ρ : Dev nD → PrngReg)

/-- The reference's run: its results are the mathematics. -/
theorem run : θ_run defs (onTc (τ := τ) (main (F := Ideal))) ⟨m, fun _ => 0, ρ⟩ (fun r => ∀ c : Dev nD,
    r.2.mem ((c.tc : Thread nD τ).loc main_v5_0) = (fun i => (refIn m c).klS (i 1))
    ∧ r.2.mem ((c.tc : Thread nD τ).loc main_v5_1) = (fun i => (refIn m c).dg (i 1))
    ∧ r.2.mem ((c.tc : Thread nD τ).loc main_v5_2) = (fun i => (refIn m c).db (i 1))
    ∧ r.2.mem ((c.tc : Thread nD τ).loc main_v5_3) = (fun i => (refIn m c).dh (i 0) (i 1))
    ∧ r.2.mem ((c.tc : Thread nD τ).loc main_v5_4) = (fun i => (refIn m c).code (i 0) (i 1))
    ∧ r.2.mem ((c.tc : Thread nD τ).loc main_v5_5)
      = (fun i => (fun (p : Fin 4) (q : Fin 384) => (refIn m c).s ⟨(p : ℕ) * 384 + q, by omega⟩) (i 0) (i 1))) :=
  Idealize.ShloMosaic.θ_run_mono (run_main m ρ) fun r h c =>
    ⟨((h c).1 8).trans (final8 m c), ((h c).1 9).trans (final9 m c), ((h c).1 10).trans (final10 m c), ((h c).1 11).trans (final11 m c),
      ((h c).1 12).trans (final12 m c), ((h c).1 13).trans (final13 m c)⟩

end Cert.ReferenceIdeal.Value

end
-- ==== Proof.Equal.lean ====
/-
  Hand-written, untrusted. The kernel's results are the reference's: both are the mathematics of the same arguments.
-/
module

public import proofs.«01_k».proof.Defs
public import proofs.«01_k».proof.Proof.Target
public import proofs.«01_k».proof.Proof.Tail
public import proofs.«01_k».proof.Proof.RefEnd
public import proofs.«01_k».proof.Proof.Run
public import Idealize.ShloMosaic.Lib.ReduceAll
public import Idealize.ShloMosaic.Lib.Claim

@[expose] public section

set_option maxRecDepth 16384

noncomputable section

/-! ## What the precondition says -/

namespace Cert.Pre_finite

open Idealize.ShloMosaic Cert.Spec

/-- The shape relations that the precondition states. -/
theorem facts : Facts where
  h_S_ := by decide
  bcast_S_S1024 := by decide
  reducesTo_S1024_S_d0 := by decide
  bcast_S_S1024x2816 := by decide
  reducesTo_S1024x2816_S_d0_1 := by decide

/-- A value below infinity in magnitude is a real number. -/
theorem fi_of_lt {x : EReal} (h : Ideal.cmp .olt (max x (-x)) ⊤ = 1#1) : Fi x := by
  unfold Ideal.cmp at h
  have h' : max x (-x) < ⊤ := by
    by_contra hn
    simp [hn] at h
  rw [max_lt_iff] at h'
  have hb : x ≠ ⊥ := fun e => by rw [e] at h'; simp at h'
  exact ⟨x.toReal, (EReal.coe_toReal h'.1.ne hb).symm⟩

/-- The binary32 infinity is the infinity. -/
theorem top_f32 : Ideal.ofBits .f32 0x7F800000#32 = ⊤ := by simp [Ideal.ofBits, Ideal.ieee]
/-- The bfloat16 infinity is the infinity. -/
theorem top_bf16 : Ideal.ofBits .bf16 0x7F80#16 = ⊤ := by simp [Ideal.ofBits, Ideal.ieee]

section Read
variable [Facts]
open Facts

instance : Subsingleton S_.Idx := ⟨fun _ _ => funext fun a => a.elim0⟩

/-- A conjunct of the precondition on a binary32 array: its elements are real numbers. -/
theorem fi_f32 {s : Shape} {axes : List (Fin s.rank)} (x : FVec Ideal s .f32) (hb : S_.BroadcastsInDim s (![] : Fin 0 → Fin s.rank)) (h : s.ReducesTo axes S_) (hu : 0 < S_.numel)
    (j : S_.Idx) (e : Host.reduce IntOp.andi (cmpf .olt (Host.absf x) (broadcastInDim s ![] hb (constant S_ .f32 0x7F800000#32))) (constantI S_ 1 1#1) h hu j = 1#1)
    (i : s.Idx) : Fi (x i) := by
  have h1 := Host.reduce_andi_all _ _ h hu j e i
  refine fi_of_lt ?_
  rw [← top_f32]
  exact h1

/-- A conjunct of the precondition on a bfloat16 array: its elements are real numbers. -/
theorem fi_bf16 {s : Shape} {axes : List (Fin s.rank)} (x : FVec Ideal s .bf16) (hb : S_.BroadcastsInDim s (![] : Fin 0 → Fin s.rank)) (h : s.ReducesTo axes S_) (hu : 0 < S_.numel)
    (j : S_.Idx) (e : Host.reduce IntOp.andi (cmpf .olt (Host.absf x) (broadcastInDim s ![] hb (constant S_ .bf16 0x7F80#16))) (constantI S_ 1 1#1) h hu j = 1#1)
    (i : s.Idx) : Fi (x i) := by
  have h1 := Host.reduce_andi_all _ _ h hu j e i
  refine fi_of_lt ?_
  rw [← top_bf16]
  exact h1

/-- The precondition: the reference norm's scale and shift and the reference weights are real numbers. -/
theorem fi_of_fn (a0 : FVec Ideal S4x384x1024 .bf16) (a1 a2 a3 a4 : FVec Ideal S1024 .f32) (a5 : FVec Ideal S1024x2816 .bf16) (a6 : IVec S512x2816 8) (a7 : FVec Ideal S8x2816 .f32)
    (h : fn (F := Ideal) a0 a1 a2 a3 a4 a5 a6 a7 = fun _ => 1#1) : (∀ i, Fi (a1 i)) ∧ (∀ i, Fi (a3 i)) ∧ ∀ i, Fi (a5 i) := by
  have h0 := congrFun h (fun a => a.elim0)
  obtain ⟨h1, e5⟩ := IntOp.andi_eq_one.1 h0
  obtain ⟨e1, e3⟩ := IntOp.andi_eq_one.1 h1
  exact ⟨fi_f32 a1 _ _ _ _ e1, fi_f32 a3 _ _ _ _ e3, fi_bf16 a5 _ _ _ _ e5⟩

end Read

end Cert.Pre_finite

/-! ## The arguments of the two programs -/

namespace Cert.Value

open Idealize.ShloMosaic Cert.Spec Cert.Pre_finite

/-- All tokens in one list are as many elements. -/
theorem tokens_cast : S4x384x1024.numel = (⟨2, ![1536, 1024]⟩ : Shape).numel := by decide
/-- A vector as a row is as many elements. -/
theorem row_cast : S1024.numel = (⟨2, ![1, 1024]⟩ : Shape).numel := by decide

variable (a0 : FVec Ideal S4x384x1024 .bf16) (a1 a2 a3 a4 : FVec Ideal S1024 .f32) (a5 : FVec Ideal S1024x2816 .bf16) (a6 : IVec S512x2816 8) (a7 : FVec Ideal S8x2816 .f32)

/-- The arguments, the tokens of all batches in one list. -/
def flatIn : In := Cert.ReferenceIdeal.Value.inOf (shapeCast ⟨2, ![1536, 1024]⟩ a0 tokens_cast) (shapeCast ⟨2, ![1, 1024]⟩ a1 row_cast) (shapeCast ⟨2, ![1, 1024]⟩ a2 row_cast)
  (shapeCast ⟨2, ![1, 1024]⟩ a3 row_cast) (shapeCast ⟨2, ![1, 1024]⟩ a4 row_cast) a5 a6 a7

/-- Under the precondition the arguments that matter are real numbers. -/
theorem flatIn_finite [Facts] (h : fn (F := Ideal) a0 a1 a2 a3 a4 a5 a6 a7 = fun _ => 1#1) : (flatIn a0 a1 a2 a3 a4 a5 a6 a7).Finite := by
  obtain ⟨h1, h3, h5⟩ := fi_of_fn a0 a1 a2 a3 a4 a5 a6 a7 h
  exact ⟨fun _ => h1 _, fun _ => h3 _, fun _ _ => h5 _⟩

end Cert.Value

/-! ## What the kernel leaves -/

namespace Cert.KernelIdeal.Tweak

open Idealize.ShloMosaic Idealize.ShloMosaic.TcCoe Cert.Spec Cert.KernelIdeal
open Cert.Machine

variable (m : (ℓ : Loc nD τ sig) → Buf (Elt Ideal) ℓ) (c : Dev nD)

/-- The arguments as the kernel is entered with them. -/
def kerIn : In := argsOf (c := c) (Gen.V m c)

variable {m c}

/-- The memory of the entry holds the arguments. -/
theorem argsOf_init {σ : S Ideal c} (h : Init m c σ) : argsOf σ.mem = kerIn m c := by
  have e (b : Ref sig .tc) (hb : b ∈ R0) := h.2 b hb
  unfold kerIn argsOf vl
  rw [e a0H.view.ref (Pipeline.mem_restRefs_of main_v0 (by decide) (by decide)), e a1H.view.ref (Pipeline.mem_restRefs_of main_v1 (by decide) (by decide)),
    e a2H.view.ref (Pipeline.mem_restRefs_of main_v2 (by decide) (by decide)), e a3H.view.ref (Pipeline.mem_restRefs_of main_v3 (by decide) (by decide)),
    e a4H.view.ref (Pipeline.mem_restRefs_of main_v4 (by decide) (by decide)), e a5H.view.ref (Pipeline.mem_restRefs_of main_arg5 (by decide) (by decide)),
    e a6H.view.ref (Pipeline.mem_restRefs_of main_arg6 (by decide) (by decide)), e a7H.view.ref (Pipeline.mem_restRefs_of main_arg7 (by decide) (by decide))]

/-- A whole buffer read is the buffer. -/
theorem vl_whole (f : Mm c) (b : Ref sig .tc) (i) : vl f (Memref.whole b) i = f b i := rfl

section Results
variable {σ : S Ideal c} (h : Init m c σ) (hF : (kerIn m c).Finite)
include h hF

/-- Each transfer's destination holds at the end what it shall. -/
theorem end_dst (k : Fin 26) (i) : vl (endS σ).mem (X k).dst i = vl (tgt (kerIn m c) σ.mem) (X k).dst i := by
  have e := argsOf_init h
  have hT := tgt_ok σ.mem
  rw [e] at hT
  exact end_ok hT hF (tgt_src (kerIn m c) σ.mem) k i

/-- The divergence as the kernel leaves it. -/
theorem end_o0 : (endS σ).mem main_v5_0 = arr fun _ o => (kerIn m c).klS o := funext fun i => (end_dst h hF 20 i).trans (tg_o0 _ _ i)
/-- The derivative by the norm's weight as the kernel leaves it. -/
theorem end_o1 : (endS σ).mem main_v5_1 = arr fun _ o => (kerIn m c).dg o := funext fun i => (end_dst h hF 24 i).trans (tg_o1 _ _ i)
/-- The derivative by the norm's bias as the kernel leaves it. -/
theorem end_o2 : (endS σ).mem main_v5_2 = arr fun _ o => (kerIn m c).db o := funext fun i => (end_dst h hF 25 i).trans (tg_o2 _ _ i)
/-- The codes as the kernel leaves them. -/
theorem end_o4 : (endS σ).mem main_v5_4 = arr fun r l => (kerIn m c).code r l := funext fun i => (end_dst h hF 18 i).trans (tg_o4 _ _ i)
/-- The scales as the kernel leaves them. -/
theorem end_o5 : (endS σ).mem main_v5_5 = arr fun (p : Fin 4) (q : Fin 384) => (kerIn m c).s ⟨(p : ℕ) * 384 + q, by omega⟩ :=
  funext fun i => (end_dst h hF 19 i).trans (tg_o5 _ _ i)

/-- The third of the rows that a transfer of the token derivative carries. -/
theorem end_third (m' : Fin 3) (i : (⟨2, ![512, 1024]⟩ : Shape).Idx) :
    vl (endS σ).mem (o3H.slice (aT m') (fun _ => rfl)) i = vl (tgt (kerIn m c) σ.mem) (o3H.slice (aT m') (fun _ => rfl)) i := by
  match m' with
  | 0 => exact end_dst h hF 21 i
  | 1 => exact end_dst h hF 22 i
  | 2 => exact end_dst h hF 23 i

/-- The token derivative as the kernel leaves it. -/
theorem end_o3 : (endS σ).mem main_v5_3 = arr fun r l => (kerIn m c).dh r l := by
  funext i
  obtain ⟨r, l, rfl⟩ : ∃ (r : Fin 1536) (l : Fin 1024), i = ix2 r l := ⟨i 0, i 1, eq_ix2 i⟩
  let q : Fin 3 := ⟨(r : ℕ) / 512, by omega⟩
  let j : Fin 512 := ⟨(r : ℕ) % 512, by omega⟩
  have e : (aT q).emb (ix2 j l) = ix2 r l := by
    rw [box_emb]
    exact congrArg₂ ix2 (Fin.ext (by show 512 * ((r : ℕ) / 512) + (r : ℕ) % 512 = r; omega)) (Fin.ext (Nat.zero_add _))
  have h1 := (vl_slice (endS σ).mem o3H (aT q) (fun _ => rfl) (ix2 j l)).symm.trans
    ((end_third h hF q (ix2 j l)).trans (vl_slice (tgt (kerIn m c) σ.mem) o3H (aT q) (fun _ => rfl) (ix2 j l)))
  rw [e] at h1
  exact h1.trans (tg_o3 _ _ _)

end Results

variable (m c)

/-- The kernel's arguments are the program's. -/
theorem kerIn_eq : kerIn m c = Cert.Value.flatIn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) := by
  have e : kerIn m c = Cert.ReferenceIdeal.Value.inOf (Gen.V m c main_v0) (Gen.V m c main_v1) (Gen.V m c main_v2) (Gen.V m c main_v3) (Gen.V m c main_v4)
    (Gen.V m c main_arg5) (Gen.V m c main_arg6) (Gen.V m c main_arg7) := rfl
  rw [e]
  entry_read
  rfl

variable (ρ : Dev nD → PrngReg)

/-- The kernel's run: its results are the mathematics. -/
theorem results (hF : ∀ c : Dev nD, (kerIn m c).Finite) : θ_run defs (onTc (τ := τ) (main (F := Ideal))) ⟨m, fun _ => 0, ρ⟩ (fun r => ∀ c : Dev nD,
    r.2.mem ((c.tc : Thread nD τ).loc main_v5_0) = (fun i => (kerIn m c).klS (i 1))
    ∧ r.2.mem ((c.tc : Thread nD τ).loc main_v5_1) = (fun i => (kerIn m c).dg (i 1))
    ∧ r.2.mem ((c.tc : Thread nD τ).loc main_v5_2) = (fun i => (kerIn m c).db (i 1))
    ∧ r.2.mem ((c.tc : Thread nD τ).loc main_v5_3) = (fun i => (kerIn m c).dh (i 0) (i 1))
    ∧ r.2.mem ((c.tc : Thread nD τ).loc main_v5_4) = (fun i => (kerIn m c).code (i 0) (i 1))
    ∧ r.2.mem ((c.tc : Thread nD τ).loc main_v5_5)
      = (fun i => (fun (p : Fin 4) (q : Fin 384) => (kerIn m c).s ⟨(p : ℕ) * 384 + q, by omega⟩) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  Idealize.ShloMosaic.θ_run_mono (run_main m ρ) fun r hr c => by
    have ha := args_kept m (hr.1 c)
    obtain ⟨σ, hi, he⟩ := hr.1 c
    have hf := hF c
    have e (b : Ref sig .tc) (hb : b ∈ R0) := he b hb
    exact ⟨(e main_v5_0 (Pipeline.mem_restRefs_of _ (by decide) (by decide))).trans (end_o0 hi hf),
      (e main_v5_1 (Pipeline.mem_restRefs_of _ (by decide) (by decide))).trans (end_o1 hi hf),
      (e main_v5_2 (Pipeline.mem_restRefs_of _ (by decide) (by decide))).trans (end_o2 hi hf),
      (e main_v5_3 (Pipeline.mem_restRefs_of _ (by decide) (by decide))).trans (end_o3 hi hf),
      (e main_v5_4 (Pipeline.mem_restRefs_of _ (by decide) (by decide))).trans (end_o4 hi hf),
      (e main_v5_5 (Pipeline.mem_restRefs_of _ (by decide) (by decide))).trans (end_o5 hi hf), ha⟩

end Cert.KernelIdeal.Tweak

/-! ## What the reference leaves -/

namespace Cert.ReferenceIdeal.Value

open Idealize.ShloMosaic Idealize.ShloMosaic.TcCoe Cert.Spec
open Cert.ReferenceIdeal Cert.ReferenceIdeal.Gen

variable (m : (ℓ : Loc nD τ sig) → Buf (Elt Ideal) ℓ) (c : Dev nD)

/-- The reference's arguments are the program's. -/
theorem refIn_eq : refIn m c = Cert.Value.flatIn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) := by
  unfold refIn
  entry_read
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.Bits.Run
public import proofs.«01_k».proof.Proof.Gen.ReferenceIdeal.Frame
public import proofs.«01_k».proof.Proof.Equal
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- On machine floats every execution terminates, the arguments end as they were and the semaphores at zero. -/
theorem frame_P : Cert.quiescent_Kernel := fun m g _ =>
  Idealize.ShloMosaic.θ_run_mono (Cert.Kernel.Tweak.run_main m g) (fun _ h => ⟨fun c => Cert.Kernel.Tweak.args_kept m (h.1 c), h.2⟩)

/-- The same on the idealised values. -/
theorem frame_PI : Cert.quiescent_KernelIdeal := fun m g _ =>
  Idealize.ShloMosaic.θ_run_mono (Cert.KernelIdeal.Tweak.run_main m g) (fun _ h => ⟨fun c => Cert.KernelIdeal.Tweak.args_kept m (h.1 c), h.2⟩)

/-- The reference terminates too, its arguments end as they were and the semaphores at zero. -/
theorem frame_RI : Cert.quiescent_ReferenceIdeal := fun m g _ => Cert.ReferenceIdeal.Gen.frame m g

/-- The one constant that is idealised by name is the rounding of `1 / 1536`. -/
theorem preserves : Cert.preserves_Kernel_KernelIdeal :=
  IdealRules.named_const.statement Cert.KernelIdeal.κ "inv_tok" .f32 0x3A2AAAAB#32 ((1 / 1536 : ℝ) : EReal) rfl

/-- The kernel and the reference compute the same six results. -/
theorem algebraic : Cert.algebraic_KernelIdeal_ReferenceIdeal_pre_finite (hPre_finite := Cert.Pre_finite.facts) := by
  intro m g m' g' hpre hargs
  have hF : ∀ c, (Cert.KernelIdeal.Tweak.kerIn m c).Finite := fun c => by
    rw [Cert.KernelIdeal.Tweak.kerIn_eq]
    exact @Cert.Value.flatIn_finite _ _ _ _ _ _ _ _ Cert.Pre_finite.facts (hpre c)
  have he : ∀ c, Cert.ReferenceIdeal.Value.refIn m' c = Cert.KernelIdeal.Tweak.kerIn m c := fun c => by
    obtain ⟨h0, h1, h2, h3, h4, h5, h6, h7⟩ := hargs c
    rw [Cert.KernelIdeal.Tweak.kerIn_eq, Cert.ReferenceIdeal.Value.refIn_eq, h0, h1, h2, h3, h4, h5, h6, h7]
  refine ⟨_, _, _, _, _, _, Cert.KernelIdeal.Tweak.results m g hF, ?_⟩
  refine Idealize.ShloMosaic.θ_run_mono (Idealize.ShloMosaic.θ_run_and (Cert.ReferenceIdeal.Value.run m' g') (Cert.ReferenceIdeal.Gen.unchanged m' g')) fun r h c => ?_
  obtain ⟨r0, r1, r2, r3, r4, r5⟩ := h.1 c
  rw [he c] at r0 r1 r2 r3 r4 r5
  exact ⟨r0, r1, r2, r3, r4, r5, h.2 c⟩

/-- The certificate's claim. -/
theorem claim : Cert.Claim := ⟨Cert.Kernel.Gen.facts, Cert.KernelIdeal.Gen.facts, Cert.ReferenceIdeal.Gen.facts, Cert.Pre_finite.facts, frame_P, frame_PI,
  fun m g _ => frame_PI m g trivial, frame_RI, fun m g _ => frame_RI m g trivial, preserves, algebraic⟩

end Cert.Proof

end
